-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "scale_log2_e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)) (v2 : (c : Dev Cert.KernelIdeal.nD) → Buf (Elt Ideal) ((c.tc : Thread Cert.KernelIdeal.nD Cert.KernelIdeal.τ).loc Cert.KernelIdeal.main_v36_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_v36_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_v4) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_v43) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v60) = v0 c
          ∧ r.2.mem ((c.tc : Thread Cert.Reference8Ideal.nD Cert.Reference8Ideal.τ).loc Cert.Reference8Ideal.main_v61) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v53) = v0 c
          ∧ r.2.mem ((c.tc : Thread Cert.Reference9Ideal.nD Cert.Reference9Ideal.τ).loc Cert.Reference9Ideal.main_v54) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v18) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S4x8192x128 : Shape := ⟨3, ![4, 8192, 128]⟩
abbrev S8192x512 : Shape := ⟨2, ![8192, 512]⟩
abbrev S_ : Shape := ⟨0, ![]⟩

class Facts : Prop where
  shapeCasts_S8192x512_S4x8192x128 : S8192x512.ShapeCasts S4x8192x128
  bitsLt_bf16_f32 : FTy.bits .bf16 < FTy.bits .f32
  bcast_S_S4x8192x128 : S_.BroadcastsInDim S4x8192x128 (![] : Fin 0 → Fin S4x8192x128.rank)

variable [Facts]

def fn {F : FTy → Type} [FloatOps F] (main_arg0 : FVec F S4x8192x128 .bf16) (main_arg1 : FVec F S4x8192x128 .bf16) (main_arg2 : FVec F S4x8192x128 .bf16) (main_arg3 : FVec F S8192x512 .bf16) : IVec S4x8192x128 1 :=
  let main_v0 : FVec F S4x8192x128 .bf16 := shapeCast S4x8192x128 main_arg3 shapeCasts_S8192x512_S4x8192x128
  let main_v1 : FVec F S4x8192x128 .f32 := (extf .f32 · bitsLt_bf16_f32) main_arg0
  let main_v2 : FVec F S4x8192x128 .f32 := Host.absf main_v1
  let main_cst : FVec F S_ .f32 := constant S_ .f32 0x7F800000#32
  let main_v3 : FVec F S4x8192x128 .f32 := broadcastInDim S4x8192x128 ![] bcast_S_S4x8192x128 main_cst
  let main_v4 : IVec S4x8192x128 1 := cmpf .olt main_v2 main_v3
  let main_v5 : FVec F S4x8192x128 .f32 := (extf .f32 · bitsLt_bf16_f32) main_arg1
  let main_v6 : FVec F S4x8192x128 .f32 := Host.absf main_v5
  let main_cst_0 : FVec F S_ .f32 := constant S_ .f32 0x7F800000#32
  let main_v7 : FVec F S4x8192x128 .f32 := broadcastInDim S4x8192x128 ![] bcast_S_S4x8192x128 main_cst_0
  let main_v8 : IVec S4x8192x128 1 := cmpf .olt main_v6 main_v7
  let main_v9 : FVec F S4x8192x128 .f32 := (extf .f32 · bitsLt_bf16_f32) main_arg2
  let main_v10 : FVec F S4x8192x128 .f32 := Host.absf main_v9
  let main_cst_1 : FVec F S_ .f32 := constant S_ .f32 0x7F800000#32
  let main_v11 : FVec F S4x8192x128 .f32 := broadcastInDim S4x8192x128 ![] bcast_S_S4x8192x128 main_cst_1
  let main_v12 : IVec S4x8192x128 1 := cmpf .olt main_v10 main_v11
  let main_v13 : FVec F S4x8192x128 .f32 := (extf .f32 · bitsLt_bf16_f32) main_v0
  let main_v14 : FVec F S4x8192x128 .f32 := Host.absf main_v13
  let main_cst_2 : FVec F S_ .f32 := constant S_ .f32 0x7F800000#32
  let main_v15 : FVec F S4x8192x128 .f32 := broadcastInDim S4x8192x128 ![] bcast_S_S4x8192x128 main_cst_2
  let main_v16 : IVec S4x8192x128 1 := cmpf .olt main_v14 main_v15
  let main_v17 : IVec S4x8192x128 1 := andi main_v4 main_v8
  let main_v18 : IVec S4x8192x128 1 := andi main_v17 main_v12
  let main_v19 : IVec S4x8192x128 1 := andi main_v18 main_v16
  main_v19
-- ==== Kernel.lean ====
abbrev S4x8192x128 : Shape := ⟨3, ![4, 8192, 128]⟩
abbrev S8192x512 : Shape := ⟨2, ![8192, 512]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x4x128 : Shape := ⟨3, ![8192, 4, 128]⟩
abbrev S4x8x1x1024 : Shape := ⟨4, ![4, 8, 1, 1024]⟩
abbrev S2x8x1x1024 : Shape := ⟨4, ![2, 8, 1, 1024]⟩
abbrev S2x8192x128 : Shape := ⟨3, ![2, 8192, 128]⟩
abbrev S8192x256 : Shape := ⟨2, ![8192, 256]⟩
abbrev S2x1024x128 : Shape := ⟨3, ![2, 1024, 128]⟩
abbrev S1024x128 : Shape := ⟨2, ![1024, 128]⟩
abbrev S1x1024x128 : Shape := ⟨3, ![1, 1024, 128]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 52
  | .vmem => 15
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S8192x512, .bf16⟩
  | .hbm, ⟨4, _⟩ => ⟨S4x8192x128, .f32⟩
  | .hbm, ⟨5, _⟩ => ⟨S4x8192x128, .f32⟩
  | .hbm, ⟨6, _⟩ => ⟨S4x8192x128, .f32⟩
  | .hbm, ⟨7, _⟩ => ⟨S8192x512, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S4x8192x8192, .i1⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x8192, .f32⟩
  | .hbm, ⟨27, _⟩ => ⟨S4x8192x8192, .f32⟩
  | .hbm, ⟨28, _⟩ => ⟨S4x8192x8192, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x8192, .f32⟩
  | .hbm, ⟨33, _⟩ => ⟨S4x8192x8192, .f32⟩
  | .hbm, ⟨34, _⟩ => ⟨S4x8192x128, .f32⟩
  | .hbm, ⟨35, _⟩ => ⟨S8192x4x128, .f32⟩
  | .hbm, ⟨36, _⟩ => ⟨S4x8192x128, .f32⟩
  | .hbm, ⟨37, _⟩ => ⟨S4x8192x128, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S_, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8x1x1024, .f32⟩
  | .hbm, ⟨48, _⟩ => ⟨S4x8x1x1024, .f32⟩
  | .hbm, ⟨49, _⟩ => ⟨S4x8192x128, .f32⟩
  | .hbm, ⟨50, _⟩ => ⟨S4x8192x128, .f32⟩
  | .hbm, ⟨51, _⟩ => ⟨S4x8192x128, .f32⟩
  | .local _ .vmem, ⟨0, _⟩ => ⟨S2x8x1x1024, .f32⟩
  | .local _ .vmem, ⟨1, _⟩ => ⟨S2x8x1x1024, .f32⟩
  | .local _ .vmem, ⟨2, _⟩ => ⟨S2x8192x128, .bf16⟩
  | .local _ .vmem, ⟨3, _⟩ => ⟨S8192x256, .bf16⟩
  | .local _ .vmem, ⟨4, _⟩ => ⟨S2x8x1x1024, .f32⟩
  | .local _ .vmem, ⟨5, _⟩ => ⟨S2x8x1x1024, .f32⟩
  | .local _ .vmem, ⟨6, _⟩ => ⟨S2x1024x128, .bf16⟩
  | .local _ .vmem, ⟨7, _⟩ => ⟨S2x1024x128, .bf16⟩
  | .local _ .vmem, ⟨8, _⟩ => ⟨S2x1024x128, .bf16⟩
  | .local _ .vmem, ⟨9, _⟩ => ⟨S2x1024x128, .bf16⟩
  | .local _ .vmem, ⟨10, _⟩ => ⟨S2x8192x128, .f32⟩
  | .local _ .vmem, ⟨11, _⟩ => ⟨S2x1024x128, .f32⟩
  | .local _ .vmem, ⟨12, _⟩ => ⟨S2x1024x128, .f32⟩
  | .local _ .vmem, ⟨13, _⟩ => ⟨S2x1024x128, .f32⟩
  | .local _ .vmem, ⟨14, _⟩ => ⟨S2x1024x128, .f32⟩
  | _, _ => ⟨S4x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36_0 : Ref sig .tc := ⟨.hbm, 49, rfl⟩
abbrev main_v36_1 : Ref sig .tc := ⟨.hbm, 50, rfl⟩
abbrev main_v36_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 3 → Nat :=
  let c0 : Index := 0#32
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_1 : Index := 0#32
  ![0, v7.toNat, 0]
def k0_off2 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v10 : Index := Scalar.indexCast v6
  let c0_2 : Index := 0#32
  ![v10.toNat, 0]
def k0_off3 (i : grid0.Coords) : Fin 4 → Nat :=
  let c0_9 : Index := 0#32
  let arg1 : BitVec 32 := BitVec.ofNat 32 (i 1).val
  let v22 : Index := Scalar.indexCast arg1
  let c0_10 : Index := 0#32
  let c0_11 : Index := 0#32
  ![0, v22.toNat, 0, 0]
def k0_off4 (i : grid0.Coords) : Fin 3 → Nat :=
  let c1 : Index := 1#32
  let arg1 : BitVec 32 := BitVec.ofNat 32 (i 1).val
  let c1024_i32 : BitVec 32 := 1024#32
  let v5 : BitVec 32 := Scalar.muli arg1 c1024_i32
  let v6 : BitVec 32 := v5
  let v57 : Index := Scalar.indexCast v6
  let c0_30 : Index := 0#32
  ![1, v57.toNat, 0]
def k0_off5 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v60 : Index := Scalar.indexCast v6
  let c128 : Index := 128#32
  ![v60.toNat, 128]
def k0_off6 (i : grid0.Coords) : Fin 4 → Nat :=
  let c1_37 : Index := 1#32
  let arg1 : BitVec 32 := BitVec.ofNat 32 (i 1).val
  let v72 : Index := Scalar.indexCast arg1
  let c0_38 : Index := 0#32
  let c0_39 : Index := 0#32
  ![1, v72.toNat, 0, 0]
@[reducible] def k0_t1_loop (i : grid0.Coords) : Scf.Loop 32 :=
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_59 : BitVec 32 := 1#32
  ⟨v4, v111, c1_i32_59⟩
def k0_mult2 (i : grid0.Coords) (k0_t1 : Fin (k0_t1_loop i).trips) : BitVec 32 :=
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let c1024_i32_75 : BitVec 32 := 1024#32
  let v130 : BitVec 32 := Scalar.muli arg11 c1024_i32_75
  v130
def k0_off7 (i : grid0.Coords) (k0_t1 : Fin (k0_t1_loop i).trips) : Fin 3 → Nat :=
  let c0_76 : Index := 0#32
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let c1024_i32_75 : BitVec 32 := 1024#32
  let v130 : BitVec 32 := Scalar.muli arg11 c1024_i32_75
  let v131 : BitVec 32 := v130
  let v132 : Index := Scalar.indexCast v131
  let c0_77 : Index := 0#32
  ![0, v132.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let c1024_i32_75 : BitVec 32 := 1024#32
  let v130 : BitVec 32 := Scalar.muli arg11 c1024_i32_75
  let v131 : BitVec 32 := v130
  let v135 : Index := Scalar.indexCast v131
  let c0_78 : Index := 0#32
  ![v135.toNat, 0]
def k0_off9 (i : grid0.Coords) (k0_t1 : Fin (k0_t1_loop i).trips) : Fin 4 → Nat :=
  let c0_84 : Index := 0#32
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let v142 : Index := Scalar.indexCast arg11
  let c0_85 : Index := 0#32
  let c0_86 : Index := 0#32
  ![0, v142.toNat, 0, 0]
def k0_off10 (i : grid0.Coords) (k0_t1 : Fin (k0_t1_loop i).trips) : Fin 3 → Nat :=
  let c1_105 : Index := 1#32
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let c1024_i32_75 : BitVec 32 := 1024#32
  let v130 : BitVec 32 := Scalar.muli arg11 c1024_i32_75
  let v131 : BitVec 32 := v130
  let v177 : Index := Scalar.indexCast v131
  let c0_106 : Index := 0#32
  ![1, v177.toNat, 0]
def k0_off11 (i : grid0.Coords) (k0_t1 : Fin (k0_t1_loop i).trips) : Fin 2 → Nat :=
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let c1024_i32_75 : BitVec 32 := 1024#32
  let v130 : BitVec 32 := Scalar.muli arg11 c1024_i32_75
  let v131 : BitVec 32 := v130
  let v180 : Index := Scalar.indexCast v131
  let c128_107 : Index := 128#32
  ![v180.toNat, 128]
def k0_off12 (i : grid0.Coords) (k0_t1 : Fin (k0_t1_loop i).trips) : Fin 4 → Nat :=
  let c1_113 : Index := 1#32
  let arg1 : BitVec 32 := BitVec.ofNat 32 (i 1).val
  let c1_i32 : BitVec 32 := 1#32
  let v4 : BitVec 32 := Scalar.addi arg1 c1_i32
  let c1_i32_59 : BitVec 32 := 1#32
  let arg11 : BitVec 32 := Scf.iv v4 c1_i32_59 k0_t1
  let v187 : Index := Scalar.indexCast arg11
  let c0_114 : Index := 0#32
  let c0_115 : Index := 0#32
  ![1, v187.toNat, 0, 0]
@[reducible] def k0_t2_loop (i : grid0.Coords) : Scf.Loop 32 :=
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let v108 : BitVec 32 := Scalar.addi v4 v107
  let c1_i32_60 : BitVec 32 := 1#32
  ⟨v111, v108, c1_i32_60⟩
def k0_mult3 (i : grid0.Coords) (k0_t2 : Fin (k0_t2_loop i).trips) : BitVec 32 :=
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let c1024_i32_75 : BitVec 32 := 1024#32
  let v130 : BitVec 32 := Scalar.muli arg11 c1024_i32_75
  v130
def k0_off13 (i : grid0.Coords) (k0_t2 : Fin (k0_t2_loop i).trips) : Fin 3 → Nat :=
  let c0_76 : Index := 0#32
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let c1024_i32_75 : BitVec 32 := 1024#32
  let v130 : BitVec 32 := Scalar.muli arg11 c1024_i32_75
  let v131 : BitVec 32 := v130
  let v132 : Index := Scalar.indexCast v131
  let c0_77 : Index := 0#32
  ![0, v132.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let c1024_i32_75 : BitVec 32 := 1024#32
  let v130 : BitVec 32 := Scalar.muli arg11 c1024_i32_75
  let v131 : BitVec 32 := v130
  let v135 : Index := Scalar.indexCast v131
  let c0_78 : Index := 0#32
  ![v135.toNat, 0]
def k0_off15 (i : grid0.Coords) (k0_t2 : Fin (k0_t2_loop i).trips) : Fin 4 → Nat :=
  let c0_84 : Index := 0#32
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let v142 : Index := Scalar.indexCast arg11
  let c0_85 : Index := 0#32
  let c0_86 : Index := 0#32
  ![0, v142.toNat, 0, 0]
def k0_off16 (i : grid0.Coords) (k0_t2 : Fin (k0_t2_loop i).trips) : Fin 3 → Nat :=
  let c1_105 : Index := 1#32
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let c1024_i32_75 : BitVec 32 := 1024#32
  let v130 : BitVec 32 := Scalar.muli arg11 c1024_i32_75
  let v131 : BitVec 32 := v130
  let v177 : Index := Scalar.indexCast v131
  let c0_106 : Index := 0#32
  ![1, v177.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let c1024_i32_75 : BitVec 32 := 1024#32
  let v130 : BitVec 32 := Scalar.muli arg11 c1024_i32_75
  let v131 : BitVec 32 := v130
  let v180 : Index := Scalar.indexCast v131
  let c128_107 : Index := 128#32
  ![v180.toNat, 128]
def k0_off18 (i : grid0.Coords) (k0_t2 : Fin (k0_t2_loop i).trips) : Fin 4 → Nat :=
  let c1_113 : Index := 1#32
  let arg1 : BitVec 32 := BitVec.ofNat 32 (i 1).val
  let c1_i32 : BitVec 32 := 1#32
  let v4 : BitVec 32 := Scalar.addi arg1 c1_i32
  let c8_i32 : BitVec 32 := 8#32
  let v107 : BitVec 32 := Scalar.subi c8_i32 v4
  let c1_i32_58 : BitVec 32 := 1#32
  let v109 : BitVec 32 := Scalar.divsi v107 c1_i32_58
  let v110 : BitVec 32 := Scalar.muli v109 c1_i32_58
  let v111 : BitVec 32 := Scalar.addi v4 v110
  let c1_i32_60 : BitVec 32 := 1#32
  let arg11 : BitVec 32 := Scf.iv v111 c1_i32_60 k0_t2
  let v187 : Index := Scalar.indexCast arg11
  let c0_114 : Index := 0#32
  let c0_115 : Index := 0#32
  ![1, v187.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S2x8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "scale_log2_e" => some (((3424635 / 33554432) * (Real.log 2)⁻¹ : ℝ) : EReal)
  | _ => none
-- ==== ReferenceIdeal.lean ====
abbrev S4x8192x128 : Shape := ⟨3, ![4, 8192, 128]⟩
abbrev S8192x512 : Shape := ⟨2, ![8192, 512]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x4x128 : Shape := ⟨3, ![8192, 4, 128]⟩

abbrev nBuf : Space → Nat
  | .hbm => 93
  | .vmem => 0
  | .smem => 0
  | _ => 0

abbrev bufTy : (tb : Table) → Fin (tcTables nBuf tb) → BufTy
  | .hbm, ⟨0, _⟩ => ⟨S4x8192x128, .bf16⟩
  | .hbm, ⟨1, _⟩ => ⟨S4x8192x128, .bf16⟩
  | .hbm, ⟨2, _⟩ => ⟨S4x8192x128, .bf16⟩
  | .hbm, ⟨3, _⟩ => ⟨S8192x512, .bf16⟩
  | .hbm, ⟨4, _⟩ => ⟨S4x8192x128, .f32⟩
  | .hbm, ⟨5, _⟩ => ⟨S4x8192x128, .f32⟩
  | .hbm, ⟨6, _⟩ => ⟨S4x8192x128, .f32⟩
  | .hbm, ⟨7, _⟩ => ⟨S8192x512, .f32⟩
  | .hbm, ⟨8, _⟩ => ⟨S4x8192x8192, .f32⟩
  | .hbm, ⟨9, _⟩ => ⟨S_, .f32⟩
  | .hbm, ⟨10, _⟩ => ⟨S4x8192x8192, .f32⟩
  | .hbm, ⟨11, _⟩ => ⟨S4x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S4x8192x8192, .i1⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x8192, .f32⟩
  | .hbm, ⟨29, _⟩ => ⟨S4x8192x8192, .i1⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S4x8192, .i1⟩
  | .hbm, ⟨42, _⟩ => ⟨S_, .f32⟩
  | .hbm, ⟨43, _⟩ => ⟨S4x8192, .f32⟩
  | .hbm, ⟨44, _⟩ => ⟨S_, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .f32⟩
  | .hbm, ⟨49, _⟩ => ⟨S4x8192, .f32⟩
  | .hbm, ⟨50, _⟩ => ⟨S4x8192x1, .f32⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S4x8192x8192, .f32⟩
  | .hbm, ⟨58, _⟩ => ⟨S4x8192x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x128x8192, .f32⟩
  | .hbm, ⟨64, _⟩ => ⟨S8192x4x128, .f32⟩
  | .hbm, ⟨65, _⟩ => ⟨S8192x512, .f32⟩
  | .hbm, ⟨66, _⟩ => ⟨S8192x4x128, .f32⟩
  | .hbm, ⟨67, _⟩ => ⟨S4x128x8192, .f32⟩
  | .hbm, ⟨68, _⟩ => ⟨S4x8192x8192, .f32⟩
  | .hbm, ⟨69, _⟩ => ⟨S4x128x8192, .f32⟩
  | .hbm, ⟨70, _⟩ => ⟨S4x8192x128, .f32⟩
  | .hbm, ⟨71, _⟩ => ⟨S4x8192x8192, .f32⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S4x8192x1, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192, .f32⟩
  | .hbm, ⟨82, _⟩ => ⟨S4x8192x8192, .f32⟩
  | .hbm, ⟨83, _⟩ => ⟨S4x8192x8192, .f32⟩
  | .hbm, ⟨84, _⟩ => ⟨S4x8192x8192, .f32⟩
  | .hbm, ⟨85, _⟩ => ⟨S_, .f32⟩
  | .hbm, ⟨86, _⟩ => ⟨S4x8192x8192, .f32⟩
  | .hbm, ⟨87, _⟩ => ⟨S4x8192x8192, .f32⟩
  | .hbm, ⟨88, _⟩ => ⟨S_, .f32⟩
  | .hbm, ⟨89, _⟩ => ⟨S4x8192x8192, .f32⟩
  | .hbm, ⟨90, _⟩ => ⟨S4x8192x8192, .f32⟩
  | .hbm, ⟨91, _⟩ => ⟨S4x8192x128, .f32⟩
  | .hbm, ⟨92, _⟩ => ⟨S4x8192x128, .f32⟩
  | _, _ => ⟨S4x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call1_cst : Ref sig .tc := ⟨.hbm, 85, rfl⟩
abbrev main_call1_v0 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]
-- ==== Kernel2.lean ====
abbrev S8192x4096 : Shape := ⟨2, ![8192, 4096]⟩
abbrev S8192x1024 : Shape := ⟨2, ![8192, 1024]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .bf16⟩
  | .hbm, ⟨3, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .f32⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference3Ideal.lean ====
abbrev S8192x1024 : Shape := ⟨2, ![8192, 1024]⟩
abbrev S1x1024 : Shape := ⟨2, ![1, 1024]⟩
abbrev S8192x4096 : Shape := ⟨2, ![8192, 4096]⟩
abbrev S1024 : Shape := ⟨1, ![1024]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x4096, .bf16⟩
  | .hbm, ⟨3, _⟩ => ⟨S1024, .f32⟩
  | .hbm, ⟨4, _⟩ => ⟨S8192x4096, .f32⟩
  | .hbm, ⟨5, _⟩ => ⟨S_, .f32⟩
  | .hbm, ⟨6, _⟩ => ⟨S1024x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x4096, .f32⟩
  | .hbm, ⟨24, _⟩ => ⟨S4096x1024, .f32⟩
  | .hbm, ⟨25, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x6272 : Shape := ⟨2, ![1024, 6272]⟩
abbrev S8192x6272 : Shape := ⟨2, ![8192, 6272]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6272, .bf16⟩
  | .hbm, ⟨3, _⟩ => ⟨S8192x6272, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6272, .bf16⟩
  | .local _ .vmem, ⟨4, _⟩ => ⟨S1024x6272, .bf16⟩
  | .local _ .vmem, ⟨5, _⟩ => ⟨S1024x6272, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x6272 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8192x1024 : Shape := ⟨2, ![8192, 1024]⟩
abbrev S1x1024 : Shape := ⟨2, ![1, 1024]⟩
abbrev S1024x6272 : Shape := ⟨2, ![1024, 6272]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x6272 : Shape := ⟨2, ![8192, 6272]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x6272, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x6272, .f32⟩
  | .hbm, ⟨21, _⟩ => ⟨S8192x6272, .f32⟩
  | .hbm, ⟨22, _⟩ => ⟨S8192x6272, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel5.lean ====
abbrev S8192x1024 : Shape := ⟨2, ![8192, 1024]⟩
abbrev S1x1024 : Shape := ⟨2, ![1, 1024]⟩
abbrev S1024x4096 : Shape := ⟨2, ![1024, 4096]⟩
abbrev S8192x4096 : Shape := ⟨2, ![8192, 4096]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x1024 : Shape := ⟨2, ![8192, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x4096, .f32⟩
  | .hbm, ⟨21, _⟩ => ⟨S8192x4096, .f32⟩
  | .hbm, ⟨22, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S4096x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel7.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S4096x1024, .f32⟩
  | .hbm, ⟨27, _⟩ => ⟨S1024x4096, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Kernel8.lean ====
abbrev S8192x4096 : Shape := ⟨2, ![8192, 4096]⟩
abbrev S8192x768 : Shape := ⟨2, ![8192, 768]⟩
abbrev S8192x640 : Shape := ⟨2, ![8192, 640]⟩
abbrev S4096x1024 : Shape := ⟨2, ![4096, 1024]⟩
abbrev S768x1024 : Shape := ⟨2, ![768, 1024]⟩
abbrev S640x1024 : Shape := ⟨2, ![640, 1024]⟩
abbrev S8192x1024 : Shape := ⟨2, ![8192, 1024]⟩
abbrev S1x1024 : Shape := ⟨2, ![1, 1024]⟩
abbrev S512x4096 : Shape := ⟨2, ![512, 4096]⟩
abbrev S512x768 : Shape := ⟨2, ![512, 768]⟩
abbrev S512x640 : Shape := ⟨2, ![512, 640]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S8192x768, .bf16⟩
  | .hbm, ⟨2, _⟩ => ⟨S8192x768, .bf16⟩
  | .hbm, ⟨3, _⟩ => ⟨S8192x640, .bf16⟩
  | .hbm, ⟨4, _⟩ => ⟨S4096x1024, .bf16⟩
  | .hbm, ⟨5, _⟩ => ⟨S768x1024, .bf16⟩
  | .hbm, ⟨6, _⟩ => ⟨S768x1024, .bf16⟩
  | .hbm, ⟨7, _⟩ => ⟨S640x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x640, .bf16⟩
  | .local _ .vmem, ⟨7, _⟩ => ⟨S512x640, .bf16⟩
  | .local _ .vmem, ⟨8, _⟩ => ⟨S4096x1024, .bf16⟩
  | .local _ .vmem, ⟨9, _⟩ => ⟨S768x1024, .bf16⟩
  | .local _ .vmem, ⟨10, _⟩ => ⟨S768x1024, .bf16⟩
  | .local _ .vmem, ⟨11, _⟩ => ⟨S640x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference8Ideal.lean ====
abbrev S8192x4096 : Shape := ⟨2, ![8192, 4096]⟩
abbrev S8192x768 : Shape := ⟨2, ![8192, 768]⟩
abbrev S8192x640 : Shape := ⟨2, ![8192, 640]⟩
abbrev S4096x1024 : Shape := ⟨2, ![4096, 1024]⟩
abbrev S768x1024 : Shape := ⟨2, ![768, 1024]⟩
abbrev S640x1024 : Shape := ⟨2, ![640, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S1024x768 : Shape := ⟨2, ![1024, 768]⟩
abbrev S1024x640 : Shape := ⟨2, ![1024, 640]⟩

abbrev nBuf : Space → Nat
  | .hbm => 82
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x768, .bf16⟩
  | .hbm, ⟨2, _⟩ => ⟨S8192x768, .bf16⟩
  | .hbm, ⟨3, _⟩ => ⟨S8192x640, .bf16⟩
  | .hbm, ⟨4, _⟩ => ⟨S4096x1024, .bf16⟩
  | .hbm, ⟨5, _⟩ => ⟨S768x1024, .bf16⟩
  | .hbm, ⟨6, _⟩ => ⟨S768x1024, .bf16⟩
  | .hbm, ⟨7, _⟩ => ⟨S640x1024, .bf16⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S4096x1024, .f32⟩
  | .hbm, ⟨33, _⟩ => ⟨S1024x4096, .f32⟩
  | .hbm, ⟨34, _⟩ => ⟨S8192x4096, .f32⟩
  | .hbm, ⟨35, _⟩ => ⟨S768x1024, .f32⟩
  | .hbm, ⟨36, _⟩ => ⟨S1024x768, .f32⟩
  | .hbm, ⟨37, _⟩ => ⟨S8192x768, .f32⟩
  | .hbm, ⟨38, _⟩ => ⟨S768x1024, .f32⟩
  | .hbm, ⟨39, _⟩ => ⟨S1024x768, .f32⟩
  | .hbm, ⟨40, _⟩ => ⟨S8192x768, .f32⟩
  | .hbm, ⟨41, _⟩ => ⟨S640x1024, .f32⟩
  | .hbm, ⟨42, _⟩ => ⟨S1024x640, .f32⟩
  | .hbm, ⟨43, _⟩ => ⟨S8192x640, .f32⟩
  | .hbm, ⟨44, _⟩ => ⟨S8192x4096, .f32⟩
  | .hbm, ⟨45, _⟩ => ⟨S8192x768, .f32⟩
  | .hbm, ⟨46, _⟩ => ⟨S8192x768, .f32⟩
  | .hbm, ⟨47, _⟩ => ⟨S8192x640, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_4 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Kernel9.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x4096, .bf16⟩
  | .hbm, ⟨4, _⟩ => ⟨S1024x4096, .bf16⟩
  | .hbm, ⟨5, _⟩ => ⟨S8192x1024, .bf16⟩
  | .hbm, ⟨6, _⟩ => ⟨S8192x4096, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S8192x1024 : Shape := ⟨2, ![8192, 1024]⟩
abbrev S1x1024 : Shape := ⟨2, ![1, 1024]⟩
abbrev S8192x4096 : Shape := ⟨2, ![8192, 4096]⟩
abbrev S1024x4096 : Shape := ⟨2, ![1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S4096x1024 : Shape := ⟨2, ![4096, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S8192x4096, .bf16⟩
  | .hbm, ⟨4, _⟩ => ⟨S1024x4096, .bf16⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x4096, .f32⟩
  | .hbm, ⟨53, _⟩ => ⟨S_, .f32⟩
  | .hbm, ⟨54, _⟩ => ⟨S8192x4096, .f32⟩
  | .hbm, ⟨55, _⟩ => ⟨S8192x4096, .f32⟩
  | .hbm, ⟨56, _⟩ => ⟨S_, .f32⟩
  | .hbm, ⟨57, _⟩ => ⟨S8192x4096, .f32⟩
  | .hbm, ⟨58, _⟩ => ⟨S8192x4096, .i1⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S8192x4096, .f32⟩
  | .hbm, ⟨64, _⟩ => ⟨S8192x4096, .f32⟩
  | .hbm, ⟨65, _⟩ => ⟨S1024x4096, .f32⟩
  | .hbm, ⟨66, _⟩ => ⟨S4096x1024, .f32⟩
  | .hbm, ⟨67, _⟩ => ⟨S8192x1024, .f32⟩
  | .hbm, ⟨68, _⟩ => ⟨S8192x4096, .f32⟩
  | .hbm, ⟨69, _⟩ => ⟨S8192x4096, .f32⟩
  | .hbm, ⟨70, _⟩ => ⟨S_, .f32⟩
  | .hbm, ⟨71, _⟩ => ⟨S8192x4096, .f32⟩
  | .hbm, ⟨72, _⟩ => ⟨S8192x4096, .f32⟩
  | .hbm, ⟨73, _⟩ => ⟨S8192x1024, .bf16⟩
  | .hbm, ⟨74, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_call0_cst : Ref sig .tc := ⟨.hbm, 53, rfl⟩
abbrev main_call0_v0 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel10.lean ====
abbrev S8192x1024 : Shape := ⟨2, ![8192, 1024]⟩
abbrev S1x1024 : Shape := ⟨2, ![1, 1024]⟩
abbrev S8192x768 : Shape := ⟨2, ![8192, 768]⟩
abbrev S1024x768 : Shape := ⟨2, ![1024, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x768, .bf16⟩
  | .hbm, ⟨3, _⟩ => ⟨S1024x768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x768, .bf16⟩
  | .local _ .vmem, ⟨4, _⟩ => ⟨S512x768, .bf16⟩
  | .local _ .vmem, ⟨5, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference10Ideal.lean ====
abbrev S8192x1024 : Shape := ⟨2, ![8192, 1024]⟩
abbrev S1x1024 : Shape := ⟨2, ![1, 1024]⟩
abbrev S8192x768 : Shape := ⟨2, ![8192, 768]⟩
abbrev S_ : Shape := ⟨0, ![]⟩
abbrev S1024x768 : Shape := ⟨2, ![1024, 768]⟩
abbrev S1024 : Shape := ⟨1, ![1024]⟩
abbrev S8192 : Shape := ⟨1, ![8192]⟩
abbrev S8192x1 : Shape := ⟨2, ![8192, 1]⟩
abbrev S768x1024 : Shape := ⟨2, ![768, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x768, .bf16⟩
  | .hbm, ⟨3, _⟩ => ⟨S_, .f32⟩
  | .hbm, ⟨4, _⟩ => ⟨S1024x768, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x768, .f32⟩
  | .hbm, ⟨23, _⟩ => ⟨S8192x768, .f32⟩
  | .hbm, ⟨24, _⟩ => ⟨S768x1024, .f32⟩
  | .hbm, ⟨25, _⟩ => ⟨S1024x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel11.lean ====
abbrev S8192x1024 : Shape := ⟨2, ![8192, 1024]⟩
abbrev S1x1024 : Shape := ⟨2, ![1, 1024]⟩
abbrev S8192x640 : Shape := ⟨2, ![8192, 640]⟩
abbrev S1024x640 : Shape := ⟨2, ![1024, 640]⟩
abbrev S512x1024 : Shape := ⟨2, ![512, 1024]⟩
abbrev S512x640 : Shape := ⟨2, ![512, 640]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x640, .bf16⟩
  | .hbm, ⟨3, _⟩ => ⟨S1024x640, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x640, .bf16⟩
  | .local _ .vmem, ⟨4, _⟩ => ⟨S512x640, .bf16⟩
  | .local _ .vmem, ⟨5, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== Reference11Ideal.lean ====
abbrev S8192x1024 : Shape := ⟨2, ![8192, 1024]⟩
abbrev S1x1024 : Shape := ⟨2, ![1, 1024]⟩
abbrev S8192x640 : Shape := ⟨2, ![8192, 640]⟩
abbrev S_ : Shape := ⟨0, ![]⟩
abbrev S1024x640 : Shape := ⟨2, ![1024, 640]⟩
abbrev S1024 : Shape := ⟨1, ![1024]⟩
abbrev S8192 : Shape := ⟨1, ![8192]⟩
abbrev S8192x1 : Shape := ⟨2, ![8192, 1]⟩
abbrev S640x1024 : Shape := ⟨2, ![640, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x640, .bf16⟩
  | .hbm, ⟨3, _⟩ => ⟨S_, .f32⟩
  | .hbm, ⟨4, _⟩ => ⟨S1024x640, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x640, .f32⟩
  | .hbm, ⟨23, _⟩ => ⟨S8192x640, .f32⟩
  | .hbm, ⟨24, _⟩ => ⟨S640x1024, .f32⟩
  | .hbm, ⟨25, _⟩ => ⟨S1024x640, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The resource algebra of the run. -/
local notation "𝕄" => MT nD τ sig Unit (Elt F) ℕ (UR sig nD τ) ℕ

/-- The body's one branch is taken at this grid point: its key tile is the first. -/
abbrev FirstTile (i : grid0.Coords) : Prop := (Scalar.cmpi .ne (Scalar.extui (Scalar.cmpi .eq (BitVec.ofNat 32 (i 1).val) 0#32)) 0#32) = 1#1

set_option maxHeartbeats 1000000 in
/-- The body's run on the first key tile of a pair of heads: on whole buffers holding `x0 … x8` it ends with the six
    inputs unchanged and the three outputs at the contents the run finds. -/
def runFirst (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i)
    (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) :
    Σ' (o6 : Vec F S2x8192x128 .f32) (o7 : Vec F S2x1024x128 .f32), { o8 : Vec F S2x1024x128 .f32 // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare o8) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?run⟩
  case run =>
    intro E K
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [H7]
    · iexists _; isplitr; swap; · iexact H7
      ipureintro; rfl
    iexists _; isplitr; swap; · iexact H8
    ipureintro; rfl

set_option maxHeartbeats 1000000 in
/-- The body's run on a later key tile, where the gradient of `q` is added to what the block already holds. -/
def runLater (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i)
    (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) :
    Σ' (o6 : Vec F S2x8192x128 .f32) (o7 : Vec F S2x1024x128 .f32), { o8 : Vec F S2x1024x128 .f32 // ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
          ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o6 ∗ owns (c : Thread nD τ) arg9 fullShare o7 ∗ owns (c : Thread nD τ) arg10 fullShare o8) -∗ K ⟨⟩))
        ⊢ wp frame (wpE (defs₀ (F := F)) Variants.none c none) E (cc0_attn_bwd i arg2 harg2 arg3 harg3 arg4 harg4 arg5 harg5 arg6 harg6 arg7 harg7 arg8 harg8 arg9 harg9 arg10 harg10) K } := by
  refine ⟨?_, ?_, ?_, ?run⟩
  case run =>
    intro E K
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; rfl
    isplitl [H7]
    · iexists _; isplitr; swap; · iexact H7
      ipureintro; rfl
    iexists _; isplitr; swap; · iexact H8
    ipureintro; rfl

end Cert.KernelIdeal.Body
end
-- ==== Proof.Outputs.lean ====
/- What the body's run leaves in its three output blocks, as the stores that were made. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Body
public import Idealize.ShloMosaic.Lib.VecWindow
public import Idealize.ShloMosaic.Lib.HeldBySlice

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

/-- The stores of a later tile's diagonal step into the block of the queries' gradient, last first. -/
def laterDiag (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) : List (View.Piece (Elt F) S2x8192x128 .f32) :=
  ⟨Rect.unit (s := S2x8192x128) (k0_off4 i) S1x1024x128.size (Facts₀.k0_off4_inb i), k0_pay48 (runLater.sl.r_6 c i arg4 harg4 x2) (runLater.sl.r_7 c i arg3 harg3 arg6 harg6 x1 x4) (arg2.view.readAt (Elt F) (Rect.unit (s := S2x8x1x1024) (k0_off6 i) S1x1x1x1024.size (Facts₀.k0_off6_inb i)).toLoadRect (harg2.unread x0)) (arg7.view.readAt (Elt F) (Rect.unit (s := S2x1024x128) ![1, 0, 0] S1x1024x128.size inb_S2x1024x128_S1x1024x128_1_0_0).toLoadRect (harg7.unread x5)) (arg5.view.readAt (Elt F) (Rect.unit (s := S2x8x1x1024) (k0_off6 i) S1x1x1x1024.size (Facts₀.k0_off6_inb i)).toLoadRect (harg5.unread x3)) (runLater.sl.v94 c i arg8 harg8 x6) (arg6.view.readAt (Elt F) (Rect.unit (s := S2x1024x128) ![1, 0, 0] S1x1024x128.size inb_S2x1024x128_S1x1024x128_1_0_0).toLoadRect (harg6.unread x4))⟩ :: [⟨Rect.unit (s := S2x8192x128) (k0_off1 i) S1x1024x128.size (Facts₀.k0_off1_inb i), k0_pay41 (runLater.sl.r_1 c i arg2 harg2 arg3 harg3 arg6 harg6 x0 x1 x4) (runLater.sl.r_3 c i arg4 harg4 arg7 harg7 x2 x5) (arg5.view.readAt (Elt F) (Rect.unit (s := S2x8x1x1024) (k0_off3 i) S1x1x1x1024.size (Facts₀.k0_off3_inb i)).toLoadRect (harg5.unread x3)) (arg8.view.readAt (Elt F) (Rect.unit (s := S2x8192x128) (k0_off1 i) S1x1024x128.size (Facts₀.k0_off1_inb i)).toLoadRect (harg8.unread x6)) (arg6.view.readAt (Elt F) (Rect.unit (s := S2x1024x128) ![0, 0, 0] S1x1024x128.size inb_S2x1024x128_S1x1024x128_0_0_0).toLoadRect (harg6.unread x4))⟩]

/-- What the loop carries when it starts, on a later tile. -/
def laterInit (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) : FVec F S1024x128 .f32 × FVec F S1024x128 .f32 × FVec F S1024x128 .f32 × FVec F S1024x128 .f32 :=
  (runLater.sl.r_4 c i arg2 harg2 arg3 harg3 arg4 harg4 arg5 harg5 arg6 harg6 arg7 harg7 x0 x1 x2 x3 x4 x5, runLater.sl.r_2 c i arg2 harg2 arg3 harg3 arg4 harg4 arg6 harg6 x0 x1 x2 x4, runLater.sl.r_9 c i arg2 harg2 arg3 harg3 arg4 harg4 arg5 harg5 arg6 harg6 arg7 harg7 x0 x1 x2 x3 x4 x5, runLater.sl.r_8 c i arg2 harg2 arg3 harg3 arg4 harg4 arg6 harg6 x0 x1 x2 x4)

/-- The state after the loop over the later queries, on a later tile. -/
def laterLoop (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) : (FVec F S1024x128 .f32 × FVec F S1024x128 .f32 × FVec F S1024x128 .f32 × FVec F S1024x128 .f32) × List (View.Piece (Elt F) S2x8192x128 .f32) :=
  st_k0_t1 (F := F) Variants.none c none i arg2 harg2 arg3 harg3 arg4 harg4 arg5 harg5 arg6 harg6 arg7 harg7 arg8 harg8 arg9 harg9 arg10 harg10 (runLater.sl.v4 i) (harg2.unread x0) (harg3.unread x1) (harg4.unread x2) (harg5.unread x3) (harg6.unread x4) (harg7.unread x5) (arg8.view.writes (Elt F) (harg8.unread x6) (laterDiag c i arg2 harg2 arg3 harg3 arg4 harg4 arg5 harg5 arg6 harg6 arg7 harg7 arg8 harg8 arg9 harg9 arg10 harg10 x0 x1 x2 x3 x4 x5 x6)) (laterInit c i arg2 harg2 arg3 harg3 arg4 harg4 arg5 harg5 arg6 harg6 arg7 harg7 arg8 harg8 arg9 harg9 arg10 harg10 x0 x1 x2 x3 x4 x5) (k0_t1_loop i).trips

/-- The state after the remainder loop, on a later tile. -/
def laterRest (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) : (FVec F S1024x128 .f32 × FVec F S1024x128 .f32 × FVec F S1024x128 .f32 × FVec F S1024x128 .f32) × List (View.Piece (Elt F) S2x8192x128 .f32) :=
  st_k0_t2 (F := F) Variants.none c none i arg2 harg2 arg3 harg3 arg4 harg4 arg5 harg5 arg6 harg6 arg7 harg7 arg8 harg8 arg9 harg9 arg10 harg10 (Scalar.addi (runLater.sl.v4 i) (Scalar.muli (Scalar.divsi (runLater.sl.v107 i) 1#32) 1#32)) (harg2.unread x0) (harg3.unread x1) (harg4.unread x2) (harg5.unread x3) (harg6.unread x4) (harg7.unread x5) (arg8.view.writes (Elt F) (harg8.unread x6) ((laterLoop c i arg2 harg2 arg3 harg3 arg4 harg4 arg5 harg5 arg6 harg6 arg7 harg7 arg8 harg8 arg9 harg9 arg10 harg10 x0 x1 x2 x3 x4 x5 x6).2 ++ laterDiag c i arg2 harg2 arg3 harg3 arg4 harg4 arg5 harg5 arg6 harg6 arg7 harg7 arg8 harg8 arg9 harg9 arg10 harg10 x0 x1 x2 x3 x4 x5 x6)) (laterLoop c i arg2 harg2 arg3 harg3 arg4 harg4 arg5 harg5 arg6 harg6 arg7 harg7 arg8 harg8 arg9 harg9 arg10 harg10 x0 x1 x2 x3 x4 x5 x6).1 (k0_t2_loop i).trips

set_option maxHeartbeats 1000000 in
/-- What the run on a later tile leaves in the block of the queries' gradient. -/
theorem later_out6 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : ¬FirstTile i) :
    (runLater (F := F) c i arg2 harg2 arg3 harg3 arg4 harg4 arg5 harg5 arg6 harg6 arg7 harg7 arg8 harg8 arg9 harg9 arg10 harg10 hc0 x0 x1 x2 x3 x4 x5 x6 x7 x8).1 = arg8.view.read (Elt F) (arg8.view.writes (Elt F) (harg8.unread x6) ((laterRest c i arg2 harg2 arg3 harg3 arg4 harg4 arg5 harg5 arg6 harg6 arg7 harg7 arg8 harg8 arg9 harg9 arg10 harg10 x0 x1 x2 x3 x4 x5 x6).2 ++ ((laterLoop c i arg2 harg2 arg3 harg3 arg4 harg4 arg5 harg5 arg6 harg6 arg7 harg7 arg8 harg8 arg9 harg9 arg10 harg10 x0 x1 x2 x3 x4 x5 x6).2 ++ laterDiag c i arg2 harg2 arg3 harg3 arg4 harg4 arg5 harg5 arg6 harg6 arg7 harg7 arg8 harg8 arg9 harg9 arg10 harg10 x0 x1 x2 x3 x4 x5 x6))) := by
  unfold runLater laterRest laterLoop laterInit laterDiag; rfl

set_option maxHeartbeats 1000000 in
/-- What the run on a later tile leaves in the block of the keys' gradient. -/
theorem later_out7 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : ¬FirstTile i) :
    (runLater (F := F) c i arg2 harg2 arg3 harg3 arg4 harg4 arg5 harg5 arg6 harg6 arg7 harg7 arg8 harg8 arg9 harg9 arg10 harg10 hc0 x0 x1 x2 x3 x4 x5 x6 x7 x8).2.1 = arg9.view.read (Elt F) (arg9.view.writes (Elt F) (harg9.unread x7)
      [⟨Rect.unit (s := S2x1024x128) ![1, 0, 0] S1x1024x128.size inb_S2x1024x128_S1x1024x128_1_0_0, k0_pay9 (laterRest c i arg2 harg2 arg3 harg3 arg4 harg4 arg5 harg5 arg6 harg6 arg7 harg7 arg8 harg8 arg9 harg9 arg10 harg10 x0 x1 x2 x3 x4 x5 x6).1.2.2.1⟩, ⟨Rect.unit (s := S2x1024x128) ![0, 0, 0] S1x1024x128.size inb_S2x1024x128_S1x1024x128_0_0_0, k0_pay7 (laterRest c i arg2 harg2 arg3 harg3 arg4 harg4 arg5 harg5 arg6 harg6 arg7 harg7 arg8 harg8 arg9 harg9 arg10 harg10 x0 x1 x2 x3 x4 x5 x6).1.1⟩]) := by
  unfold runLater laterRest laterLoop laterInit laterDiag; rfl

set_option maxHeartbeats 1000000 in
/-- What the run on a later tile leaves in the block of the values' gradient. -/
theorem later_out8 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : ¬FirstTile i) :
    (runLater (F := F) c i arg2 harg2 arg3 harg3 arg4 harg4 arg5 harg5 arg6 harg6 arg7 harg7 arg8 harg8 arg9 harg9 arg10 harg10 hc0 x0 x1 x2 x3 x4 x5 x6 x7 x8).2.2.1 = arg10.view.read (Elt F) (arg10.view.writes (Elt F) (harg10.unread x8)
      [⟨Rect.unit (s := S2x1024x128) ![1, 0, 0] S1x1024x128.size inb_S2x1024x128_S1x1024x128_1_0_0, k0_pay10 (laterRest c i arg2 harg2 arg3 harg3 arg4 harg4 arg5 harg5 arg6 harg6 arg7 harg7 arg8 harg8 arg9 harg9 arg10 harg10 x0 x1 x2 x3 x4 x5 x6).1.2.2.2⟩, ⟨Rect.unit (s := S2x1024x128) ![0, 0, 0] S1x1024x128.size inb_S2x1024x128_S1x1024x128_0_0_0, k0_pay8 (laterRest c i arg2 harg2 arg3 harg3 arg4 harg4 arg5 harg5 arg6 harg6 arg7 harg7 arg8 harg8 arg9 harg9 arg10 harg10 x0 x1 x2 x3 x4 x5 x6).1.2.1⟩]) := by
  unfold runLater laterRest laterLoop laterInit laterDiag; rfl

/-- The stores of a first tile's diagonal step into the block of the queries' gradient, last first. -/
def firstDiag (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) : List (View.Piece (Elt F) S2x8192x128 .f32) :=
  ⟨Rect.unit (s := S2x8192x128) (k0_off4 i) S1x1024x128.size (Facts₀.k0_off4_inb i), k0_pay48 (runFirst.sl.r_6 c i arg4 harg4 x2) (runFirst.sl.r_7 c i arg3 harg3 arg6 harg6 x1 x4) (arg2.view.readAt (Elt F) (Rect.unit (s := S2x8x1x1024) (k0_off6 i) S1x1x1x1024.size (Facts₀.k0_off6_inb i)).toLoadRect (harg2.unread x0)) (arg7.view.readAt (Elt F) (Rect.unit (s := S2x1024x128) ![1, 0, 0] S1x1024x128.size inb_S2x1024x128_S1x1024x128_1_0_0).toLoadRect (harg7.unread x5)) (arg5.view.readAt (Elt F) (Rect.unit (s := S2x8x1x1024) (k0_off6 i) S1x1x1x1024.size (Facts₀.k0_off6_inb i)).toLoadRect (harg5.unread x3)) (runFirst.sl.v94 c i arg2 harg2 arg3 harg3 arg4 harg4 arg5 harg5 arg6 harg6 arg7 harg7 arg8 x0 x1 x2 x3 x4 x5) (arg6.view.readAt (Elt F) (Rect.unit (s := S2x1024x128) ![1, 0, 0] S1x1024x128.size inb_S2x1024x128_S1x1024x128_1_0_0).toLoadRect (harg6.unread x4))⟩ :: runFirst.sl.H6_2 c i arg2 harg2 arg3 harg3 arg4 harg4 arg5 harg5 arg6 harg6 arg7 harg7 arg8 x0 x1 x2 x3 x4 x5

/-- What the loop carries when it starts, on a first tile. -/
def firstInit (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) : FVec F S1024x128 .f32 × FVec F S1024x128 .f32 × FVec F S1024x128 .f32 × FVec F S1024x128 .f32 :=
  (runFirst.sl.r_4 c i arg2 harg2 arg3 harg3 arg4 harg4 arg5 harg5 arg6 harg6 arg7 harg7 x0 x1 x2 x3 x4 x5, runFirst.sl.r_2 c i arg2 harg2 arg3 harg3 arg4 harg4 arg6 harg6 x0 x1 x2 x4, runFirst.sl.r_9 c i arg2 harg2 arg3 harg3 arg4 harg4 arg5 harg5 arg6 harg6 arg7 harg7 x0 x1 x2 x3 x4 x5, runFirst.sl.r_8 c i arg2 harg2 arg3 harg3 arg4 harg4 arg6 harg6 x0 x1 x2 x4)

/-- The state after the loop over the later queries, on a first tile. -/
def firstLoop (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) : (FVec F S1024x128 .f32 × FVec F S1024x128 .f32 × FVec F S1024x128 .f32 × FVec F S1024x128 .f32) × List (View.Piece (Elt F) S2x8192x128 .f32) :=
  st_k0_t1 (F := F) Variants.none c none i arg2 harg2 arg3 harg3 arg4 harg4 arg5 harg5 arg6 harg6 arg7 harg7 arg8 harg8 arg9 harg9 arg10 harg10 (runFirst.sl.v4 i) (harg2.unread x0) (harg3.unread x1) (harg4.unread x2) (harg5.unread x3) (harg6.unread x4) (harg7.unread x5) (arg8.view.writes (Elt F) arg8.view.junk (firstDiag c i arg2 harg2 arg3 harg3 arg4 harg4 arg5 harg5 arg6 harg6 arg7 harg7 arg8 harg8 arg9 harg9 arg10 harg10 x0 x1 x2 x3 x4 x5)) (firstInit c i arg2 harg2 arg3 harg3 arg4 harg4 arg5 harg5 arg6 harg6 arg7 harg7 arg8 harg8 arg9 harg9 arg10 harg10 x0 x1 x2 x3 x4 x5) (k0_t1_loop i).trips

/-- The state after the remainder loop, on a first tile. -/
def firstRest (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) : (FVec F S1024x128 .f32 × FVec F S1024x128 .f32 × FVec F S1024x128 .f32 × FVec F S1024x128 .f32) × List (View.Piece (Elt F) S2x8192x128 .f32) :=
  st_k0_t2 (F := F) Variants.none c none i arg2 harg2 arg3 harg3 arg4 harg4 arg5 harg5 arg6 harg6 arg7 harg7 arg8 harg8 arg9 harg9 arg10 harg10 (Scalar.addi (runFirst.sl.v4 i) (Scalar.muli (Scalar.divsi (runFirst.sl.v107 i) 1#32) 1#32)) (harg2.unread x0) (harg3.unread x1) (harg4.unread x2) (harg5.unread x3) (harg6.unread x4) (harg7.unread x5) (arg8.view.writes (Elt F) arg8.view.junk ((firstLoop c i arg2 harg2 arg3 harg3 arg4 harg4 arg5 harg5 arg6 harg6 arg7 harg7 arg8 harg8 arg9 harg9 arg10 harg10 x0 x1 x2 x3 x4 x5).2 ++ firstDiag c i arg2 harg2 arg3 harg3 arg4 harg4 arg5 harg5 arg6 harg6 arg7 harg7 arg8 harg8 arg9 harg9 arg10 harg10 x0 x1 x2 x3 x4 x5)) (firstLoop c i arg2 harg2 arg3 harg3 arg4 harg4 arg5 harg5 arg6 harg6 arg7 harg7 arg8 harg8 arg9 harg9 arg10 harg10 x0 x1 x2 x3 x4 x5).1 (k0_t2_loop i).trips

set_option maxHeartbeats 1000000 in
/-- What the run on a first tile leaves in the block of the queries' gradient. -/
theorem first_out6 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : FirstTile i) :
    (runFirst (F := F) c i arg2 harg2 arg3 harg3 arg4 harg4 arg5 harg5 arg6 harg6 arg7 harg7 arg8 harg8 arg9 harg9 arg10 harg10 hc0 x0 x1 x2 x3 x4 x5 x6 x7 x8).1 = arg8.view.read (Elt F) (arg8.view.writes (Elt F) arg8.view.junk ((firstRest c i arg2 harg2 arg3 harg3 arg4 harg4 arg5 harg5 arg6 harg6 arg7 harg7 arg8 harg8 arg9 harg9 arg10 harg10 x0 x1 x2 x3 x4 x5).2 ++ ((firstLoop c i arg2 harg2 arg3 harg3 arg4 harg4 arg5 harg5 arg6 harg6 arg7 harg7 arg8 harg8 arg9 harg9 arg10 harg10 x0 x1 x2 x3 x4 x5).2 ++ firstDiag c i arg2 harg2 arg3 harg3 arg4 harg4 arg5 harg5 arg6 harg6 arg7 harg7 arg8 harg8 arg9 harg9 arg10 harg10 x0 x1 x2 x3 x4 x5))) := by
  unfold runFirst firstRest firstLoop firstInit firstDiag; rfl

set_option maxHeartbeats 1000000 in
/-- What the run on a first tile leaves in the block of the keys' gradient. -/
theorem first_out7 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : FirstTile i) :
    (runFirst (F := F) c i arg2 harg2 arg3 harg3 arg4 harg4 arg5 harg5 arg6 harg6 arg7 harg7 arg8 harg8 arg9 harg9 arg10 harg10 hc0 x0 x1 x2 x3 x4 x5 x6 x7 x8).2.1 = arg9.view.read (Elt F) (arg9.view.writes (Elt F) (harg9.unread x7)
      [⟨Rect.unit (s := S2x1024x128) ![1, 0, 0] S1x1024x128.size inb_S2x1024x128_S1x1024x128_1_0_0, k0_pay9 (firstRest c i arg2 harg2 arg3 harg3 arg4 harg4 arg5 harg5 arg6 harg6 arg7 harg7 arg8 harg8 arg9 harg9 arg10 harg10 x0 x1 x2 x3 x4 x5).1.2.2.1⟩, ⟨Rect.unit (s := S2x1024x128) ![0, 0, 0] S1x1024x128.size inb_S2x1024x128_S1x1024x128_0_0_0, k0_pay7 (firstRest c i arg2 harg2 arg3 harg3 arg4 harg4 arg5 harg5 arg6 harg6 arg7 harg7 arg8 harg8 arg9 harg9 arg10 harg10 x0 x1 x2 x3 x4 x5).1.1⟩]) := by
  unfold runFirst firstRest firstLoop firstInit firstDiag; rfl

set_option maxHeartbeats 1000000 in
/-- What the run on a first tile leaves in the block of the values' gradient. -/
theorem first_out8 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (hc0 : FirstTile i) :
    (runFirst (F := F) c i arg2 harg2 arg3 harg3 arg4 harg4 arg5 harg5 arg6 harg6 arg7 harg7 arg8 harg8 arg9 harg9 arg10 harg10 hc0 x0 x1 x2 x3 x4 x5 x6 x7 x8).2.2.1 = arg10.view.read (Elt F) (arg10.view.writes (Elt F) (harg10.unread x8)
      [⟨Rect.unit (s := S2x1024x128) ![1, 0, 0] S1x1024x128.size inb_S2x1024x128_S1x1024x128_1_0_0, k0_pay10 (firstRest c i arg2 harg2 arg3 harg3 arg4 harg4 arg5 harg5 arg6 harg6 arg7 harg7 arg8 harg8 arg9 harg9 arg10 harg10 x0 x1 x2 x3 x4 x5).1.2.2.2⟩, ⟨Rect.unit (s := S2x1024x128) ![0, 0, 0] S1x1024x128.size inb_S2x1024x128_S1x1024x128_0_0_0, k0_pay8 (firstRest c i arg2 harg2 arg3 harg3 arg4 harg4 arg5 harg5 arg6 harg6 arg7 harg7 arg8 harg8 arg9 harg9 arg10 harg10 x0 x1 x2 x3 x4 x5).1.2.1⟩]) := by
  unfold runFirst firstRest firstLoop firstInit firstDiag; rfl

end Cert.KernelIdeal.Body
end
-- ==== Proof.Run.lean ====
/- The launch: what the pipeline leaves at each grid point, and the run of the whole program. -/
module

public import proofs.«01_k».proof.Proof.Gen.KernelIdeal.Frame
public import proofs.«01_k».proof.Proof.Outputs
public import Idealize.ShloMosaic.Lib.Quiescent

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- Two stores, one per head, cover a tile's block: what it held before them does not matter. -/
theorem two_pieces (a : Memref sig .tc .vmem S2x1024x128 .f32) (f f' : a.view.ty.Contents (Elt F)) (w1 w0 : Vec F S1x1024x128 .f32) :
    a.view.read (Elt F) (a.view.writes (Elt F) f [⟨Rect.unit (s := S2x1024x128) ![1, 0, 0] S1x1024x128.size inb_S2x1024x128_S1x1024x128_1_0_0, w1⟩, ⟨Rect.unit (s := S2x1024x128) ![0, 0, 0] S1x1024x128.size inb_S2x1024x128_S1x1024x128_0_0_0, w0⟩])
      = a.view.read (Elt F) (a.view.writes (Elt F) f' [⟨Rect.unit (s := S2x1024x128) ![1, 0, 0] S1x1024x128.size inb_S2x1024x128_S1x1024x128_1_0_0, w1⟩, ⟨Rect.unit (s := S2x1024x128) ![0, 0, 0] S1x1024x128.size inb_S2x1024x128_S1x1024x128_0_0_0, w0⟩]) := by
  refine funext fun y => View.read_writes_apply_eq _ f _ f' y _ ?_
  have y0 : (y 0).val < 2 := (y 0).isLt
  have y1 : (y 1).val < 1024 := (y 1).isLt
  have y2 : (y 2).val < 128 := (y 2).isLt
  by_cases hy : (y 0).val = 1
  · refine ⟨_, List.mem_cons_self .., (Rect.mem_set_unit (inb := inb_S2x1024x128_S1x1024x128_1_0_0)).mpr fun a => ?_⟩
    match a with
    | ⟨0, _⟩ => exact ⟨by show 1 ≤ (y 0).val; omega, by show (y 0).val < 1 + 1; omega⟩
    | ⟨1, _⟩ => exact ⟨Nat.zero_le _, by show (y 1).val < 0 + 1024; omega⟩
    | ⟨2, _⟩ => exact ⟨Nat.zero_le _, by show (y 2).val < 0 + 128; omega⟩
  · refine ⟨_, List.mem_cons_of_mem _ (List.mem_cons_self ..), (Rect.mem_set_unit (inb := inb_S2x1024x128_S1x1024x128_0_0_0)).mpr fun a => ?_⟩
    match a with
    | ⟨0, _⟩ => exact ⟨Nat.zero_le _, by show (y 0).val < 0 + 1; omega⟩
    | ⟨1, _⟩ => exact ⟨Nat.zero_le _, by show (y 1).val < 0 + 1024; omega⟩
    | ⟨2, _⟩ => exact ⟨Nat.zero_le _, by show (y 2).val < 0 + 128; omega⟩

/-- What the run on a first tile leaves in the block of the queries' gradient. -/
def firstOut6 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x8192x128 .f32 :=
  (runFirst c i arg2 harg2 arg3 harg3 arg4 harg4 arg5 harg5 arg6 harg6 arg7 harg7 arg8 harg8 arg9 harg9 arg10 harg10 hc0 x0 x1 x2 x3 x4 x5 x6 x7 x8).1

/-- What the run on a first tile leaves in the block of the keys' gradient. -/
def firstOut7 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x1024x128 .f32 :=
  (runFirst c i arg2 harg2 arg3 harg3 arg4 harg4 arg5 harg5 arg6 harg6 arg7 harg7 arg8 harg8 arg9 harg9 arg10 harg10 hc0 x0 x1 x2 x3 x4 x5 x6 x7 x8).2.1

/-- What the run on a first tile leaves in the block of the values' gradient. -/
def firstOut8 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x1024x128 .f32 :=
  (runFirst c i arg2 harg2 arg3 harg3 arg4 harg4 arg5 harg5 arg6 harg6 arg7 harg7 arg8 harg8 arg9 harg9 arg10 harg10 hc0 x0 x1 x2 x3 x4 x5 x6 x7 x8).2.2.1

/-- The run on a first tile, in these contents. -/
theorem first_wp (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (firstOut6 c i arg2 harg2 arg3 harg3 arg4 harg4 arg5 harg5 arg6 harg6 arg7 harg7 arg8 harg8 arg9 harg9 arg10 harg10 hc0 x0 x1 x2 x3 x4 x5 x6 x7 x8) ∗ owns (c : Thread nD τ) arg9 fullShare (firstOut7 c i arg2 harg2 arg3 harg3 arg4 harg4 arg5 harg5 arg6 harg6 arg7 harg7 arg8 harg8 arg9 harg9 arg10 harg10 hc0 x0 x1 x2 x3 x4 x5 x6 x7 x8) ∗ owns (c : Thread nD τ) arg10 fullShare (firstOut8 c i arg2 harg2 arg3 harg3 arg4 harg4 arg5 harg5 arg6 harg6 arg7 harg7 arg8 harg8 arg9 harg9 arg10 harg10 hc0 x0 x1 x2 x3 x4 x5 x6 x7 x8)) -∗ K ⟨⟩))
    ⊢ wp frame (wpE (defs₀ (F := F)) Variants.none c none) Set.univ (cc0_attn_bwd i arg2 harg2 arg3 harg3 arg4 harg4 arg5 harg5 arg6 harg6 arg7 harg7 arg8 harg8 arg9 harg9 arg10 harg10) K := by
  unfold firstOut6 firstOut7 firstOut8
  exact (runFirst c i arg2 harg2 arg3 harg3 arg4 harg4 arg5 harg5 arg6 harg6 arg7 harg7 arg8 harg8 arg9 harg9 arg10 harg10 hc0 x0 x1 x2 x3 x4 x5 x6 x7 x8).2.2.2 Set.univ K

/-- It does not depend on what the output blocks held. -/
theorem firstOut6_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 y6 : Vec F S2x8192x128 .f32) (x7 y7 : Vec F S2x1024x128 .f32) (x8 y8 : Vec F S2x1024x128 .f32) :
    firstOut6 c i arg2 harg2 arg3 harg3 arg4 harg4 arg5 harg5 arg6 harg6 arg7 harg7 arg8 harg8 arg9 harg9 arg10 harg10 hc0 x0 x1 x2 x3 x4 x5 x6 x7 x8 = firstOut6 c i arg2 harg2 arg3 harg3 arg4 harg4 arg5 harg5 arg6 harg6 arg7 harg7 arg8 harg8 arg9 harg9 arg10 harg10 hc0 x0 x1 x2 x3 x4 x5 y6 y7 y8 := by
  unfold firstOut6
  exact (first_out6 ..).trans (first_out6 ..).symm

/-- It does not depend on what the output blocks held. -/
theorem firstOut7_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 y6 : Vec F S2x8192x128 .f32) (x7 y7 : Vec F S2x1024x128 .f32) (x8 y8 : Vec F S2x1024x128 .f32) :
    firstOut7 c i arg2 harg2 arg3 harg3 arg4 harg4 arg5 harg5 arg6 harg6 arg7 harg7 arg8 harg8 arg9 harg9 arg10 harg10 hc0 x0 x1 x2 x3 x4 x5 x6 x7 x8 = firstOut7 c i arg2 harg2 arg3 harg3 arg4 harg4 arg5 harg5 arg6 harg6 arg7 harg7 arg8 harg8 arg9 harg9 arg10 harg10 hc0 x0 x1 x2 x3 x4 x5 y6 y7 y8 := by
  unfold firstOut7
  exact (first_out7 ..).trans ((two_pieces ..).trans (first_out7 ..).symm)

/-- It does not depend on what the output blocks held. -/
theorem firstOut8_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 y6 : Vec F S2x8192x128 .f32) (x7 y7 : Vec F S2x1024x128 .f32) (x8 y8 : Vec F S2x1024x128 .f32) :
    firstOut8 c i arg2 harg2 arg3 harg3 arg4 harg4 arg5 harg5 arg6 harg6 arg7 harg7 arg8 harg8 arg9 harg9 arg10 harg10 hc0 x0 x1 x2 x3 x4 x5 x6 x7 x8 = firstOut8 c i arg2 harg2 arg3 harg3 arg4 harg4 arg5 harg5 arg6 harg6 arg7 harg7 arg8 harg8 arg9 harg9 arg10 harg10 hc0 x0 x1 x2 x3 x4 x5 y6 y7 y8 := by
  unfold firstOut8
  exact (first_out8 ..).trans ((two_pieces ..).trans (first_out8 ..).symm)

/-- What the run on a later tile leaves in the block of the queries' gradient. -/
def laterOut6 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x8192x128 .f32 :=
  (runLater c i arg2 harg2 arg3 harg3 arg4 harg4 arg5 harg5 arg6 harg6 arg7 harg7 arg8 harg8 arg9 harg9 arg10 harg10 hc0 x0 x1 x2 x3 x4 x5 x6 x7 x8).1

/-- What the run on a later tile leaves in the block of the keys' gradient. -/
def laterOut7 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x1024x128 .f32 :=
  (runLater c i arg2 harg2 arg3 harg3 arg4 harg4 arg5 harg5 arg6 harg6 arg7 harg7 arg8 harg8 arg9 harg9 arg10 harg10 hc0 x0 x1 x2 x3 x4 x5 x6 x7 x8).2.1

/-- What the run on a later tile leaves in the block of the values' gradient. -/
def laterOut8 (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) : Vec F S2x1024x128 .f32 :=
  (runLater c i arg2 harg2 arg3 harg3 arg4 harg4 arg5 harg5 arg6 harg6 arg7 harg7 arg8 harg8 arg9 harg9 arg10 harg10 hc0 x0 x1 x2 x3 x4 x5 x6 x7 x8).2.2.1

/-- The run on a later tile, in these contents. -/
theorem later_wp (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 : Vec F S2x1024x128 .f32) (x8 : Vec F S2x1024x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (laterOut6 c i arg2 harg2 arg3 harg3 arg4 harg4 arg5 harg5 arg6 harg6 arg7 harg7 arg8 harg8 arg9 harg9 arg10 harg10 hc0 x0 x1 x2 x3 x4 x5 x6 x7 x8) ∗ owns (c : Thread nD τ) arg9 fullShare (laterOut7 c i arg2 harg2 arg3 harg3 arg4 harg4 arg5 harg5 arg6 harg6 arg7 harg7 arg8 harg8 arg9 harg9 arg10 harg10 hc0 x0 x1 x2 x3 x4 x5 x6 x7 x8) ∗ owns (c : Thread nD τ) arg10 fullShare (laterOut8 c i arg2 harg2 arg3 harg3 arg4 harg4 arg5 harg5 arg6 harg6 arg7 harg7 arg8 harg8 arg9 harg9 arg10 harg10 hc0 x0 x1 x2 x3 x4 x5 x6 x7 x8)) -∗ K ⟨⟩))
    ⊢ wp frame (wpE (defs₀ (F := F)) Variants.none c none) Set.univ (cc0_attn_bwd i arg2 harg2 arg3 harg3 arg4 harg4 arg5 harg5 arg6 harg6 arg7 harg7 arg8 harg8 arg9 harg9 arg10 harg10) K := by
  unfold laterOut6 laterOut7 laterOut8
  exact (runLater c i arg2 harg2 arg3 harg3 arg4 harg4 arg5 harg5 arg6 harg6 arg7 harg7 arg8 harg8 arg9 harg9 arg10 harg10 hc0 x0 x1 x2 x3 x4 x5 x6 x7 x8).2.2.2 Set.univ K

/-- It does not depend on what the blocks of the keys' and the values' gradients held. -/
theorem laterOut6_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 y7 : Vec F S2x1024x128 .f32) (x8 y8 : Vec F S2x1024x128 .f32) :
    laterOut6 c i arg2 harg2 arg3 harg3 arg4 harg4 arg5 harg5 arg6 harg6 arg7 harg7 arg8 harg8 arg9 harg9 arg10 harg10 hc0 x0 x1 x2 x3 x4 x5 x6 x7 x8 = laterOut6 c i arg2 harg2 arg3 harg3 arg4 harg4 arg5 harg5 arg6 harg6 arg7 harg7 arg8 harg8 arg9 harg9 arg10 harg10 hc0 x0 x1 x2 x3 x4 x5 x6 y7 y8 := by
  unfold laterOut6
  exact (later_out6 ..).trans (later_out6 ..).symm

/-- It does not depend on what the blocks of the keys' and the values' gradients held. -/
theorem laterOut7_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 y7 : Vec F S2x1024x128 .f32) (x8 y8 : Vec F S2x1024x128 .f32) :
    laterOut7 c i arg2 harg2 arg3 harg3 arg4 harg4 arg5 harg5 arg6 harg6 arg7 harg7 arg8 harg8 arg9 harg9 arg10 harg10 hc0 x0 x1 x2 x3 x4 x5 x6 x7 x8 = laterOut7 c i arg2 harg2 arg3 harg3 arg4 harg4 arg5 harg5 arg6 harg6 arg7 harg7 arg8 harg8 arg9 harg9 arg10 harg10 hc0 x0 x1 x2 x3 x4 x5 x6 y7 y8 := by
  unfold laterOut7
  exact (later_out7 ..).trans ((two_pieces ..).trans (later_out7 ..).symm)

/-- It does not depend on what the blocks of the keys' and the values' gradients held. -/
theorem laterOut8_anew (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole) (hc0 : ¬FirstTile i) (x0 : Vec F S2x8x1x1024 .f32) (x1 : Vec F S2x8192x128 .bf16) (x2 : Vec F S8192x256 .bf16) (x3 : Vec F S2x8x1x1024 .f32) (x4 : Vec F S2x1024x128 .bf16) (x5 : Vec F S2x1024x128 .bf16) (x6 : Vec F S2x8192x128 .f32) (x7 y7 : Vec F S2x1024x128 .f32) (x8 y8 : Vec F S2x1024x128 .f32) :
    laterOut8 c i arg2 harg2 arg3 harg3 arg4 harg4 arg5 harg5 arg6 harg6 arg7 harg7 arg8 harg8 arg9 harg9 arg10 harg10 hc0 x0 x1 x2 x3 x4 x5 x6 x7 x8 = laterOut8 c i arg2 harg2 arg3 harg3 arg4 harg4 arg5 harg5 arg6 harg6 arg7 harg7 arg8 harg8 arg9 harg9 arg10 harg10 hc0 x0 x1 x2 x3 x4 x5 x6 y7 y8 := by
  unfold laterOut8
  exact (later_out8 ..).trans ((two_pieces ..).trans (later_out8 ..).symm)

variable (m : (ℓ : Loc nD τ sig) → Buf (Elt F) ℓ) (ρ : Dev nD → PrngReg)

/-- Window 0's current staging buffer at a point, whole. -/
abbrev ms0_0 (t : Fin cfg0.N) := win0_0.stage (cfg0.slots t 0)
abbrev hs0_0 (t : Fin cfg0.N) : (ms0_0 t).IsWhole := hstage0_0 ((cfg0.slots t 0).cast nbuf0_0)
/-- Window 1's current staging buffer at a point, whole. -/
abbrev ms0_1 (t : Fin cfg0.N) := win0_1.stage (cfg0.slots t 1)
abbrev hs0_1 (t : Fin cfg0.N) : (ms0_1 t).IsWhole := hstage0_1 ((cfg0.slots t 1).cast nbuf0_1)
/-- Window 2's current staging buffer at a point, whole. -/
abbrev ms0_2 (t : Fin cfg0.N) := win0_2.stage (cfg0.slots t 2)
abbrev hs0_2 (t : Fin cfg0.N) : (ms0_2 t).IsWhole := hstage0_2 ((cfg0.slots t 2).cast nbuf0_2)
/-- Window 3's current staging buffer at a point, whole. -/
abbrev ms0_3 (t : Fin cfg0.N) := win0_3.stage (cfg0.slots t 3)
abbrev hs0_3 (t : Fin cfg0.N) : (ms0_3 t).IsWhole := hstage0_3 ((cfg0.slots t 3).cast nbuf0_3)
/-- Window 4's current staging buffer at a point, whole. -/
abbrev ms0_4 (t : Fin cfg0.N) := win0_4.stage (cfg0.slots t 4)
abbrev hs0_4 (t : Fin cfg0.N) : (ms0_4 t).IsWhole := hstage0_4 ((cfg0.slots t 4).cast nbuf0_4)
/-- Window 5's current staging buffer at a point, whole. -/
abbrev ms0_5 (t : Fin cfg0.N) := win0_5.stage (cfg0.slots t 5)
abbrev hs0_5 (t : Fin cfg0.N) : (ms0_5 t).IsWhole := hstage0_5 ((cfg0.slots t 5).cast nbuf0_5)
/-- Window 6's current staging buffer at a point, whole. -/
abbrev ms0_6 (t : Fin cfg0.N) := win0_6.stage (cfg0.slots t 6)
abbrev hs0_6 (t : Fin cfg0.N) : (ms0_6 t).IsWhole := hstage0_6 ((cfg0.slots t 6).cast nbuf0_6)
/-- Window 7's current staging buffer at a point, whole. -/
abbrev ms0_7 (t : Fin cfg0.N) := win0_7.stage (cfg0.slots t 7)
abbrev hs0_7 (t : Fin cfg0.N) : (ms0_7 t).IsWhole := hstage0_7 ((cfg0.slots t 7).cast nbuf0_7)
/-- Window 8's current staging buffer at a point, whole. -/
abbrev ms0_8 (t : Fin cfg0.N) := win0_8.stage (cfg0.slots t 8)
abbrev hs0_8 (t : Fin cfg0.N) : (ms0_8 t).IsWhole := hstage0_8 ((cfg0.slots t 8).cast nbuf0_8)

/-- The grid point's two coordinates: the pair of heads, and the tile of keys. -/
theorem coord0 : ∀ t : Fin cfg0.N, (grid0.coords t 0).val = t.val / 8 % 2 :=
  (fun t => Pipeline.Grid.coords_val t 0 (by decide) rfl : ∀ t : Fin grid0.N, (grid0.coords t 0).val = t.val / 8 % 2)

theorem coord1 : ∀ t : Fin cfg0.N, (grid0.coords t 1).val = t.val / 1 % 8 :=
  (fun t => Pipeline.Grid.coords_val t 1 (by decide) rfl : ∀ t : Fin grid0.N, (grid0.coords t 1).val = t.val / 1 % 8)

/-- The points with the first tile of keys are those ≡ 0 (mod 8). -/
theorem firstTile_iff (t : Fin cfg0.N) : FirstTile (grid0.coords t) ↔ t.val % 8 = 0 := by
  have ht : t.val < 16 := Nat.lt_of_lt_of_eq t.isLt N_0
  have e1 := coord1 t
  simp only [FirstTile, e1]
  word_cmp

/-- Some contents of each output's block. -/
def some6 (t : Fin cfg0.N) : Vec F S2x8192x128 .f32 := (ms0_6 t).view.read (Elt F) (ms0_6 t).view.junk
def some7 (t : Fin cfg0.N) : Vec F S2x1024x128 .f32 := (ms0_7 t).view.read (Elt F) (ms0_7 t).view.junk
def some8 (t : Fin cfg0.N) : Vec F S2x1024x128 .f32 := (ms0_8 t).view.read (Elt F) (ms0_8 t).view.junk

/-- What a point with the first tile of keys leaves in the block of the queries' gradient. -/
def firstAt6 (c : Dev nD) (t : Fin cfg0.N) (h : t.val % 8 = 0) : Vec F S2x8192x128 .f32 :=
  firstOut6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) (some7 t) (some8 t)

/-- What a point with the first tile of keys leaves in the block of the keys' gradient. -/
def firstAt7 (c : Dev nD) (t : Fin cfg0.N) (h : t.val % 8 = 0) : Vec F S2x1024x128 .f32 :=
  firstOut7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) (some7 t) (some8 t)

/-- What a point with the first tile of keys leaves in the block of the values' gradient. -/
def firstAt8 (c : Dev nD) (t : Fin cfg0.N) (h : t.val % 8 = 0) : Vec F S2x1024x128 .f32 :=
  firstOut8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) (some7 t) (some8 t)

/-- What a point with a later tile of keys leaves in the block of the queries' gradient. -/
def laterAt6 (c : Dev nD) (t : Fin cfg0.N) (h : ¬t.val % 8 = 0) (x6 : Vec F S2x8192x128 .f32) : Vec F S2x8192x128 .f32 :=
  laterOut6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) x6 (some7 t) (some8 t)

/-- What a point with a later tile of keys leaves in the block of the keys' gradient. -/
def laterAt7 (c : Dev nD) (t : Fin cfg0.N) (h : ¬t.val % 8 = 0) (x6 : Vec F S2x8192x128 .f32) : Vec F S2x1024x128 .f32 :=
  laterOut7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) x6 (some7 t) (some8 t)

/-- What a point with a later tile of keys leaves in the block of the values' gradient. -/
def laterAt8 (c : Dev nD) (t : Fin cfg0.N) (h : ¬t.val % 8 = 0) (x6 : Vec F S2x8192x128 .f32) : Vec F S2x1024x128 .f32 :=
  laterOut8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) x6 (some7 t) (some8 t)

/-- What the block of the queries' gradient holds after point `n`. -/
def left6 (c : Dev nD) : (n : ℕ) → n < cfg0.N → Vec F S2x8192x128 .f32
  | 0, hn => firstAt6 m c ⟨0, hn⟩ rfl
  | n + 1, hn =>
    if h : (n + 1) % 8 = 0 then firstAt6 m c ⟨n + 1, hn⟩ h
    else laterAt6 m c ⟨n + 1, hn⟩ h (left6 c n (Nat.lt_of_succ_lt hn))

/-- What it held before point `t`, where the point continues the sum. -/
def before6 (c : Dev nD) (t : Fin cfg0.N) : Vec F S2x8192x128 .f32 := left6 m c (t.val - 1) (Nat.lt_of_le_of_lt (Nat.sub_le _ _) t.isLt)

/-- What the block of the keys' gradient holds after a point. -/
def left7 (c : Dev nD) (t : Fin cfg0.N) : Vec F S2x1024x128 .f32 :=
  if h : t.val % 8 = 0 then firstAt7 m c t h else laterAt7 m c t h (before6 m c t)

/-- What the block of the values' gradient holds after a point. -/
def left8 (c : Dev nD) (t : Fin cfg0.N) : Vec F S2x1024x128 .f32 :=
  if h : t.val % 8 = 0 then firstAt8 m c t h else laterAt8 m c t h (before6 m c t)

theorem left7_first (c : Dev nD) (t : Fin cfg0.N) (h : t.val % 8 = 0) : left7 m c t = firstAt7 m c t h := by
  unfold left7; exact dif_pos h

theorem left8_first (c : Dev nD) (t : Fin cfg0.N) (h : t.val % 8 = 0) : left8 m c t = firstAt8 m c t h := by
  unfold left8; exact dif_pos h

theorem left7_later (c : Dev nD) (t : Fin cfg0.N) (h : ¬t.val % 8 = 0) : left7 m c t = laterAt7 m c t h (before6 m c t) := by
  unfold left7; exact dif_neg h

theorem left8_later (c : Dev nD) (t : Fin cfg0.N) (h : ¬t.val % 8 = 0) : left8 m c t = laterAt8 m c t h (before6 m c t) := by
  unfold left8; exact dif_neg h

theorem left6_first (c : Dev nD) (t : Fin cfg0.N) (h : t.val % 8 = 0) : left6 m c t.val t.isLt = firstAt6 m c t h := by
  obtain ⟨n, hn⟩ := t
  cases n with
  | zero => rfl
  | succ n => exact dif_pos h

theorem left6_later (c : Dev nD) (t : Fin cfg0.N) (h : ¬t.val % 8 = 0) : left6 m c t.val t.isLt = laterAt6 m c t h (before6 m c t) := by
  obtain ⟨n, hn⟩ := t
  cases n with
  | zero => exact absurd rfl h
  | succ n => exact dif_neg h

/-- The proof data of the pipeline on a device: the arrays as launched, and what each block holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => left6 m c t.val t.isLt
    | ⟨7, _⟩ => left7 m c t
    | ⟨8, _⟩ => left8 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = left6 m c t.val t.isLt := by dsimp only [dats]
theorem after0_7 (c : Dev nD) (t : Fin cfg0.N) : (dats m 0 c).after 7 t = left7 m c t := by dsimp only [dats]
theorem after0_8 (c : Dev nD) (t : Fin cfg0.N) : (dats m 0 c).after 8 t = left8 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- On a later tile the block of the queries' gradient holds what the point before left. -/
theorem before0_6 (c : Dev nD) (t : Fin cfg0.N) (h : ¬t.val % 8 = 0) (d) : (dats m 0 c).before 6 t d = before6 m c t := by
  have ht : t.val ≠ 0 := fun h0 => h (by rw [h0])
  rw [(dats m 0 c).before_out_kept 6 rfl t ht (Bool.eq_false_iff.mpr fun hf => by have h7 := (flush0_6 _).mp hf; dsimp only at h7; omega) (fun _ => rfl) (fun _ _ => rfl) d]
  exact after0_6 m c _

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

/-- The body's run at a point with the first tile of keys, in the contents named above. -/
theorem sound_first (c : Dev nD) (t : Fin cfg0.N) (h : t.val % 8 = 0) (x6 : Vec F S2x8192x128 .f32) (x7 : Vec F S2x1024x128 .f32) (x8 : Vec F S2x1024x128 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare x6 ∗ owns (c : Thread nD τ) (ms0_7 t) fullShare x7 ∗ owns (c : Thread nD τ) (ms0_8 t) fullShare x8
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (left6 m c t.val t.isLt) ∗ owns (c : Thread nD τ) (ms0_7 t) fullShare (left7 m c t) ∗ owns (c : Thread nD τ) (ms0_8 t) fullShare (left8 m c t)) -∗ K ⟨⟩))
    ⊢ wp frame (wpE (defs₀ (F := F)) Variants.none c none) Set.univ (bodyAt0 t) K := by
  rw [left6_first m c t h, left7_first m c t h, left8_first m c t h]
  unfold firstAt6 firstAt7 firstAt8
  rw [firstOut6_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) x6 (some7 t) x7 (some8 t) x8]
  rw [firstOut7_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) x6 (some7 t) x7 (some8 t) x8]
  rw [firstOut8_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) (some6 t) x6 (some7 t) x7 (some8 t) x8]
  exact first_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((firstTile_iff t).mpr h) (iblk m c 0 t) (iblk m c 1 t) (iblk m c 2 t) (iblk m c 3 t) (iblk m c 4 t) (iblk m c 5 t) x6 x7 x8 K

/-- The body's run at a point with a later tile of keys. -/
theorem sound_later (c : Dev nD) (t : Fin cfg0.N) (h : ¬t.val % 8 = 0) (x7 : Vec F S2x1024x128 .f32) (x8 : Vec F S2x1024x128 .f32) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (before6 m c t) ∗ owns (c : Thread nD τ) (ms0_7 t) fullShare x7 ∗ owns (c : Thread nD τ) (ms0_8 t) fullShare x8
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (left6 m c t.val t.isLt) ∗ owns (c : Thread nD τ) (ms0_7 t) fullShare (left7 m c t) ∗ owns (c : Thread nD τ) (ms0_8 t) fullShare (left8 m c t)) -∗ K ⟨⟩))
    ⊢ wp frame (wpE (defs₀ (F := F)) Variants.none c none) Set.univ (bodyAt0 t) K := by
  rw [left6_later m c t h, left7_later m c t h, left8_later m c t h]
  unfold laterAt6 laterAt7 laterAt8
  rw [laterOut6_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) (before6 m c t) (some7 t) x7 (some8 t) x8]
  rw [laterOut7_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) (before6 m c t) (some7 t) x7 (some8 t) x8]
  rw [laterOut8_anew c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) (before6 m c t) (some7 t) x7 (some8 t) x8]
  exact later_wp c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h' => h ((firstTile_iff t).mp h')) (iblk m c 0 t) (iblk m c 1 t) (iblk m c 2 t) (iblk m c 3 t) (iblk m c 4 t) (iblk m c 5 t) (before6 m c t) x7 x8 K

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h : t.val % 8 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_first m c t h _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · simp only [before0_6 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_later m c t h _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body's row in the table of bodies is the body as spelled at the point. -/
theorem defs₀_row (t : Fin cfg0.N) :
    defs₀ (F := F) .tc cfg0.body (cfg0.bodyArgs t (cfg0.slots t)) = bodyAt0 t := by
  unfold defs₀; rw [Defs.onTc_tc]

/-- The pipeline's obligation of its body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of the program ends, with each array of the pipeline at what the blocks written to it make of it, and
    every semaphore at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

end Cert.KernelIdeal.Body

end
-- ==== Proof.Model.lean ====
/- The gradient of causal attention over the reals, for any number of heads, and its sums cut into tiles: what the
   kernel accumulates, tile by tile, as plain functions of natural numbers (head, token, lane). -/
module

public import Mathlib.Analysis.SpecialFunctions.Pow.Real
public import Mathlib.Algebra.BigOperators.Intervals

@[expose] public section

noncomputable section

namespace Cert.KernelIdeal.Body

open Finset

/-- The attention's scale: the real number of its single-precision word. -/
def scale : ℝ := 3424635 / 33554432

/-- The scale of the scores as exponents of two. -/
def scale2 : ℝ := scale * (Real.log 2)⁻¹

variable (Q K V O : ℕ → ℕ → ℕ → ℝ) (L D : ℕ → ℕ → ℝ)

/-- The weight of a key for a query, from the query's base-two log-sum-exp: zero where the key comes after the query. -/
def Wt (h key qry : ℕ) : ℝ :=
  if key ≤ qry then (2 : ℝ) ^ ((∑ d ∈ range 128, K h key d * Q h qry d) * scale2 - L h qry) else 0

/-- The gradient of the scaled score of a key for a query. -/
def Sg (h key qry : ℕ) : ℝ :=
  Wt Q K L h key qry * ((∑ d ∈ range 128, V h key d * O h qry d) - D h qry)

/-- The values' gradient, summed over the queries before `n`. -/
def dvSum (n h key c : ℕ) : ℝ := ∑ x ∈ range n, Wt Q K L h key x * O h x c

/-- The keys' gradient before its scaling, summed over the queries before `n`. -/
def dkSum (n h key c : ℕ) : ℝ := ∑ x ∈ range n, Sg Q K V O L D h key x * Q h x c

/-- What the tile `i` of keys adds to the queries' gradient. -/
def dqTile (i h qry c : ℕ) : ℝ := (∑ r ∈ range 1024, Sg Q K V O L D h (1024 * i + r) qry * K h (1024 * i + r) c) * scale

/-- The queries' gradient after the tiles of keys before `i`. -/
def dqSum (i h qry c : ℕ) : ℝ := ∑ i' ∈ range i, dqTile Q K V O L D i' h qry c

/-- The queries' gradient while the tile `i` of keys is taken: it has been added for the queries before `n`. -/
def dqPart (i n h qry c : ℕ) : ℝ := dqSum Q K V O L D i h qry c + if qry < n then dqTile Q K V O L D i h qry c else 0

theorem Wt_of_lt {h key qry : ℕ} (hlt : qry < key) : Wt Q K L h key qry = 0 := if_neg (by omega)

theorem Wt_of_le {h key qry : ℕ} (hle : key ≤ qry) :
    Wt Q K L h key qry = (2 : ℝ) ^ ((∑ d ∈ range 128, K h key d * Q h qry d) * scale2 - L h qry) := if_pos hle

theorem Sg_of_lt {h key qry : ℕ} (hlt : qry < key) : Sg Q K V O L D h key qry = 0 := by
  unfold Sg; rw [Wt_of_lt Q K L hlt, zero_mul]

theorem dqTile_of_lt {i h qry c : ℕ} (hlt : qry < 1024 * i) : dqTile Q K V O L D i h qry c = 0 := by
  unfold dqTile
  rw [sum_eq_zero fun r _ => by rw [Sg_of_lt Q K V O L D (by omega), zero_mul], zero_mul]

/-- A sum over one more tile of queries. -/
theorem sum_tile (n : ℕ) (f : ℕ → ℝ) : ∑ x ∈ range (n + 1024), f x = ∑ x ∈ range n, f x + ∑ x ∈ range 1024, f (n + x) :=
  sum_range_add f n 1024

theorem dvSum_tile (n h key c : ℕ) :
    dvSum Q K O L (n + 1024) h key c = dvSum Q K O L n h key c + ∑ x ∈ range 1024, Wt Q K L h key (n + x) * O h (n + x) c :=
  sum_tile n _

theorem dkSum_tile (n h key c : ℕ) :
    dkSum Q K V O L D (n + 1024) h key c = dkSum Q K V O L D n h key c + ∑ x ∈ range 1024, Sg Q K V O L D h key (n + x) * Q h (n + x) c :=
  sum_tile n _

theorem dvSum_of_le {n h key c : ℕ} (hle : n ≤ key) : dvSum Q K O L n h key c = 0 :=
  sum_eq_zero fun x hx => by rw [Wt_of_lt Q K L (by have := mem_range.mp hx; omega), zero_mul]

theorem dkSum_of_le {n h key c : ℕ} (hle : n ≤ key) : dkSum Q K V O L D n h key c = 0 :=
  sum_eq_zero fun x hx => by rw [Sg_of_lt Q K V O L D (by have := mem_range.mp hx; omega), zero_mul]

theorem dqPart_start {i h qry c : ℕ} : dqPart Q K V O L D i (1024 * i) h qry c = dqSum Q K V O L D i h qry c := by
  unfold dqPart
  split_ifs with hlt
  · rw [dqTile_of_lt Q K V O L D hlt, add_zero]
  · rw [add_zero]

theorem dqPart_all {i n h qry c : ℕ} (hlt : qry < n) : dqPart Q K V O L D i n h qry c = dqSum Q K V O L D (i + 1) h qry c := by
  unfold dqPart dqSum
  rw [if_pos hlt, sum_range_succ]

/-- One more tile of queries: inside it the tile's product is added, outside nothing changes. -/
theorem dqPart_tile {i n h qry c : ℕ} :
    dqPart Q K V O L D i (n + 1024) h qry c
      = if n ≤ qry ∧ qry < n + 1024 then dqPart Q K V O L D i n h qry c + dqTile Q K V O L D i h qry c else dqPart Q K V O L D i n h qry c := by
  unfold dqPart
  by_cases h1 : qry < n
  · rw [if_pos (by omega), if_pos h1, if_neg (by omega)]
  · by_cases h2 : qry < n + 1024
    · rw [if_pos h2, if_neg h1, if_pos ⟨by omega, h2⟩, add_zero]
    · rw [if_neg h2, if_neg h1, if_neg (by omega)]

end Cert.KernelIdeal.Body
end
-- ==== Proof.Payloads.lean ====
/- The values the kernel's body computes on one tile of keys and one tile of queries, over the reals: each named
   payload of the body is read at an index, for operands whose entries are real numbers. -/
module

public import proofs.«01_k».proof.Proof.Gen.KernelIdeal.Skeleton
public import proofs.«01_k».proof.Proof.Model
public import Idealize.ShloMosaic.Lib.Pointwise
public import Idealize.ShloMosaic.Lib.IdealHost
public import Idealize.ShloMosaic.Lib.WordCmp
public import Idealize.ShloMosaic.PureOps.IdealRules

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- The scale's word is read as the real number `scale`. -/
theorem scale_word : Ideal.ofBits .f32 0x3DD105EC#32 = ((scale : ℝ) : EReal) := by
  unfold scale
  simp [Ideal.ofBits, Ideal.ieee, -EReal.coe_mul]; norm_num

/-- The mask's word is read as the least extended real. -/
theorem mask_word : Ideal.ofBits .f32 0xFF800000#32 = (⊥ : EReal) := by
  simp [Ideal.ofBits, Ideal.ieee]

/-- The named constant is the real number `scale2`. -/
theorem scale2_named : Named.named (F := Ideal) (φ := .f32) Cert.KernelIdeal.κ "scale_log2_e" 0x3E16C740#32 = ((scale2 : ℝ) : EReal) := by
  refine (IdealRules.named_const.ideal_named_scalar _ _ _ _ rfl).trans ?_
  unfold scale2 scale
  norm_num

/-- A sum of real numbers over the first `n` naturals, as a sum of extended reals over `Fin n`. -/
theorem coe_range_sum (n : ℕ) (f : ℕ → ℝ) : ∑ x : Fin n, ((f x : ℝ) : EReal) = ((∑ x ∈ Finset.range n, f x : ℝ) : EReal) := by
  rw [← Fin.sum_univ_eq_sum_range f n]
  exact (map_sum (⟨⟨Real.toEReal, EReal.coe_zero⟩, EReal.coe_add⟩ : ℝ →+ EReal) (fun x : Fin n => f x) Finset.univ).symm

/-- A power of two at a real exponent. -/
theorem exp2_real (r : ℝ) : FloatOps.exp2 (F := Ideal) (φ := .f32) ((r : ℝ) : EReal) = (((2 : ℝ) ^ r : ℝ) : EReal) := Ideal.exp2_coe r

/-- A power of two at the least exponent is zero. -/
theorem exp2_bot : FloatOps.exp2 (F := Ideal) (φ := .f32) (⊥ : EReal) = ((0 : ℝ) : EReal) := rfl

variable [hK : Cert.KernelIdeal.Facts]

/-- The weights of one tile of keys for one tile of queries, both wholly before the diagonal. -/
theorem pay12_apply {v133 : Vec Ideal S1x1024x128 .bf16} {v137 : Vec Ideal S1x1024x128 .bf16} {v143 : Vec Ideal S1x1x1x1024 .f32}
    {q k : ℕ → ℕ → ℝ} {l : ℕ → ℝ}
    (hq : ∀ (x : Fin 1024) (d : Fin 128), v133 (ix3 0 x d) = ((q x d : ℝ) : EReal))
    (hk : ∀ (x : Fin 1024) (d : Fin 128), v137 (ix3 0 x d) = ((k x d : ℝ) : EReal))
    (hl : ∀ (x : Fin 1024), v143 (ix4 0 0 0 x) = ((l x : ℝ) : EReal)) (r x : Fin 1024) :
    k0_pay12 (F := Ideal) v133 v137 v143 (ix2 r x) = (((2 : ℝ) ^ ((∑ d ∈ Finset.range 128, k r d * q x d) * scale2 - l x) : ℝ) : EReal) := by
  pointwise [k0_pay12, k0_pay11]
  simp only [hq, hk, hl, ← EReal.coe_mul, scale2_named]
  rw [coe_range_sum 128 (fun d => k r d * q x d), ← EReal.coe_mul, ← EReal.coe_sub]
  exact exp2_real _

/-- The weights of a tile on the diagonal: zero where the key comes after the query. -/
theorem pay36_apply {v133 : Vec Ideal S1x1024x128 .bf16} {v137 : Vec Ideal S1x1024x128 .bf16} {v143 : Vec Ideal S1x1x1x1024 .f32}
    {q k : ℕ → ℕ → ℝ} {l : ℕ → ℝ}
    (hq : ∀ (x : Fin 1024) (d : Fin 128), v133 (ix3 0 x d) = ((q x d : ℝ) : EReal))
    (hk : ∀ (x : Fin 1024) (d : Fin 128), v137 (ix3 0 x d) = ((k x d : ℝ) : EReal))
    (hl : ∀ (x : Fin 1024), v143 (ix4 0 0 0 x) = ((l x : ℝ) : EReal)) (r x : Fin 1024) :
    k0_pay36 (F := Ideal) v133 v137 v143 (ix2 r x)
      = ((if r.val ≤ x.val then (2 : ℝ) ^ ((∑ d ∈ Finset.range 128, k r d * q x d) * scale2 - l x) else 0 : ℝ) : EReal) := by
  pointwise [k0_pay36, k0_pay35]
  simp only [hq, hk, hl, ← EReal.coe_mul, scale2_named, mask_word]
  rw [coe_range_sum 128 (fun d => k r d * q x d), ← EReal.coe_mul]
  have hc : IntOp.cmpi CmpIPredicate.sle (BitVec.ofNat 32 r.val) (BitVec.ofNat 32 x.val) = BitVec.ofBool (decide (r.val ≤ x.val)) := by
    have h1 := r.isLt
    have h2 := x.isLt
    word_cmp
  rw [hc]
  by_cases h : r.val ≤ x.val
  · simp only [h, decide_true, if_true]
    refine Eq.trans ?_ (exp2_real _)
    rw [EReal.coe_sub]; rfl
  · simp only [h, decide_false, if_false]
    refine Eq.trans ?_ exp2_bot
    congr 1

/-- The products of the values' tile with the rows of the output's gradient. -/
theorem pay38_apply {v11 : Vec Ideal S1024x128 .bf16} {v31 : Vec Ideal S1x1024x128 .bf16} {o v : ℕ → ℕ → ℝ}
    (ho : ∀ (x : Fin 1024) (d : Fin 128), v11 (ix2 x d) = ((o x d : ℝ) : EReal))
    (hv : ∀ (x : Fin 1024) (d : Fin 128), v31 (ix3 0 x d) = ((v x d : ℝ) : EReal)) (r x : Fin 1024) :
    k0_pay38 (F := Ideal) v11 v31 (ix2 r x) = ((∑ d ∈ Finset.range 128, v r d * o x d : ℝ) : EReal) := by
  pointwise [k0_pay38]
  simp only [ho, hv, ← EReal.coe_mul]
  exact coe_range_sum 128 (fun d => v r d * o x d)

/-- The gradient of the scores. -/
theorem pay39_apply {p dp : Vec Ideal S1024x1024 .f32} {v35 : Vec Ideal S1x1x1x1024 .f32} {P D : ℕ → ℕ → ℝ} {l : ℕ → ℝ}
    (hp : ∀ r x : Fin 1024, p (ix2 r x) = ((P r x : ℝ) : EReal)) (hd : ∀ r x : Fin 1024, dp (ix2 r x) = ((D r x : ℝ) : EReal))
    (hl : ∀ (x : Fin 1024), v35 (ix4 0 0 0 x) = ((l x : ℝ) : EReal)) (r x : Fin 1024) :
    k0_pay39 (F := Ideal) p dp v35 (ix2 r x) = ((P r x * (D r x - l x) : ℝ) : EReal) := by
  pointwise [k0_pay39]
  simp only [hp, hd, hl, ← EReal.coe_mul, ← EReal.coe_sub]

/-- A tile of the values' gradient, grown by the weights' product with the rows of the output's gradient. -/
theorem grow_v_apply {a : Vec Ideal S1024x128 .f32} {v133 : Vec Ideal S1x1024x128 .bf16} {v136 : Vec Ideal S1024x128 .bf16} {v137 : Vec Ideal S1x1024x128 .bf16} {v143 : Vec Ideal S1x1x1x1024 .f32}
    {A P o : ℕ → ℕ → ℝ}
    (ha : ∀ (r : Fin 1024) (c : Fin 128), a (ix2 r c) = ((A r c : ℝ) : EReal))
    (hp : ∀ r x : Fin 1024, k0_pay12 (F := Ideal) v133 v137 v143 (ix2 r x) = ((P r x : ℝ) : EReal))
    (ho : ∀ (x : Fin 1024) (d : Fin 128), v136 (ix2 x d) = ((o x d : ℝ) : EReal)) (r : Fin 1024) (c : Fin 128) :
    k0_pay13 (F := Ideal) a v133 v136 v137 v143 (ix2 r c) = ((A r c + ∑ x ∈ Finset.range 1024, P r x * o x c : ℝ) : EReal) := by
  pointwise [k0_pay13]
  simp only [ha, hp, ho, ← EReal.coe_mul]
  rw [coe_range_sum 1024 (fun x => P r x * o x c), ← EReal.coe_add]

/-- The first product of the values' gradient, on the diagonal (first head of the pair). -/
theorem first_v_apply {v8 : Vec Ideal S1x1024x128 .bf16} {v11 : Vec Ideal S1024x128 .bf16} {v12 : Vec Ideal S1x1024x128 .bf16} {v23 : Vec Ideal S1x1x1x1024 .f32}
    {P o : ℕ → ℕ → ℝ}
    (hp : ∀ r x : Fin 1024, k0_pay36 (F := Ideal) v8 v12 v23 (ix2 r x) = ((P r x : ℝ) : EReal))
    (ho : ∀ (x : Fin 1024) (d : Fin 128), v11 (ix2 x d) = ((o x d : ℝ) : EReal)) (r : Fin 1024) (c : Fin 128) :
    k0_pay37 (F := Ideal) v8 v11 v12 v23 (ix2 r c) = ((∑ x ∈ Finset.range 1024, P r x * o x c : ℝ) : EReal) := by
  pointwise [k0_pay37, k0_pay34]
  simp only [hp, ho, ← EReal.coe_mul]
  rw [coe_range_sum 1024 (fun x => P r x * o x c)]
  try simp

/-- The same product as the other head of the pair computes it. -/
theorem first_v_apply' {v61 : Vec Ideal S1024x128 .bf16} {v71 : Vec Ideal S1024x1024 .f32} {v73 : Vec Ideal S1x1x1x1024 .f32}
    {P o : ℕ → ℕ → ℝ}
    (hp : ∀ r x : Fin 1024, k0_pay44 (F := Ideal) v71 v73 (ix2 r x) = ((P r x : ℝ) : EReal))
    (ho : ∀ (x : Fin 1024) (d : Fin 128), v61 (ix2 x d) = ((o x d : ℝ) : EReal)) (r : Fin 1024) (c : Fin 128) :
    k0_pay45 (F := Ideal) k0_pay34 v61 v71 v73 (ix2 r c) = ((∑ x ∈ Finset.range 1024, P r x * o x c : ℝ) : EReal) := by
  pointwise [k0_pay45, k0_pay34]
  simp only [hp, ho, ← EReal.coe_mul]
  rw [coe_range_sum 1024 (fun x => P r x * o x c)]
  try simp

/-- A tile of the keys' gradient, grown by the product of the scores' gradient with the queries. -/
theorem grow_k_apply {a : Vec Ideal S1024x128 .f32} {b : Vec Ideal S1024x128 .bf16} {p dp : Vec Ideal S1024x1024 .f32} {v35 : Vec Ideal S1x1x1x1024 .f32}
    {A S q : ℕ → ℕ → ℝ}
    (ha : ∀ (r : Fin 1024) (c : Fin 128), a (ix2 r c) = ((A r c : ℝ) : EReal))
    (hs : ∀ r x : Fin 1024, k0_pay39 (F := Ideal) p dp v35 (ix2 r x) = ((S r x : ℝ) : EReal))
    (hq : ∀ (x : Fin 1024) (d : Fin 128), b (ix2 x d) = ((q x d : ℝ) : EReal)) (r : Fin 1024) (c : Fin 128) :
    k0_pay40 (F := Ideal) a b p dp v35 (ix2 r c) = ((A r c + ∑ x ∈ Finset.range 1024, S r x * q x c : ℝ) : EReal) := by
  pointwise [k0_pay40]
  simp only [ha, hs, hq, ← EReal.coe_mul]
  rw [coe_range_sum 1024 (fun x => S r x * q x c), ← EReal.coe_add]

/-- The queries' gradient on one tile, grown by the scaled product of the scores' gradient with the keys. -/
theorem grow_q_apply {a : Vec Ideal S1x1024x128 .f32} {b : Vec Ideal S1x1024x128 .bf16} {p dp : Vec Ideal S1024x1024 .f32} {v35 : Vec Ideal S1x1x1x1024 .f32}
    {A S k : ℕ → ℕ → ℝ}
    (ha : ∀ (x : Fin 1024) (c : Fin 128), a (ix3 0 x c) = ((A x c : ℝ) : EReal))
    (hs : ∀ r x : Fin 1024, k0_pay39 (F := Ideal) p dp v35 (ix2 r x) = ((S r x : ℝ) : EReal))
    (hk : ∀ (r : Fin 1024) (d : Fin 128), b (ix3 0 r d) = ((k r d : ℝ) : EReal)) (x : Fin 1024) (c : Fin 128) :
    k0_pay41 (F := Ideal) p dp v35 a b (ix3 0 x c) = ((A x c + (∑ r ∈ Finset.range 1024, S r x * k r c) * scale : ℝ) : EReal) := by
  pointwise [k0_pay41]
  simp only [ha, hs, hk, ← EReal.coe_mul, scale_word]
  rw [coe_range_sum 1024 (fun r => S r x * k r c), ← EReal.coe_mul, ← EReal.coe_add]

/-- The keys' gradient as it is stored: scaled. -/
theorem store_k_apply {a : Vec Ideal S1024x128 .f32} {A : ℕ → ℕ → ℝ}
    (ha : ∀ (r : Fin 1024) (c : Fin 128), a (ix2 r c) = ((A r c : ℝ) : EReal)) (r : Fin 1024) (c : Fin 128) :
    k0_pay7 (F := Ideal) a (ix3 0 r c) = ((A r c * scale : ℝ) : EReal) := by
  pointwise [k0_pay7]
  simp only [ha, ← EReal.coe_mul, scale_word]

/-- The values' gradient as it is stored. -/
theorem store_v_apply {a : Vec Ideal S1024x128 .f32} {A : ℕ → ℕ → ℝ}
    (ha : ∀ (r : Fin 1024) (c : Fin 128), a (ix2 r c) = ((A r c : ℝ) : EReal)) (r : Fin 1024) (c : Fin 128) :
    k0_pay8 (F := Ideal) a (ix3 0 r c) = ((A r c : ℝ) : EReal) := by
  pointwise [k0_pay8]
  simp only [ha]

/-- The block of the queries' gradient starts at zero. -/
theorem zero_apply (y : S2x8192x128.Idx) : k0_pay33 (F := Ideal) y = ((0 : ℝ) : EReal) := by
  pointwise [k0_pay33]
  try rfl

/-- A tile's sums start at zero. -/
theorem zero_tile_apply (r : Fin 1024) (c : Fin 128) : k0_pay34 (F := Ideal) (ix2 r c) = (((fun _ _ => 0 : ℕ → ℕ → ℝ) r c : ℝ) : EReal) := by
  pointwise [k0_pay34]
  try rfl

/-- Reading a tile without its leading axis. -/
theorem pay35_apply {v8 : Vec Ideal S1x1024x128 .bf16} {q : ℕ → ℕ → ℝ}
    (hq : ∀ (x : Fin 1024) (d : Fin 128), v8 (ix3 0 x d) = ((q x d : ℝ) : EReal)) (x : Fin 1024) (d : Fin 128) :
    k0_pay35 (F := Ideal) v8 (ix2 x d) = ((q x d : ℝ) : EReal) := by
  pointwise [k0_pay35]
  simp only [hq]

end Cert.KernelIdeal.Body
end
-- ==== Proof.Loads.lean ====
/- What the body's loads and stores mean on blocks whose entries are real numbers: a load of a tile reads the numbers
   at the tile's place, a store of a tile replaces them there. -/
module

public import proofs.«01_k».proof.Proof.Gen.KernelIdeal.Skeleton
public import proofs.«01_k».proof.Proof.Payloads
public import Idealize.ShloMosaic.Lib.VecWindow

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- A pair of heads' block of `n` tokens holds the numbers `g` (head, token, lane). -/
def Holds {n : ℕ} (X : (⟨3, ![2, n, 128]⟩ : Shape).Idx → EReal) (g : ℕ → ℕ → ℕ → ℝ) : Prop :=
  ∀ y, X y = ((g (y 0).val (y 1).val (y 2).val : ℝ) : EReal)

/-- A block of rows holds the numbers `g` (head, token, lane), the heads' lanes side by side. -/
def HoldsRows (X : S8192x256.Idx → EReal) (g : ℕ → ℕ → ℕ → ℝ) : Prop :=
  ∀ y, X y = ((g ((y 1).val / 128) (y 0).val ((y 1).val % 128) : ℝ) : EReal)

/-- A block of one number per query holds the numbers `g` (head, query), 1024 queries to a row. -/
def HoldsPer (X : S2x8x1x1024.Idx → EReal) (g : ℕ → ℕ → ℝ) : Prop :=
  ∀ y, X y = ((g (y 0).val (1024 * (y 1).val + (y 3).val) : ℝ) : EReal)

/-- A tile holds the numbers `g` (row, lane). -/
def IsTile (X : S1024x128.Idx → EReal) (g : ℕ → ℕ → ℝ) : Prop :=
  ∀ (r : Fin 1024) (c : Fin 128), X (ix2 r c) = ((g r.val c.val : ℝ) : EReal)

/-- The same numbers of a tile, written another way. -/
theorem IsTile.congr {X : S1024x128.Idx → EReal} {g g' : ℕ → ℕ → ℝ} (hX : IsTile X g) (h : ∀ r c, r < 1024 → c < 128 → g r c = g' r c) : IsTile X g' :=
  fun r c => by rw [hX r c, h _ _ r.isLt c.isLt]

/-- The same numbers of a block, written another way. -/
theorem Holds.congr {n : ℕ} {X : (⟨3, ![2, n, 128]⟩ : Shape).Idx → EReal} {g g' : ℕ → ℕ → ℕ → ℝ} (hX : Holds X g)
    (h : ∀ a b c, a < 2 → b < n → c < 128 → g a b c = g' a b c) : Holds X g' :=
  fun y => by rw [hX y, h _ _ _ (y 0).isLt (y 1).isLt (y 2).isLt]

variable {κ : Kind} {sp : Space}

/-- A tile loaded from a half-precision block of tokens. -/
theorem load_half {m : ℕ} (v : View sig κ sp (⟨3, ![2, m, 128]⟩ : Shape) .bf16) (f : v.ty.Contents (Elt Ideal)) {g : ℕ → ℕ → ℕ → ℝ}
    (hg : Holds (v.read (Elt Ideal) f) g) {off : Fin 3 → ℕ} (inb : ∀ a, off a + S1x1024x128.size a ≤ (⟨3, ![2, m, 128]⟩ : Shape).size a)
    {h n : ℕ} (ho : off = ![h, n, 0]) (x : Fin 1024) (d : Fin 128) :
    v.readAt (Elt Ideal) (Rect.unit (s := ⟨3, ![2, m, 128]⟩) off S1x1024x128.size inb).toLoadRect f (ix3 0 x d) = ((g h (n + x.val) d.val : ℝ) : EReal) := by
  subst ho
  refine (hg _).trans ?_
  show ((g (h + 1 * 0) (n + 1 * x.val) (0 + 1 * d.val) : ℝ) : EReal) = _
  rw [mul_zero, one_mul, one_mul, zero_add, add_zero]

/-- A tile loaded from a single-precision block of tokens. -/
theorem load_single {m : ℕ} (v : View sig κ sp (⟨3, ![2, m, 128]⟩ : Shape) .f32) (f : v.ty.Contents (Elt Ideal)) {g : ℕ → ℕ → ℕ → ℝ}
    (hg : Holds (v.read (Elt Ideal) f) g) {off : Fin 3 → ℕ} (inb : ∀ a, off a + S1x1024x128.size a ≤ (⟨3, ![2, m, 128]⟩ : Shape).size a)
    {h n : ℕ} (ho : off = ![h, n, 0]) (x : Fin 1024) (d : Fin 128) :
    v.readAt (Elt Ideal) (Rect.unit (s := ⟨3, ![2, m, 128]⟩) off S1x1024x128.size inb).toLoadRect f (ix3 0 x d) = ((g h (n + x.val) d.val : ℝ) : EReal) := by
  subst ho
  refine (hg _).trans ?_
  show ((g (h + 1 * 0) (n + 1 * x.val) (0 + 1 * d.val) : ℝ) : EReal) = _
  rw [mul_zero, one_mul, one_mul, zero_add, add_zero]

/-- A tile of rows loaded from one head's lanes. -/
theorem load_rows (v : View sig κ sp S8192x256 .bf16) (f : v.ty.Contents (Elt Ideal)) {g : ℕ → ℕ → ℕ → ℝ}
    (hg : HoldsRows (v.read (Elt Ideal) f) g) {off : Fin 2 → ℕ} (inb : ∀ a, off a + S1024x128.size a ≤ S8192x256.size a)
    {h n : ℕ} (ho : off = ![n, 128 * h]) (x : Fin 1024) (d : Fin 128) :
    v.readAt (Elt Ideal) (Rect.unit (s := S8192x256) off S1024x128.size inb).toLoadRect f (ix2 x d) = ((g h (n + x.val) d.val : ℝ) : EReal) := by
  subst ho
  refine (hg _).trans ?_
  show ((g ((128 * h + 1 * d.val) / 128) (n + 1 * x.val) ((128 * h + 1 * d.val) % 128) : ℝ) : EReal) = _
  have hd := d.isLt
  rw [show (128 * h + 1 * d.val) / 128 = h by omega, show (128 * h + 1 * d.val) % 128 = d.val by omega, one_mul]

/-- A row of numbers loaded from a block of one number per query. -/
theorem load_per (v : View sig κ sp S2x8x1x1024 .f32) (f : v.ty.Contents (Elt Ideal)) {g : ℕ → ℕ → ℝ}
    (hg : HoldsPer (v.read (Elt Ideal) f) g) {off : Fin 4 → ℕ} (inb : ∀ a, off a + S1x1x1x1024.size a ≤ S2x8x1x1024.size a)
    {h b n : ℕ} (ho : off = ![h, b, 0, 0]) (hn : n = 1024 * b) (x : Fin 1024) :
    v.readAt (Elt Ideal) (Rect.unit (s := S2x8x1x1024) off S1x1x1x1024.size inb).toLoadRect f (ix4 0 0 0 x) = ((g h (n + x.val) : ℝ) : EReal) := by
  subst ho hn
  refine (hg _).trans ?_
  show ((g (h + 1 * 0) (1024 * (b + 1 * 0) + (0 + 1 * x.val)) : ℝ) : EReal) = _
  rw [mul_zero, one_mul, zero_add, add_zero, add_zero]

/-- A block after a tile has been stored in it: the tile's numbers at its place, the old ones elsewhere. -/
theorem put_holds {m : ℕ} {X : (⟨3, ![2, m, 128]⟩ : Shape).Idx → EReal} {g : ℕ → ℕ → ℕ → ℝ} (hX : Holds X g) {off : Fin 3 → ℕ} {h n : ℕ} (ho : off = ![h, n, 0])
    {w : S1x1024x128.Idx → EReal} {W : ℕ → ℕ → ℝ} (hw : ∀ (x : Fin 1024) (c : Fin 128), w (ix3 0 x c) = ((W x.val c.val : ℝ) : EReal)) :
    Holds (VecWindow.put (s := ⟨3, ![2, m, 128]⟩) X off S1x1024x128.size w)
      (fun a t c => if a = h ∧ n ≤ t ∧ t < n + 1024 then W (t - n) c else g a t c) := by
  subst ho
  intro y
  unfold VecWindow.put
  by_cases hc : (y 0).val = h ∧ n ≤ (y 1).val ∧ (y 1).val < n + 1024
  · have hin : ∀ a, (![h, n, 0] : Fin 3 → ℕ) a ≤ (y a).val ∧ (y a).val < (![h, n, 0] : Fin 3 → ℕ) a + S1x1024x128.size a := by
      have h2 : (y 2).val < 128 := (y 2).isLt
      intro a
      match a with
      | ⟨0, _⟩ => exact ⟨le_of_eq hc.1.symm, by show (y 0).val < h + 1; omega⟩
      | ⟨1, _⟩ => exact hc.2
      | ⟨2, _⟩ => exact ⟨Nat.zero_le _, by show (y 2).val < 0 + 128; omega⟩
    rw [dif_pos hin]
    refine Eq.trans ?_ (congrArg Real.toEReal (if_pos hc).symm)
    refine Eq.trans (congrArg w ?_) (hw ⟨(y 1).val - n, by omega⟩ ⟨(y 2).val, (y 2).isLt⟩)
    funext a
    refine Fin.ext ?_
    match a with
    | ⟨0, _⟩ => show (y 0).val - h = 0; omega
    | ⟨1, _⟩ => rfl
    | ⟨2, _⟩ => rfl
  · rw [dif_neg (fun hin => hc ⟨by
      have h0 : h ≤ (y 0).val ∧ (y 0).val < h + 1 := hin 0
      omega, hin 1⟩)]
    exact (hX y).trans (congrArg Real.toEReal (if_neg hc).symm)

end Cert.KernelIdeal.Body
end
-- ==== Proof.Steps.lean ====
/- One step of the body on one tile of keys and one tile of queries: what it adds to the three gradients. -/
module

public import proofs.«01_k».proof.Proof.Gen.KernelIdeal.Skeleton
public import proofs.«01_k».proof.Proof.Loads
public import proofs.«01_k».proof.Proof.Gen.KernelIdeal.Loops
public import Idealize.ShloMosaic.Lib.VecWindow

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable [hK : Cert.KernelIdeal.Facts]
variable (Q K V O : ℕ → ℕ → ℕ → ℝ) (L D : ℕ → ℕ → ℝ)

/-- One head's operands on the tile of keys from `a` and the tile of queries from `n`: the loaded tiles hold the
    numbers of `Q`, `O`, `L`, `D` at the queries and of `K`, `V` at the keys. -/
structure HeadTile (h a n : ℕ) (q : Vec Ideal S1x1024x128 .bf16) (o : Vec Ideal S1024x128 .bf16) (l dl : Vec Ideal S1x1x1x1024 .f32)
    (k v : Vec Ideal S1x1024x128 .bf16) : Prop where
  q : ∀ (x : Fin 1024) (d : Fin 128), q (ix3 0 x d) = ((Q h (n + x.val) d.val : ℝ) : EReal)
  o : ∀ (x : Fin 1024) (d : Fin 128), o (ix2 x d) = ((O h (n + x.val) d.val : ℝ) : EReal)
  l : ∀ (x : Fin 1024), l (ix4 0 0 0 x) = ((L h (n + x.val) : ℝ) : EReal)
  dl : ∀ (x : Fin 1024), dl (ix4 0 0 0 x) = ((D h (n + x.val) : ℝ) : EReal)
  k : ∀ (r : Fin 1024) (d : Fin 128), k (ix3 0 r d) = ((K h (a + r.val) d.val : ℝ) : EReal)
  v : ∀ (r : Fin 1024) (d : Fin 128), v (ix3 0 r d) = ((V h (a + r.val) d.val : ℝ) : EReal)

section
variable {Q K V O L D}
variable {h a n : ℕ} {q : Vec Ideal S1x1024x128 .bf16} {o : Vec Ideal S1024x128 .bf16} {l dl : Vec Ideal S1x1x1x1024 .f32} {k v : Vec Ideal S1x1024x128 .bf16}

/-- The weights where every key comes before every query. -/
theorem HeadTile.weights (H : HeadTile Q K V O L D h a n q o l dl k v) (hn : a + 1024 ≤ n) (r x : Fin 1024) :
    k0_pay12 (F := Ideal) q k l (ix2 r x) = ((Wt Q K L h (a + r.val) (n + x.val) : ℝ) : EReal) := by
  refine (pay12_apply (q := fun x d => Q h (n + x) d) (k := fun r d => K h (a + r) d) (l := fun x => L h (n + x)) H.q H.k H.l r x).trans ?_
  rw [Wt_of_le Q K L (by have := r.isLt; omega)]

/-- The weights on the diagonal. -/
theorem HeadTile.weights_diag (H : HeadTile Q K V O L D h a a q o l dl k v) (r x : Fin 1024) :
    k0_pay36 (F := Ideal) q k l (ix2 r x) = ((Wt Q K L h (a + r.val) (a + x.val) : ℝ) : EReal) := by
  refine (pay36_apply (q := fun x d => Q h (a + x) d) (k := fun r d => K h (a + r) d) (l := fun x => L h (a + x)) H.q H.k H.l r x).trans ?_
  unfold Wt
  by_cases hle : r.val ≤ x.val
  · rw [if_pos hle, if_pos (by omega)]
  · rw [if_neg hle, if_neg (by omega)]

variable {p : Vec Ideal S1024x1024 .f32}

/-- The gradient of the scores from the weights. -/
theorem HeadTile.scores (H : HeadTile Q K V O L D h a n q o l dl k v)
    (hp : ∀ r x : Fin 1024, p (ix2 r x) = ((Wt Q K L h (a + r.val) (n + x.val) : ℝ) : EReal)) (r x : Fin 1024) :
    k0_pay39 (F := Ideal) p (k0_pay38 o v) dl (ix2 r x) = ((Sg Q K V O L D h (a + r.val) (n + x.val) : ℝ) : EReal) :=
  pay39_apply (P := fun r x => Wt Q K L h (a + r) (n + x)) (D := fun r x => ∑ d ∈ Finset.range 128, V h (a + r) d * O h (n + x) d) (l := fun x => D h (n + x))
    hp (pay38_apply (o := fun x d => O h (n + x) d) (v := fun r d => V h (a + r) d) H.o H.v) H.dl r x

/-- The values' gradient after one more tile of queries. -/
theorem HeadTile.values (H : HeadTile Q K V O L D h a n q o l dl k v) (hn : a + 1024 ≤ n) {acc : Vec Ideal S1024x128 .f32}
    (ha : IsTile acc fun r c => dvSum Q K O L n h (a + r) c) : IsTile (k0_pay13 (F := Ideal) acc q o k l) fun r c => dvSum Q K O L (n + 1024) h (a + r) c := by
  intro r c
  refine (grow_v_apply (A := fun r c => dvSum Q K O L n h (a + r) c) (P := fun r x => Wt Q K L h (a + r) (n + x)) (o := fun x d => O h (n + x) d)
    ha (H.weights hn) H.o r c).trans ?_
  exact congrArg Real.toEReal (dvSum_tile Q K O L _ _ _ _).symm

/-- The keys' gradient after one more tile of queries. -/
theorem HeadTile.keys (H : HeadTile Q K V O L D h a n q o l dl k v)
    (hp : ∀ r x : Fin 1024, p (ix2 r x) = ((Wt Q K L h (a + r.val) (n + x.val) : ℝ) : EReal)) {acc : Vec Ideal S1024x128 .f32}
    (ha : IsTile acc fun r c => dkSum Q K V O L D n h (a + r) c) :
    IsTile (k0_pay40 (F := Ideal) acc (k0_pay35 q) p (k0_pay38 o v) dl) fun r c => dkSum Q K V O L D (n + 1024) h (a + r) c := by
  intro r c
  refine (grow_k_apply (A := fun r c => dkSum Q K V O L D n h (a + r) c) (S := fun r x => Sg Q K V O L D h (a + r) (n + x)) (q := fun x d => Q h (n + x) d)
    ha (H.scores hp) (pay35_apply (q := fun x d => Q h (n + x) d) H.q) r c).trans ?_
  exact congrArg Real.toEReal (dkSum_tile Q K V O L D _ _ _ _).symm

/-- The queries' gradient on the tile of queries, with the tile of keys added. -/
theorem HeadTile.queries {j : ℕ} (H : HeadTile Q K V O L D h (1024 * j) n q o l dl k v)
    (hp : ∀ r x : Fin 1024, p (ix2 r x) = ((Wt Q K L h (1024 * j + r.val) (n + x.val) : ℝ) : EReal)) {g : Vec Ideal S1x1024x128 .f32} {G : ℕ → ℕ → ℕ → ℝ}
    (hg : ∀ (x : Fin 1024) (c : Fin 128), g (ix3 0 x c) = ((G h (n + x.val) c.val : ℝ) : EReal)) (x : Fin 1024) (c : Fin 128) :
    k0_pay41 (F := Ideal) p (k0_pay38 o v) dl g k (ix3 0 x c) = ((G h (n + x.val) c.val + dqTile Q K V O L D j h (n + x.val) c.val : ℝ) : EReal) :=
  grow_q_apply (A := fun x c => G h (n + x) c) (S := fun r x => Sg Q K V O L D h (1024 * j + r) (n + x)) (k := fun r d => K h (1024 * j + r) d)
    hg (H.scores hp) H.k x c

end

/-- A block of the queries' gradient after both heads' tiles of queries from `n` have been stored with the key tile `j`
    added. -/
theorem two_tiles {j n : ℕ} {X : S2x8192x128.Idx → EReal} {G : ℕ → ℕ → ℕ → ℝ} (hX : Holds X G) {off0 off1 : Fin 3 → ℕ}
    (h0 : off0 = ![0, n, 0]) (h1 : off1 = ![1, n, 0]) {w0 w1 : S1x1024x128.Idx → EReal}
    (hw0 : ∀ (x : Fin 1024) (c : Fin 128), w0 (ix3 0 x c) = ((G 0 (n + x.val) c.val + dqTile Q K V O L D j 0 (n + x.val) c.val : ℝ) : EReal))
    (hw1 : ∀ (x : Fin 1024) (c : Fin 128), w1 (ix3 0 x c) = ((G 1 (n + x.val) c.val + dqTile Q K V O L D j 1 (n + x.val) c.val : ℝ) : EReal)) :
    Holds (VecWindow.put (s := S2x8192x128) (VecWindow.put (s := S2x8192x128) X off0 S1x1024x128.size w0) off1 S1x1024x128.size w1)
      (fun a t c => if n ≤ t ∧ t < n + 1024 then G a t c + dqTile Q K V O L D j a t c else G a t c) := by
  refine Holds.congr (put_holds (W := fun x c => G 1 (n + x) c + dqTile Q K V O L D j 1 (n + x) c)
    (put_holds (W := fun x c => G 0 (n + x) c + dqTile Q K V O L D j 0 (n + x) c) hX h0 hw0) h1 hw1) ?_
  intro a t c ha ht hc
  by_cases hin : n ≤ t ∧ t < n + 1024
  · have e : n + (t - n) = t := by omega
    obtain rfl | rfl : a = 0 ∨ a = 1 := by omega
    · simp [hin, e]
    · simp [hin, e]
  · simp [hin]

/-- The contents of the six input blocks while the tile `j` of keys is taken. -/
structure Reads (j : ℕ) (arg2 : Memref sig .tc .vmem S2x8x1x1024 .f32) (arg3 : Memref sig .tc .vmem S2x8192x128 .bf16) (arg4 : Memref sig .tc .vmem S8192x256 .bf16) (arg5 : Memref sig .tc .vmem S2x8x1x1024 .f32) (arg6 : Memref sig .tc .vmem S2x1024x128 .bf16) (arg7 : Memref sig .tc .vmem S2x1024x128 .bf16) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) : Prop where
  l : HoldsPer (arg2.view.read (Elt Ideal) X_arg2) L
  q : Holds (arg3.view.read (Elt Ideal) X_arg3) Q
  o : HoldsRows (arg4.view.read (Elt Ideal) X_arg4) O
  dl : HoldsPer (arg5.view.read (Elt Ideal) X_arg5) D
  k : Holds (arg6.view.read (Elt Ideal) X_arg6) (fun h t c => K h (1024 * j + t) c)
  v : Holds (arg7.view.read (Elt Ideal) X_arg7) (fun h t c => V h (1024 * j + t) c)

/-- The numbers one trip of the loop carries when the queries before `n` have been taken. -/
structure Carried (j n : ℕ) (acc : FVec Ideal S1024x128 .f32 × FVec Ideal S1024x128 .f32 × FVec Ideal S1024x128 .f32 × FVec Ideal S1024x128 .f32) : Prop where
  k0 : IsTile acc.1 fun r c => dkSum Q K V O L D n 0 (1024 * j + r) c
  v0 : IsTile acc.2.1 fun r c => dvSum Q K O L n 0 (1024 * j + r) c
  k1 : IsTile acc.2.2.1 fun r c => dkSum Q K V O L D n 1 (1024 * j + r) c
  v1 : IsTile acc.2.2.2 fun r c => dvSum Q K O L n 1 (1024 * j + r) c

variable (𝒱 : Variants) (c : Dev nD) (bd : Option 𝒱.V) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole)
variable (v4 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

section
variable {Q K V O L D}
variable {i arg2 arg3 arg4 arg5 arg6 arg7}
variable {X_arg2 X_arg3 X_arg4 X_arg5 X_arg6 X_arg7}

/-- The tiles loaded for the first head of the pair. -/
theorem Reads.head0 {j : ℕ} (R : Reads Q K V O L D j arg2 arg3 arg4 arg5 arg6 arg7 X_arg2 X_arg3 X_arg4 X_arg5 X_arg6 X_arg7) {n b : ℕ} (hn : n = 1024 * b)
    {oq : Fin 3 → ℕ} {oo : Fin 2 → ℕ} {ol : Fin 4 → ℕ} {ok : Fin 3 → ℕ} (iq) (io) (il) (ik) (ik')
    (hq : oq = ![0, n, 0]) (ho : oo = ![n, 0]) (hl : ol = ![0, b, 0, 0]) (hk : ok = ![0, 0, 0]) :
    HeadTile Q K V O L D 0 (1024 * j) n
      (arg3.view.readAt (Elt Ideal) (Rect.unit (s := S2x8192x128) oq S1x1024x128.size iq).toLoadRect X_arg3)
      (arg4.view.readAt (Elt Ideal) (Rect.unit (s := S8192x256) oo S1024x128.size io).toLoadRect X_arg4)
      (arg2.view.readAt (Elt Ideal) (Rect.unit (s := S2x8x1x1024) ol S1x1x1x1024.size il).toLoadRect X_arg2)
      (arg5.view.readAt (Elt Ideal) (Rect.unit (s := S2x8x1x1024) ol S1x1x1x1024.size il).toLoadRect X_arg5)
      (arg6.view.readAt (Elt Ideal) (Rect.unit (s := S2x1024x128) ok S1x1024x128.size ik).toLoadRect X_arg6)
      (arg7.view.readAt (Elt Ideal) (Rect.unit (s := S2x1024x128) ok S1x1024x128.size ik').toLoadRect X_arg7) where
  q := load_half _ _ R.q _ hq
  o := load_rows _ _ R.o _ (h := 0) ho
  l := load_per _ _ R.l _ hl hn
  dl := load_per _ _ R.dl _ hl hn
  k := fun r d => (load_half _ _ R.k _ hk r d).trans (by rw [zero_add])
  v := fun r d => (load_half _ _ R.v _ hk r d).trans (by rw [zero_add])

/-- The tiles loaded for the second head of the pair. -/
theorem Reads.head1 {j : ℕ} (R : Reads Q K V O L D j arg2 arg3 arg4 arg5 arg6 arg7 X_arg2 X_arg3 X_arg4 X_arg5 X_arg6 X_arg7) {n b : ℕ} (hn : n = 1024 * b)
    {oq : Fin 3 → ℕ} {oo : Fin 2 → ℕ} {ol : Fin 4 → ℕ} {ok : Fin 3 → ℕ} (iq) (io) (il) (ik) (ik')
    (hq : oq = ![1, n, 0]) (ho : oo = ![n, 128]) (hl : ol = ![1, b, 0, 0]) (hk : ok = ![1, 0, 0]) :
    HeadTile Q K V O L D 1 (1024 * j) n
      (arg3.view.readAt (Elt Ideal) (Rect.unit (s := S2x8192x128) oq S1x1024x128.size iq).toLoadRect X_arg3)
      (arg4.view.readAt (Elt Ideal) (Rect.unit (s := S8192x256) oo S1024x128.size io).toLoadRect X_arg4)
      (arg2.view.readAt (Elt Ideal) (Rect.unit (s := S2x8x1x1024) ol S1x1x1x1024.size il).toLoadRect X_arg2)
      (arg5.view.readAt (Elt Ideal) (Rect.unit (s := S2x8x1x1024) ol S1x1x1x1024.size il).toLoadRect X_arg5)
      (arg6.view.readAt (Elt Ideal) (Rect.unit (s := S2x1024x128) ok S1x1024x128.size ik).toLoadRect X_arg6)
      (arg7.view.readAt (Elt Ideal) (Rect.unit (s := S2x1024x128) ok S1x1024x128.size ik').toLoadRect X_arg7) where
  q := load_half _ _ R.q _ hq
  o := load_rows _ _ R.o _ (h := 1) ho
  l := load_per _ _ R.l _ hl hn
  dl := load_per _ _ R.dl _ hl hn
  k := fun r d => (load_half _ _ R.k _ hk r d).trans (by rw [zero_add])
  v := fun r d => (load_half _ _ R.v _ hk r d).trans (by rw [zero_add])

end

set_option maxHeartbeats 1000000 in
/-- One trip of the loop over the later queries takes one more tile of them: what it carries, and what it leaves in the
    block of the queries' gradient. -/
theorem trip_value (R : Reads Q K V O L D (i 1).val arg2 arg3 arg4 arg5 arg6 arg7 X_arg2 X_arg3 X_arg4 X_arg5 X_arg6 X_arg7) (k : Fin (k0_t1_loop i).trips)
    {acc : FVec Ideal S1024x128 .f32 × FVec Ideal S1024x128 .f32 × FVec Ideal S1024x128 .f32 × FVec Ideal S1024x128 .f32}
    (f : BufTy.Contents (Elt Ideal) arg8.view.ty)
    (hacc : Carried Q K V O L D (i 1).val (1024 * (i 1).val + 1024 * k.val + 1024) acc)
    (hf : Holds (arg8.view.read (Elt Ideal) f) fun h t c => dqPart Q K V O L D (i 1).val (1024 * (i 1).val + 1024 * k.val + 1024) h t c) :
    Carried Q K V O L D (i 1).val (1024 * (i 1).val + 1024 * k.val + 1024 + 1024)
        (tripR_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 k acc f)
      ∧ Holds (arg8.view.read (Elt Ideal) (arg8.view.writes (Elt Ideal) f (tripL_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 k acc f)))
          fun h t c => dqPart Q K V O L D (i 1).val (1024 * (i 1).val + 1024 * k.val + 1024 + 1024) h t c := by
  have hn : 1024 * (i 1).val + 1024 * k.val + 1024 = 1024 * ((i 1).val + k.val + 1) := by omega
  have hle : 1024 * (i 1).val + 1024 ≤ 1024 * (i 1).val + 1024 * k.val + 1024 := by omega
  have H0 := R.head0 hn (hK.k0_off7_inb i k) (hK.k0_off8_inb i k) (hK.k0_off9_inb i k) inb_S2x1024x128_S1x1024x128_0_0_0 inb_S2x1024x128_S1x1024x128_0_0_0
    (k0_off7_eq i k) (k0_off8_eq i k) (k0_off9_eq i k) rfl
  have H1 := R.head1 hn (hK.k0_off10_inb i k) (hK.k0_off11_inb i k) (hK.k0_off12_inb i k) inb_S2x1024x128_S1x1024x128_1_0_0 inb_S2x1024x128_S1x1024x128_1_0_0
    (k0_off10_eq i k) (k0_off11_eq i k) (k0_off12_eq i k) rfl
  unfold tripR_k0_t1 tripL_k0_t1 trip_k0_t1
  dsimp only
  refine ⟨⟨?_, ?_, ?_, ?_⟩, ?_⟩
  · exact H0.keys (H0.weights hle) hacc.k0
  · exact H0.values hle hacc.v0
  · exact H1.keys (H1.weights hle) hacc.k1
  · exact H1.values hle hacc.v1
  · rw [View.read_writes_cons_put _ _ _ _ _ rfl, View.read_writes_cons_put _ _ _ _ _ rfl, View.writes_nil]
    have w0 := H0.queries (H0.weights hle) (load_single _ _ hf (hK.k0_off7_inb i k) (k0_off7_eq i k))
    have w1 := H1.queries (H1.weights hle) (load_single _ _ hf (hK.k0_off10_inb i k) (k0_off10_eq i k))
    exact (two_tiles Q K V O L D (j := (i 1).val) hf (k0_off7_eq i k) (k0_off10_eq i k) w0 w1).congr fun a t c _ _ _ => (dqPart_tile Q K V O L D).symm

end Cert.KernelIdeal.Body
end
-- ==== Proof.Values.lean ====
/- The values of the body's run on one tile of keys, over the reals. -/
module

public import proofs.«01_k».proof.Proof.Gen.KernelIdeal.Skeleton
public import proofs.«01_k».proof.Proof.Steps
public import proofs.«01_k».proof.Proof.Outputs
public import proofs.«01_k».proof.Proof.Gen.KernelIdeal.Loops
public import Idealize.ShloMosaic.Lib.VecWindow

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

open Idealize.SL Idealize.SL.RA Idealize.SL.BI
open Idealize.SL.Sem

variable [hK : Cert.KernelIdeal.Facts]

/-- The loop over the later queries takes the rest of the eight tiles. -/
theorem later_trips : ∀ i : grid0.Coords, (k0_t1_loop i).trips = 7 - (i 1).val := by decide +kernel

/-- The remainder loop takes none. -/
theorem rest_trips : ∀ i : grid0.Coords, (k0_t2_loop i).trips = 0 := by decide +kernel

variable (Q K V O : ℕ → ℕ → ℕ → ℝ) (L D : ℕ → ℕ → ℝ)
variable (𝒱 : Variants) (c : Dev nD) (bd : Option 𝒱.V) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole)

section
variable (v4 : BitVec 32) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty)

/-- The loop over the later queries: after `n` trips the tiles up to the `n`-th after the diagonal have been taken. -/
theorem loop_value (R : Reads Q K V O L D (i 1).val arg2 arg3 arg4 arg5 arg6 arg7 X_arg2 X_arg3 X_arg4 X_arg5 X_arg6 X_arg7) (G : BufTy.Contents (Elt Ideal) arg8.view.ty)
    (init : FVec Ideal S1024x128 .f32 × FVec Ideal S1024x128 .f32 × FVec Ideal S1024x128 .f32 × FVec Ideal S1024x128 .f32)
    (hacc : Carried Q K V O L D (i 1).val (1024 * (i 1).val + 1024) init)
    (hG : Holds (arg8.view.read (Elt Ideal) G) fun h t c => dqPart Q K V O L D (i 1).val (1024 * (i 1).val + 1024) h t c) :
    ∀ n, n ≤ (k0_t1_loop i).trips →
      Carried Q K V O L D (i 1).val (1024 * (i 1).val + 1024 * n + 1024)
          (st_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init n).1
        ∧ Holds (arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init n).2))
            fun h t c => dqPart Q K V O L D (i 1).val (1024 * (i 1).val + 1024 * n + 1024) h t c := by
  intro n
  induction n with
  | zero => exact fun _ => ⟨hacc, hG⟩
  | succ n ih =>
    intro hn
    obtain ⟨h1, h2⟩ := ih (by omega)
    have hs := trip_value Q K V O L D 𝒱 c bd i arg2 harg2 arg3 harg3 arg4 harg4 arg5 harg5 arg6 harg6 arg7 harg7 arg8 harg8 arg9 harg9 arg10 harg10 v4 X_arg2 X_arg3 X_arg4 X_arg5 X_arg6 X_arg7 R ⟨n, by omega⟩ _ h1 h2
    have e := st_k0_t1_succ (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init ⟨n, by omega⟩
    rw [show 1024 * (i 1).val + 1024 * (n + 1) + 1024 = 1024 * (i 1).val + 1024 * n + 1024 + 1024 by ring]
    have e' : st_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init (n + 1) = _ := e
    rw [e']
    refine ⟨hs.1, ?_⟩
    dsimp only
    rw [View.writes_append]
    exact hs.2

/-- The remainder loop changes nothing. -/
theorem rest_nil (G : BufTy.Contents (Elt Ideal) arg8.view.ty) (init : FVec Ideal S1024x128 .f32 × FVec Ideal S1024x128 .f32 × FVec Ideal S1024x128 .f32 × FVec Ideal S1024x128 .f32) :
    st_k0_t2 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init (k0_t2_loop i).trips = (init, []) := by
  rw [rest_trips]; rfl

/-- After the loop every tile of queries has been taken. -/
theorem loop_end (R : Reads Q K V O L D (i 1).val arg2 arg3 arg4 arg5 arg6 arg7 X_arg2 X_arg3 X_arg4 X_arg5 X_arg6 X_arg7) (G : BufTy.Contents (Elt Ideal) arg8.view.ty)
    (init : FVec Ideal S1024x128 .f32 × FVec Ideal S1024x128 .f32 × FVec Ideal S1024x128 .f32 × FVec Ideal S1024x128 .f32)
    (hacc : Carried Q K V O L D (i 1).val (1024 * (i 1).val + 1024) init)
    (hG : Holds (arg8.view.read (Elt Ideal) G) fun h t c => dqPart Q K V O L D (i 1).val (1024 * (i 1).val + 1024) h t c) :
      Carried Q K V O L D (i 1).val 8192
          (st_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init (k0_t1_loop i).trips).1
        ∧ Holds (arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 v4 X_arg2 X_arg3 X_arg4 X_arg5 X_arg6 X_arg7 G init (k0_t1_loop i).trips).2))
            fun h t c => dqSum Q K V O L D ((i 1).val + 1) h t c := by
  have h := loop_value Q K V O L D 𝒱 c bd i arg2 harg2 arg3 harg3 arg4 harg4 arg5 harg5 arg6 harg6 arg7 harg7 arg8 harg8 arg9 harg9 arg10 harg10 v4 X_arg2 X_arg3 X_arg4 X_arg5 X_arg6 X_arg7 R G init hacc hG _ le_rfl
  have e : 1024 * (i 1).val + 1024 * (k0_t1_loop i).trips + 1024 = 8192 := by
    have := later_trips i
    have h1 : (i 1).val < 8 := (i 1).isLt
    omega
  rw [e] at h
  exact ⟨h.1, h.2.congr fun a t c _ ht _ => dqPart_all Q K V O L D ht⟩

end

section
variable {Q K V O L D}
variable {h a : ℕ} {q : Vec Ideal S1x1024x128 .bf16} {o : Vec Ideal S1024x128 .bf16} {l dl : Vec Ideal S1x1x1x1024 .f32} {k v : Vec Ideal S1x1024x128 .bf16}

/-- The keys' gradient after the diagonal tile. -/
theorem HeadTile.keys_diag (H : HeadTile Q K V O L D h a a q o l dl k v) :
    IsTile (k0_pay40 (F := Ideal) k0_pay34 (k0_pay35 q) (k0_pay36 q k l) (k0_pay38 o v) dl) fun r c => dkSum Q K V O L D (a + 1024) h (a + r) c :=
  H.keys H.weights_diag fun r c => (zero_tile_apply r c).trans (congrArg Real.toEReal (dkSum_of_le Q K V O L D (by omega)).symm)

/-- The values' gradient after the diagonal tile. -/
theorem HeadTile.values_diag (H : HeadTile Q K V O L D h a a q o l dl k v) :
    IsTile (k0_pay37 (F := Ideal) q o k l) fun r c => dvSum Q K O L (a + 1024) h (a + r) c := fun r c =>
  (first_v_apply (P := fun r x => Wt Q K L h (a + r) (a + x)) (o := fun x d => O h (a + x) d) H.weights_diag H.o r c).trans
    (congrArg Real.toEReal (by dsimp only; rw [dvSum_tile, dvSum_of_le Q K O L (by omega), zero_add]))

/-- The values' gradient after the diagonal tile, as the other head of the pair computes it. -/
theorem HeadTile.values_diag' (H : HeadTile Q K V O L D h a a q o l dl k v) :
    IsTile (k0_pay45 (F := Ideal) k0_pay34 o (k0_pay43 q k) l) fun r c => dvSum Q K O L (a + 1024) h (a + r) c := fun r c =>
  (first_v_apply' (P := fun r x => Wt Q K L h (a + r) (a + x)) (o := fun x d => O h (a + x) d) H.weights_diag H.o r c).trans
    (congrArg Real.toEReal (by dsimp only; rw [dvSum_tile, dvSum_of_le Q K O L (by omega), zero_add]))

end

/-- A block of a tile's gradient after both heads' tiles have been stored in it. -/
theorem both_heads (X : S2x1024x128.Idx → EReal) {off0 off1 : Fin 3 → ℕ} (h0 : off0 = ![0, 0, 0]) (h1 : off1 = ![1, 0, 0])
    {w0 w1 : S1x1024x128.Idx → EReal} {W : ℕ → ℕ → ℕ → ℝ}
    (hw0 : ∀ (x : Fin 1024) (c : Fin 128), w0 (ix3 0 x c) = ((W 0 x.val c.val : ℝ) : EReal))
    (hw1 : ∀ (x : Fin 1024) (c : Fin 128), w1 (ix3 0 x c) = ((W 1 x.val c.val : ℝ) : EReal)) :
    Holds (VecWindow.put (s := S2x1024x128) (VecWindow.put (s := S2x1024x128) X off0 S1x1024x128.size w0) off1 S1x1024x128.size w1) W := by
  subst h0 h1
  intro y
  have y0 : (y 0).val < 2 := (y 0).isLt
  have y1 : (y 1).val < 1024 := (y 1).isLt
  have y2 : (y 2).val < 128 := (y 2).isLt
  have inside : ∀ h : ℕ, (y 0).val = h → ∀ a, (![h, 0, 0] : Fin 3 → ℕ) a ≤ (y a).val ∧ (y a).val < (![h, 0, 0] : Fin 3 → ℕ) a + S1x1024x128.size a := by
    intro h hy a
    match a with
    | ⟨0, _⟩ => exact ⟨le_of_eq hy.symm, by show (y 0).val < h + 1; omega⟩
    | ⟨1, _⟩ => exact ⟨Nat.zero_le _, by show (y 1).val < 0 + 1024; omega⟩
    | ⟨2, _⟩ => exact ⟨Nat.zero_le _, by show (y 2).val < 0 + 128; omega⟩
  have local_eq : ∀ (h : ℕ) (hin : ∀ a, (![h, 0, 0] : Fin 3 → ℕ) a ≤ (y a).val ∧ (y a).val < (![h, 0, 0] : Fin 3 → ℕ) a + S1x1024x128.size a),
      (y 0).val = h → Rect.unitLocal (s := S2x1024x128) (off := ![h, 0, 0]) (size := S1x1024x128.size) y hin = ix3 (n0 := 1) 0 ⟨(y 1).val, y1⟩ ⟨(y 2).val, y2⟩ := by
    intro h hin hy
    funext a
    refine Fin.ext ?_
    match a with
    | ⟨0, _⟩ => show (y 0).val - h = 0; omega
    | ⟨1, _⟩ => rfl
    | ⟨2, _⟩ => rfl
  unfold VecWindow.put
  by_cases hy : (y 0).val = 1
  · rw [dif_pos (inside 1 hy)]
    refine (congrArg w1 (local_eq 1 _ hy)).trans ((hw1 _ _).trans ?_)
    rw [hy]
  · have hy0 : (y 0).val = 0 := by omega
    rw [dif_neg (fun hin => hy (by have h0 : 1 ≤ (y 0).val ∧ (y 0).val < 1 + 1 := hin 0; omega)), dif_pos (inside 0 hy0)]
    refine (congrArg w0 (local_eq 0 _ hy0)).trans ((hw0 _ _).trans ?_)
    rw [hy0]

/-- The second head's keys' gradient is stored as the first's. -/
theorem pay9_eq : k0_pay9 (F := Ideal) = k0_pay7 (F := Ideal) := rfl

/-- The second head's values' gradient is stored as the first's. -/
theorem pay10_eq : k0_pay10 (F := Ideal) = k0_pay8 (F := Ideal) := rfl

/-- An empty loop keeps what is carried. -/
theorem carried_of_rest {j n : ℕ} {acc : FVec Ideal S1024x128 .f32 × FVec Ideal S1024x128 .f32 × FVec Ideal S1024x128 .f32 × FVec Ideal S1024x128 .f32} {S : (FVec Ideal S1024x128 .f32 × FVec Ideal S1024x128 .f32 × FVec Ideal S1024x128 .f32 × FVec Ideal S1024x128 .f32) × List (View.Piece (Elt Ideal) S2x8192x128 .f32)}
    (h : S = (acc, [])) (hC : Carried Q K V O L D j n acc) : Carried Q K V O L D j n S.1 := by
  subst h; exact hC

variable (x0 : Vec Ideal S2x8x1x1024 .f32) (x1 : Vec Ideal S2x8192x128 .bf16) (x2 : Vec Ideal S8192x256 .bf16) (x3 : Vec Ideal S2x8x1x1024 .f32) (x4 : Vec Ideal S2x1024x128 .bf16) (x5 : Vec Ideal S2x1024x128 .bf16) (x6 : Vec Ideal S2x8192x128 .f32) (x7 : Vec Ideal S2x1024x128 .f32) (x8 : Vec Ideal S2x1024x128 .f32)

set_option maxHeartbeats 1000000 in
/-- The state after the loops on a later tile: what is carried, and the block of the queries' gradient. -/
theorem later_state (hc0 : ¬FirstTile i) (R : Reads Q K V O L D (i 1).val arg2 arg3 arg4 arg5 arg6 arg7 (harg2.unread x0) (harg3.unread x1) (harg4.unread x2) (harg5.unread x3) (harg6.unread x4) (harg7.unread x5)) (h6 : Holds x6 fun h t c => dqSum Q K V O L D (i 1).val h t c) :
    Carried Q K V O L D (i 1).val 8192 (laterLoop (F := Ideal) c i arg2 harg2 arg3 harg3 arg4 harg4 arg5 harg5 arg6 harg6 arg7 harg7 arg8 harg8 arg9 harg9 arg10 harg10 x0 x1 x2 x3 x4 x5 x6).1
      ∧ Holds (arg8.view.read (Elt Ideal) (arg8.view.writes (Elt Ideal) (arg8.view.writes (Elt Ideal) (harg8.unread x6) (laterDiag (F := Ideal) c i arg2 harg2 arg3 harg3 arg4 harg4 arg5 harg5 arg6 harg6 arg7 harg7 arg8 harg8 arg9 harg9 arg10 harg10 x0 x1 x2 x3 x4 x5 x6)) (laterLoop (F := Ideal) c i arg2 harg2 arg3 harg3 arg4 harg4 arg5 harg5 arg6 harg6 arg7 harg7 arg8 harg8 arg9 harg9 arg10 harg10 x0 x1 x2 x3 x4 x5 x6).2))
          (fun h t c => dqSum Q K V O L D ((i 1).val + 1) h t c)
      ∧ laterRest (F := Ideal) c i arg2 harg2 arg3 harg3 arg4 harg4 arg5 harg5 arg6 harg6 arg7 harg7 arg8 harg8 arg9 harg9 arg10 harg10 x0 x1 x2 x3 x4 x5 x6 = ((laterLoop (F := Ideal) c i arg2 harg2 arg3 harg3 arg4 harg4 arg5 harg5 arg6 harg6 arg7 harg7 arg8 harg8 arg9 harg9 arg10 harg10 x0 x1 x2 x3 x4 x5 x6).1, []) := by
  have H0 := R.head0 (n := 1024 * (i 1).val) (b := (i 1).val) rfl (hK.k0_off1_inb i) (hK.k0_off2_inb i) (hK.k0_off3_inb i) inb_S2x1024x128_S1x1024x128_0_0_0 inb_S2x1024x128_S1x1024x128_0_0_0
    (k0_off1_eq i) (k0_off2_eq i) (k0_off3_eq i) rfl
  have H1 := R.head1 (n := 1024 * (i 1).val) (b := (i 1).val) rfl (hK.k0_off4_inb i) (hK.k0_off5_inb i) (hK.k0_off6_inb i) inb_S2x1024x128_S1x1024x128_1_0_0 inb_S2x1024x128_S1x1024x128_1_0_0
    (k0_off4_eq i) (k0_off5_eq i) (k0_off6_eq i) rfl
  have h6' : Holds (arg8.view.read (Elt Ideal) (harg8.unread x6)) fun h t c => dqPart Q K V O L D (i 1).val (1024 * (i 1).val) h t c := by
    rw [harg8.read_unread]
    exact h6.congr fun a t c _ _ _ => (dqPart_start Q K V O L D).symm
  have w0 := H0.queries H0.weights_diag (load_single _ _ h6' (hK.k0_off1_inb i) (k0_off1_eq i))
  have hG : Holds (arg8.view.read (Elt Ideal) (arg8.view.writes (Elt Ideal) (harg8.unread x6) (laterDiag (F := Ideal) c i arg2 harg2 arg3 harg3 arg4 harg4 arg5 harg5 arg6 harg6 arg7 harg7 arg8 harg8 arg9 harg9 arg10 harg10 x0 x1 x2 x3 x4 x5 x6))) fun h t c => dqPart Q K V O L D (i 1).val (1024 * (i 1).val + 1024) h t c := by
    unfold laterDiag
    rw [View.read_writes_cons_put _ _ _ _ _ rfl, View.read_writes_cons_put _ _ _ _ _ rfl, View.writes_nil]
    refine (two_tiles Q K V O L D (j := (i 1).val) h6' (k0_off1_eq i) (k0_off4_eq i) w0 ?_).congr fun a t c _ _ _ => (dqPart_tile Q K V O L D).symm
    exact H1.queries H1.weights_diag (load_single _ _ h6' (hK.k0_off4_inb i) (k0_off4_eq i))
  have hI : Carried Q K V O L D (i 1).val (1024 * (i 1).val + 1024) (laterInit (F := Ideal) c i arg2 harg2 arg3 harg3 arg4 harg4 arg5 harg5 arg6 harg6 arg7 harg7 arg8 harg8 arg9 harg9 arg10 harg10 x0 x1 x2 x3 x4 x5) := by
    unfold laterInit
    exact ⟨H0.keys_diag, H0.values_diag, H1.keys_diag, H1.values_diag'⟩
  have hL := loop_end Q K V O L D Variants.none c none i arg2 harg2 arg3 harg3 arg4 harg4 arg5 harg5 arg6 harg6 arg7 harg7 arg8 harg8 arg9 harg9 arg10 harg10 (runLater.sl.v4 i) (harg2.unread x0) (harg3.unread x1) (harg4.unread x2) (harg5.unread x3) (harg6.unread x4) (harg7.unread x5) R _ _ hI hG
  refine ⟨?_, ?_, ?_⟩
  · unfold laterLoop; exact hL.1
  · unfold laterLoop; exact hL.2
  · unfold laterRest; exact rest_nil Variants.none c none i arg2 harg2 arg3 harg3 arg4 harg4 arg5 harg5 arg6 harg6 arg7 harg7 arg8 harg8 arg9 harg9 arg10 harg10 _ _ _ _ _ _ _ _ _

/-- The run on a later tile of keys: the block of the queries' gradient has the tile added, and the two blocks of the
    tile's own gradients hold their sums over all queries. -/
theorem later_value (hc0 : ¬FirstTile i) (R : Reads Q K V O L D (i 1).val arg2 arg3 arg4 arg5 arg6 arg7 (harg2.unread x0) (harg3.unread x1) (harg4.unread x2) (harg5.unread x3) (harg6.unread x4) (harg7.unread x5)) (h6 : Holds x6 fun h t c => dqSum Q K V O L D (i 1).val h t c) :
    Holds (runLater (F := Ideal) c i arg2 harg2 arg3 harg3 arg4 harg4 arg5 harg5 arg6 harg6 arg7 harg7 arg8 harg8 arg9 harg9 arg10 harg10 hc0 x0 x1 x2 x3 x4 x5 x6 x7 x8).1 (fun h t c => dqSum Q K V O L D ((i 1).val + 1) h t c)
      ∧ Holds (runLater (F := Ideal) c i arg2 harg2 arg3 harg3 arg4 harg4 arg5 harg5 arg6 harg6 arg7 harg7 arg8 harg8 arg9 harg9 arg10 harg10 hc0 x0 x1 x2 x3 x4 x5 x6 x7 x8).2.1 (fun h r c => dkSum Q K V O L D 8192 h (1024 * (i 1).val + r) c * scale)
      ∧ Holds (runLater (F := Ideal) c i arg2 harg2 arg3 harg3 arg4 harg4 arg5 harg5 arg6 harg6 arg7 harg7 arg8 harg8 arg9 harg9 arg10 harg10 hc0 x0 x1 x2 x3 x4 x5 x6 x7 x8).2.2.1 (fun h r c => dvSum Q K O L 8192 h (1024 * (i 1).val + r) c) := by
  obtain ⟨hC, hH, hR⟩ := later_state Q K V O L D c i arg2 harg2 arg3 harg3 arg4 harg4 arg5 harg5 arg6 harg6 arg7 harg7 arg8 harg8 arg9 harg9 arg10 harg10 x0 x1 x2 x3 x4 x5 x6 hc0 R h6
  have hC' := carried_of_rest Q K V O L D hR hC
  refine ⟨?_, ?_, ?_⟩
  · rw [later_out6, hR, List.nil_append, View.writes_append]
    exact hH
  · rw [later_out7, pay9_eq, View.read_writes_cons_put _ _ _ _ _ rfl, View.read_writes_cons_put _ _ _ _ _ rfl]
    exact both_heads _ rfl rfl (W := fun h r c => dkSum Q K V O L D 8192 h (1024 * (i 1).val + r) c * scale)
      (store_k_apply (A := fun r c => dkSum Q K V O L D 8192 0 (1024 * (i 1).val + r) c) hC'.k0) (store_k_apply (A := fun r c => dkSum Q K V O L D 8192 1 (1024 * (i 1).val + r) c) hC'.k1)
  · rw [later_out8, pay10_eq, View.read_writes_cons_put _ _ _ _ _ rfl, View.read_writes_cons_put _ _ _ _ _ rfl]
    exact both_heads _ rfl rfl (W := fun h r c => dvSum Q K O L 8192 h (1024 * (i 1).val + r) c)
      (store_v_apply (A := fun r c => dvSum Q K O L 8192 0 (1024 * (i 1).val + r) c) hC'.v0) (store_v_apply (A := fun r c => dvSum Q K O L 8192 1 (1024 * (i 1).val + r) c) hC'.v1)

set_option maxHeartbeats 1000000 in
/-- The state after the loops on a first tile: what is carried, and the block of the queries' gradient. -/
theorem first_state (hc0 : FirstTile i) (hi : (i 1).val = 0) (R : Reads Q K V O L D (i 1).val arg2 arg3 arg4 arg5 arg6 arg7 (harg2.unread x0) (harg3.unread x1) (harg4.unread x2) (harg5.unread x3) (harg6.unread x4) (harg7.unread x5)) :
    Carried Q K V O L D (i 1).val 8192 (firstLoop (F := Ideal) c i arg2 harg2 arg3 harg3 arg4 harg4 arg5 harg5 arg6 harg6 arg7 harg7 arg8 harg8 arg9 harg9 arg10 harg10 x0 x1 x2 x3 x4 x5).1
      ∧ Holds (arg8.view.read (Elt Ideal) (arg8.view.writes (Elt Ideal) (arg8.view.writes (Elt Ideal) arg8.view.junk (firstDiag (F := Ideal) c i arg2 harg2 arg3 harg3 arg4 harg4 arg5 harg5 arg6 harg6 arg7 harg7 arg8 harg8 arg9 harg9 arg10 harg10 x0 x1 x2 x3 x4 x5)) (firstLoop (F := Ideal) c i arg2 harg2 arg3 harg3 arg4 harg4 arg5 harg5 arg6 harg6 arg7 harg7 arg8 harg8 arg9 harg9 arg10 harg10 x0 x1 x2 x3 x4 x5).2))
          (fun h t c => dqSum Q K V O L D ((i 1).val + 1) h t c)
      ∧ firstRest (F := Ideal) c i arg2 harg2 arg3 harg3 arg4 harg4 arg5 harg5 arg6 harg6 arg7 harg7 arg8 harg8 arg9 harg9 arg10 harg10 x0 x1 x2 x3 x4 x5 = ((firstLoop (F := Ideal) c i arg2 harg2 arg3 harg3 arg4 harg4 arg5 harg5 arg6 harg6 arg7 harg7 arg8 harg8 arg9 harg9 arg10 harg10 x0 x1 x2 x3 x4 x5).1, []) := by
  have H0 := R.head0 (n := 1024 * (i 1).val) (b := (i 1).val) rfl (hK.k0_off1_inb i) (hK.k0_off2_inb i) (hK.k0_off3_inb i) inb_S2x1024x128_S1x1024x128_0_0_0 inb_S2x1024x128_S1x1024x128_0_0_0
    (k0_off1_eq i) (k0_off2_eq i) (k0_off3_eq i) rfl
  have H1 := R.head1 (n := 1024 * (i 1).val) (b := (i 1).val) rfl (hK.k0_off4_inb i) (hK.k0_off5_inb i) (hK.k0_off6_inb i) inb_S2x1024x128_S1x1024x128_1_0_0 inb_S2x1024x128_S1x1024x128_1_0_0
    (k0_off4_eq i) (k0_off5_eq i) (k0_off6_eq i) rfl
  have h6' : Holds (arg8.view.read (Elt Ideal) (arg8.view.writes (Elt Ideal) arg8.view.junk runFirst.sl.H6_1)) fun h t c => dqPart Q K V O L D (i 1).val (1024 * (i 1).val) h t c := by
    unfold runFirst.sl.H6_1
    rw [View.read_writes_full]
    intro y
    refine (zero_apply y).trans (congrArg Real.toEReal ?_)
    dsimp only
    rw [dqPart_start, hi]
    rfl
  have w0 := H0.queries H0.weights_diag (load_single _ _ h6' (hK.k0_off1_inb i) (k0_off1_eq i))
  have hG : Holds (arg8.view.read (Elt Ideal) (arg8.view.writes (Elt Ideal) arg8.view.junk (firstDiag (F := Ideal) c i arg2 harg2 arg3 harg3 arg4 harg4 arg5 harg5 arg6 harg6 arg7 harg7 arg8 harg8 arg9 harg9 arg10 harg10 x0 x1 x2 x3 x4 x5))) fun h t c => dqPart Q K V O L D (i 1).val (1024 * (i 1).val + 1024) h t c := by
    unfold firstDiag runFirst.sl.H6_2
    rw [View.read_writes_cons_put _ _ _ _ _ rfl, View.read_writes_cons_put _ _ _ _ _ rfl]
    refine (two_tiles Q K V O L D (j := (i 1).val) h6' (k0_off1_eq i) (k0_off4_eq i) w0 ?_).congr fun a t c _ _ _ => (dqPart_tile Q K V O L D).symm
    have h62 : Holds (arg8.view.read (Elt Ideal) (arg8.view.writes (Elt Ideal) arg8.view.junk (runFirst.sl.H6_2 (F := Ideal) c i arg2 harg2 arg3 harg3 arg4 harg4 arg5 harg5 arg6 harg6 arg7 harg7 arg8 x0 x1 x2 x3 x4 x5))) fun a t d =>
        if a = 0 ∧ 1024 * (i 1).val ≤ t ∧ t < 1024 * (i 1).val + 1024 then dqPart Q K V O L D (i 1).val (1024 * (i 1).val) 0 (1024 * (i 1).val + (t - 1024 * (i 1).val)) d + dqTile Q K V O L D (i 1).val 0 (1024 * (i 1).val + (t - 1024 * (i 1).val)) d
        else dqPart Q K V O L D (i 1).val (1024 * (i 1).val) a t d := by
      unfold runFirst.sl.H6_2
      rw [View.read_writes_cons_put _ _ _ _ _ rfl]
      exact put_holds (W := fun x d => dqPart Q K V O L D (i 1).val (1024 * (i 1).val) 0 (1024 * (i 1).val + x) d + dqTile Q K V O L D (i 1).val 0 (1024 * (i 1).val + x) d) h6' (k0_off1_eq i) w0
    exact H1.queries (G := fun h t c => dqPart Q K V O L D (i 1).val (1024 * (i 1).val) h t c) H1.weights_diag fun x d =>
      (load_single _ _ h62 (hK.k0_off4_inb i) (k0_off4_eq i) x d).trans (congrArg Real.toEReal (if_neg (by omega)))
  have hI : Carried Q K V O L D (i 1).val (1024 * (i 1).val + 1024) (firstInit (F := Ideal) c i arg2 harg2 arg3 harg3 arg4 harg4 arg5 harg5 arg6 harg6 arg7 harg7 arg8 harg8 arg9 harg9 arg10 harg10 x0 x1 x2 x3 x4 x5) := by
    unfold firstInit
    exact ⟨H0.keys_diag, H0.values_diag, H1.keys_diag, H1.values_diag'⟩
  have hL := loop_end Q K V O L D Variants.none c none i arg2 harg2 arg3 harg3 arg4 harg4 arg5 harg5 arg6 harg6 arg7 harg7 arg8 harg8 arg9 harg9 arg10 harg10 (runFirst.sl.v4 i) (harg2.unread x0) (harg3.unread x1) (harg4.unread x2) (harg5.unread x3) (harg6.unread x4) (harg7.unread x5) R _ _ hI hG
  refine ⟨?_, ?_, ?_⟩
  · unfold firstLoop; exact hL.1
  · unfold firstLoop; exact hL.2
  · unfold firstRest; exact rest_nil Variants.none c none i arg2 harg2 arg3 harg3 arg4 harg4 arg5 harg5 arg6 harg6 arg7 harg7 arg8 harg8 arg9 harg9 arg10 harg10 _ _ _ _ _ _ _ _ _

/-- The run on the first tile of keys: the block of the queries' gradient holds the tile's share alone, and the two blocks
    of the tile's own gradients hold their sums over all queries. -/
theorem first_value (hc0 : FirstTile i) (hi : (i 1).val = 0) (R : Reads Q K V O L D (i 1).val arg2 arg3 arg4 arg5 arg6 arg7 (harg2.unread x0) (harg3.unread x1) (harg4.unread x2) (harg5.unread x3) (harg6.unread x4) (harg7.unread x5)) :
    Holds (runFirst (F := Ideal) c i arg2 harg2 arg3 harg3 arg4 harg4 arg5 harg5 arg6 harg6 arg7 harg7 arg8 harg8 arg9 harg9 arg10 harg10 hc0 x0 x1 x2 x3 x4 x5 x6 x7 x8).1 (fun h t c => dqSum Q K V O L D ((i 1).val + 1) h t c)
      ∧ Holds (runFirst (F := Ideal) c i arg2 harg2 arg3 harg3 arg4 harg4 arg5 harg5 arg6 harg6 arg7 harg7 arg8 harg8 arg9 harg9 arg10 harg10 hc0 x0 x1 x2 x3 x4 x5 x6 x7 x8).2.1 (fun h r c => dkSum Q K V O L D 8192 h (1024 * (i 1).val + r) c * scale)
      ∧ Holds (runFirst (F := Ideal) c i arg2 harg2 arg3 harg3 arg4 harg4 arg5 harg5 arg6 harg6 arg7 harg7 arg8 harg8 arg9 harg9 arg10 harg10 hc0 x0 x1 x2 x3 x4 x5 x6 x7 x8).2.2.1 (fun h r c => dvSum Q K O L 8192 h (1024 * (i 1).val + r) c) := by
  obtain ⟨hC, hH, hR⟩ := first_state Q K V O L D c i arg2 harg2 arg3 harg3 arg4 harg4 arg5 harg5 arg6 harg6 arg7 harg7 arg8 harg8 arg9 harg9 arg10 harg10 x0 x1 x2 x3 x4 x5 hc0 hi R
  have hC' := carried_of_rest Q K V O L D hR hC
  refine ⟨?_, ?_, ?_⟩
  · rw [first_out6, hR, List.nil_append, View.writes_append]
    exact hH
  · rw [first_out7, pay9_eq, View.read_writes_cons_put _ _ _ _ _ rfl, View.read_writes_cons_put _ _ _ _ _ rfl]
    exact both_heads _ rfl rfl (W := fun h r c => dkSum Q K V O L D 8192 h (1024 * (i 1).val + r) c * scale)
      (store_k_apply (A := fun r c => dkSum Q K V O L D 8192 0 (1024 * (i 1).val + r) c) hC'.k0) (store_k_apply (A := fun r c => dkSum Q K V O L D 8192 1 (1024 * (i 1).val + r) c) hC'.k1)
  · rw [first_out8, pay10_eq, View.read_writes_cons_put _ _ _ _ _ rfl, View.read_writes_cons_put _ _ _ _ _ rfl]
    exact both_heads _ rfl rfl (W := fun h r c => dvSum Q K O L 8192 h (1024 * (i 1).val + r) c)
      (store_v_apply (A := fun r c => dvSum Q K O L 8192 0 (1024 * (i 1).val + r) c) hC'.v0) (store_v_apply (A := fun r c => dvSum Q K O L 8192 1 (1024 * (i 1).val + r) c) hC'.v1)

end Cert.KernelIdeal.Body
end
-- ==== Proof.Softmax.lean ====
/- The rows of weights of causal attention over the reals: scores, their maximum and their log-sum-exp; the weights
   recomputed from the log-sum-exp are the row's softmax. Also the same rows read from extended reals. -/
module

public import proofs.«01_k».proof.Proof.Payloads

@[expose] public section

noncomputable section

namespace Cert.KernelIdeal.Body

open Finset Idealize.ShloMosaic

variable (Q K V O : ℕ → ℕ → ℕ → ℝ)

/-- The scaled score of the key `k` for the query `q`. -/
def Sc (h q k : ℕ) : ℝ := (∑ d ∈ range 128, Q h q d * K h k d) * scale

/-- The greatest score among the keys up to the query. -/
def Mx (h q : ℕ) : ℝ := (range (q + 1)).sup' ⟨0, by simp⟩ (Sc Q K h q)

/-- The exponential of a score against the row's greatest, zero for a key after the query. -/
def Ex (h q k : ℕ) : ℝ := if k ≤ q then Real.exp (Sc Q K h q k - Mx Q K h q) else 0

/-- The row's sum of exponentials. -/
def Ls (h q : ℕ) : ℝ := ∑ k ∈ range 8192, Ex Q K h q k

/-- The row's softmax. -/
def Pr (h q k : ℕ) : ℝ := Ex Q K h q k / Ls Q K h q

/-- The row's base-two log-sum-exp. -/
def lse2 (h q : ℕ) : ℝ := (Mx Q K h q + Real.log (Ls Q K h q)) * (1 / Real.log 2)

/-- The product of the output's gradient at a query with the value of a key. -/
def dP (h q k : ℕ) : ℝ := ∑ d ∈ range 128, O h q d * V h k d

/-- The product of the output's gradient with the output, at a query. -/
def dlt (h q : ℕ) : ℝ := ∑ d ∈ range 128, O h q d * ∑ k ∈ range 8192, Pr Q K h q k * V h k d

theorem Ex_nonneg (h q k : ℕ) : 0 ≤ Ex Q K h q k := by
  unfold Ex
  split_ifs
  · exact (Real.exp_pos _).le
  · exact le_rfl

theorem Ls_pos {h q : ℕ} (hq : q < 8192) : 0 < Ls Q K h q := by
  refine sum_pos' (fun k _ => Ex_nonneg Q K h q k) ⟨0, by simp, ?_⟩
  unfold Ex
  rw [if_pos (Nat.zero_le q)]
  exact Real.exp_pos _

/-- The weight recomputed from the log-sum-exp is the softmax. -/
theorem Wt_eq {h q : ℕ} (hq : q < 8192) (k : ℕ) : Wt Q K (lse2 Q K) h k q = Pr Q K h q k := by
  have hL := Ls_pos Q K (h := h) hq
  have h2 : Real.log 2 ≠ 0 := (Real.log_pos one_lt_two).ne'
  unfold Wt Pr Ex
  split_ifs
  · rw [Real.rpow_def_of_pos two_pos]
    have e : Real.log 2 * ((∑ d ∈ range 128, K h k d * Q h q d) * scale2 - lse2 Q K h q)
        = (Sc Q K h q k - Mx Q K h q) - Real.log (Ls Q K h q) := by
      rw [show (∑ d ∈ range 128, K h k d * Q h q d) = ∑ d ∈ range 128, Q h q d * K h k d from sum_congr rfl fun d _ => mul_comm _ _]
      unfold Sc scale2 lse2
      field_simp
      ring
    rw [e, Real.exp_sub, Real.exp_log hL]
  · rw [zero_div]

/-- The output's gradient times the output is the weights' mean of its products with the values. -/
theorem dlt_eq (h q : ℕ) : dlt Q K V O h q = ∑ k ∈ range 8192, Pr Q K h q k * dP V O h q k := by
  unfold dlt dP
  simp only [mul_sum]
  rw [sum_comm]
  exact sum_congr rfl fun k _ => sum_congr rfl fun d _ => by ring

/-- The gradient of a scaled score, as the softmax's own derivative. -/
theorem Sg_eq {h q : ℕ} (hq : q < 8192) (k : ℕ) :
    Sg Q K V O (lse2 Q K) (dlt Q K V O) h k q = Pr Q K h q k * (dP V O h q k - dlt Q K V O h q) := by
  unfold Sg
  rw [Wt_eq Q K hq, show (∑ d ∈ range 128, V h k d * O h q d) = dP V O h q k from sum_congr rfl fun d _ => mul_comm _ _]

/-- The same gradient as the quotient rule writes it. -/
theorem Sg_quotient {h q : ℕ} (hq : q < 8192) (k : ℕ) :
    (if k ≤ q then (dP V O h q k * (1 / Ls Q K h q)
        + -(∑ k' ∈ range 8192, dP V O h q k' * (1 / (Ls Q K h q * Ls Q K h q)) * Ex Q K h q k')) * Ex Q K h q k else 0)
      = Sg Q K V O (lse2 Q K) (dlt Q K V O) h k q := by
  have hL := (Ls_pos Q K (h := h) hq).ne'
  rw [Sg_eq Q K V O hq, dlt_eq]
  by_cases hk : k ≤ q
  · rw [if_pos hk]
    have e : ∑ k' ∈ range 8192, dP V O h q k' * (1 / (Ls Q K h q * Ls Q K h q)) * Ex Q K h q k'
        = (1 / Ls Q K h q) * ∑ k' ∈ range 8192, Pr Q K h q k' * dP V O h q k' := by
      rw [mul_sum]
      refine sum_congr rfl fun k' _ => ?_
      unfold Pr
      field_simp
    rw [e]
    unfold Pr
    field_simp
    ring
  · rw [if_neg hk]
    unfold Pr Ex
    rw [if_neg hk, zero_div, zero_mul]

/-- The queries' gradient, all tiles of keys together. -/
theorem dqSum_all {L D : ℕ → ℕ → ℝ} (h q c : ℕ) :
    dqSum Q K V O L D 8 h q c = ∑ k ∈ range 8192, (Sg Q K V O L D h k q * scale) * K h k c := by
  unfold dqSum dqTile
  rw [← sum_mul]
  have e : ∀ (n : ℕ) (f : ℕ → ℝ), ∑ i ∈ range n, ∑ r ∈ range 1024, f (1024 * i + r) = ∑ k ∈ range (1024 * n), f k := by
    intro n f
    induction n with
    | zero => simp
    | succ n ih => rw [sum_range_succ, ih, Nat.mul_succ, sum_range_add]
  rw [e 8 fun k => Sg Q K V O L D h k q * K h k c, sum_mul]
  exact sum_congr rfl fun k _ => by ring

/-! ## The rows read from extended reals -/

/-- A masked entry: the comparison of two index words is the comparison of the indices. -/
theorem select_le {α : Type} {k q : ℕ} (hk : k < 8192) (hq : q < 8192) (x y : α) :
    Scalar.select (IntOp.cmpi CmpIPredicate.sle (BitVec.ofNat 32 k) (BitVec.ofNat 32 q)) x y = if k ≤ q then x else y := by
  have hc : IntOp.cmpi CmpIPredicate.sle (BitVec.ofNat 32 k) (BitVec.ofNat 32 q) = BitVec.ofBool (decide (k ≤ q)) := by word_cmp
  rw [hc]
  by_cases h : k ≤ q <;> simp [h, Scalar.select]

/-- A product of two rows of real numbers. -/
theorem dot_real {n : ℕ} {x y : Fin n → EReal} {f g : ℕ → ℝ} (hx : ∀ d, x d = ((f d : ℝ) : EReal)) (hy : ∀ d, y d = ((g d : ℝ) : EReal)) :
    ∑ d, x d * y d = ((∑ d ∈ range n, f d * g d : ℝ) : EReal) := by
  simp only [hx, hy, ← EReal.coe_mul]
  exact coe_range_sum n fun d => f d * g d

/-- A sum of real numbers. -/
theorem sum_real {n : ℕ} {x : Fin n → EReal} {f : ℕ → ℝ} (hx : ∀ d, x d = ((f d : ℝ) : EReal)) :
    ∑ d, x d = ((∑ d ∈ range n, f d : ℝ) : EReal) := by
  simp only [hx]
  exact coe_range_sum n f

/-- The greatest of a masked row is the greatest of the entries kept. -/
theorem fold_masked {n q : ℕ} (hq : q < n) {x : Fin n → EReal} {s : ℕ → ℝ}
    (hx : ∀ k, x k = if k.val ≤ q then ((s k : ℝ) : EReal) else ⊥) :
    Finset.fold max (⊥ : EReal) x univ = (((range (q + 1)).sup' ⟨0, by simp⟩ s : ℝ) : EReal) := by
  change univ.sup x = _
  apply le_antisymm
  · refine Finset.sup_le fun k _ => ?_
    rw [hx]
    split_ifs with h
    · exact EReal.coe_le_coe_iff.mpr (le_sup' s (by simp; omega))
    · exact bot_le
  · obtain ⟨i, hi, e⟩ := exists_mem_eq_sup' (s := range (q + 1)) ⟨0, by simp⟩ s
    rw [e]
    have hi' : i ≤ q := by have := mem_range.mp hi; omega
    have := le_sup (f := x) (mem_univ (⟨i, by omega⟩ : Fin n))
    rwa [hx, if_pos hi'] at this

/-- The greatest of a row of masked scores. -/
theorem fold_scores {q : ℕ} (hq : q < 8192) (h : ℕ) :
    Finset.fold max (⊥ : EReal) (fun k : Fin 8192 => if k.val ≤ q then ((Sc Q K h q k : ℝ) : EReal) else ⊥) univ = ((Mx Q K h q : ℝ) : EReal) :=
  fold_masked hq fun _ => rfl

/-- The exponential of a masked score against the row's greatest. -/
theorem exp_masked (h q k : ℕ) :
    Ideal.exp ((if k ≤ q then ((Sc Q K h q k : ℝ) : EReal) else ⊥) - ((Mx Q K h q : ℝ) : EReal)) = ((Ex Q K h q k : ℝ) : EReal) := by
  unfold Ex
  split_ifs
  · rw [← EReal.coe_sub, Ideal.exp_coe]
  · rw [EReal.bot_sub, Ideal.exp_bot, EReal.coe_zero]

/-- A quotient of real numbers. -/
theorem div_real {a b : ℝ} (hb : b ≠ 0) : Ideal.div ((a : ℝ) : EReal) ((b : ℝ) : EReal) = ((a * (1 / b) : ℝ) : EReal) := by
  rw [Ideal.div_coe hb, ← EReal.coe_mul]

end Cert.KernelIdeal.Body
end
-- ==== Proof.Host.lean ====
/- What the program computes before the launch, for arguments whose entries are real numbers: the base-two log-sum-exp
   of every row of scores, and the product of the output's gradient with the output. -/
module

public import proofs.«01_k».proof.Proof.Softmax
public import proofs.«01_k».proof.Proof.Gen.KernelIdeal.Frame
public import Idealize.ShloMosaic.Lib.StableHlo.ReadAt
public import Idealize.ShloMosaic.Lib.StableHlo.RunRead
public import Idealize.ShloMosaic.Lib.Pointwise

@[expose] public section

set_option maxRecDepth 16384

noncomputable section

namespace Cert.KernelIdeal.Body

open Idealize.ShloMosaic Idealize.ShloMosaic.TcCoe Idealize.ShloMosaic.Tactic
open Idealize.ShloMosaic.StableHlo
open Idealize.SL Idealize.SL.Sem
open Cert.KernelIdeal Cert.KernelIdeal.Gen

variable (m : (ℓ : Loc nD τ sig) → Buf (Elt Ideal) ℓ) (c : Dev nD) (Q K V' O : ℕ → ℕ → ℕ → ℝ)

/-- The arguments' entries on a device are real numbers: the queries', keys' and values', and the output's gradient's,
    whose heads lie next to each other. -/
structure Args : Prop where
  q : ∀ (h : Fin 4) (t : Fin 8192) (d : Fin 128), m (c, Proc.tc.devRef main_arg0) (ix3 h t d) = ((Q h t d : ℝ) : EReal)
  k : ∀ (h : Fin 4) (t : Fin 8192) (d : Fin 128), m (c, Proc.tc.devRef main_arg1) (ix3 h t d) = ((K h t d : ℝ) : EReal)
  v : ∀ (h : Fin 4) (t : Fin 8192) (d : Fin 128), m (c, Proc.tc.devRef main_arg2) (ix3 h t d) = ((V' h t d : ℝ) : EReal)
  o : ∀ (t : Fin 8192) (l : Fin 512), m (c, Proc.tc.devRef main_arg3) (ix2 t l) = ((O (l.val / 128) t (l.val % 128) : ℝ) : EReal)

variable {m c Q K V' O}

/-- A masked score. -/
theorem score_real {q : Fin 128 → EReal} {k : Fin 8192 → Fin 128 → EReal} {h b : ℕ} (hb : b < 8192) {z : EReal} (hz : z = ⊥)
    (hq : ∀ d, q d = ((Q h b d : ℝ) : EReal)) (hk : ∀ x d, k x d = ((K h x d : ℝ) : EReal)) (x : Fin 8192) :
    Scalar.select (IntOp.cmpi CmpIPredicate.sle (BitVec.ofNat 32 x.val) (BitVec.ofNat 32 b))
        ((∑ d, q d * k x d) * Ideal.ofBits .f32 0x3DD105EC#32) z
      = if x.val ≤ b then ((Sc Q K h b x : ℝ) : EReal) else ⊥ := by
  rw [select_le x.isLt hb, dot_real hq (hk x), scale_word, ← EReal.coe_mul, hz]
  rfl

theorem mask_entry : id (constant (F := Ideal) S_ .f32 0xFF800000#32) ix0 = (⊥ : EReal) := mask_word

/-- The rows' greatest scores. -/
theorem max_real (A : Args m c Q K V' O) (h : Fin 4) (q : Fin 8192) : V m c main_v15 (ix3 h q 0) = ((Mx Q K h q : ℝ) : EReal) := by
  unfold V
  after_reads_at
  simp only [score_real (Q := Q) (K := K) (h := h.val) q.isLt mask_entry (A.q h q) (fun x d => A.k h x d)]
  rw [mask_word, fold_scores Q K q.isLt h]

/-- The rows' sums of exponentials. -/
theorem sum_exp_real (A : Args m c Q K V' O) (h : Fin 4) (q : Fin 8192) : V m c main_v20 (ix3 h q 0) = ((Ls Q K h q : ℝ) : EReal) := by
  unfold V
  after_reads_at
  simp only [score_real (Q := Q) (K := K) (h := h.val) q.isLt mask_entry (A.q h q) (fun x d => A.k h x d)]
  rw [mask_word, fold_scores Q K q.isLt h]
  exact sum_real fun k => exp_masked Q K h q k

/-- The rows' log-sum-exps as a term of the greatest scores and the sums of exponentials. -/
theorem lse_term : V m c main_v34 = shapeCast S4x8x1x1024 (Host.divf (addf (V m c main_v15) (Host.log (V m c main_v20)))
    (broadcastInDim S4x8192x1 ![] bcast_S_S4x8192x1 (Host.log (constant (F := Ideal) S_ .f32 0x40000000#32)))) shapeCasts_S4x8192x1_S4x8x1x1024 := by
  unfold V
  after_reads_simp
  rfl

theorem lse_entry (x y : FVec Ideal S4x8192x1 .f32) (z : FVec Ideal S_ .f32) (h : Fin 4) (b : Fin 8) (e : Fin 1024) (hb : b.val * 1024 + e.val < 8192) :
    (shapeCast S4x8x1x1024 (Host.divf (addf x (Host.log y)) (broadcastInDim S4x8192x1 ![] bcast_S_S4x8192x1 z)) shapeCasts_S4x8192x1_S4x8x1x1024 : FVec Ideal S4x8x1x1024 .f32) (ix4 h b 0 e)
      = Ideal.div (x (ix3 h ⟨b.val * 1024 + e.val, hb⟩ 0) + Ideal.log (y (ix3 h ⟨b.val * 1024 + e.val, hb⟩ 0))) (z ix0) := by
  pointwise

theorem two_word : Ideal.ofBits .f32 0x40000000#32 = ((2 : ℝ) : EReal) := by
  simp [Ideal.ofBits, Ideal.ieee, -EReal.coe_mul]; norm_num

theorem log_two : (Host.log (constant (F := Ideal) S_ .f32 0x40000000#32) : FVec Ideal S_ .f32) ix0 = ((Real.log 2 : ℝ) : EReal) := by
  have e : (Host.log (constant (F := Ideal) S_ .f32 0x40000000#32) : FVec Ideal S_ .f32) ix0
      = FloatOps.hostUnary (F := Ideal) (φ := .f32) .log (constant (F := Ideal) S_ .f32 0x40000000#32 ix0) := rfl
  have e' : constant (F := Ideal) S_ .f32 0x40000000#32 ix0 = ((2 : ℝ) : EReal) := two_word
  rw [e, e']
  refine (Ideal.log_coe (r := 2)).trans ?_
  rw [if_neg (by norm_num)]

/-- The base-two log-sum-exps, cut into tiles of queries. -/
theorem lse_real (A : Args m c Q K V' O) (h : Fin 4) (b : Fin 8) (e : Fin 1024) :
    V m c main_v34 (ix4 h b 0 e) = ((lse2 Q K h (1024 * b.val + e.val) : ℝ) : EReal) := by
  have hb : b.val * 1024 + e.val < 8192 := by have := b.isLt; have := e.isLt; omega
  rw [mul_comm 1024 b.val, lse_term, lse_entry _ _ _ h b e hb, log_two, max_real A, sum_exp_real A, Ideal.log_coe, if_neg (not_le.mpr (Ls_pos Q K hb)),
    ← EReal.coe_add, div_real (Real.log_pos one_lt_two).ne']
  rfl

set_option maxHeartbeats 1600000 in
/-- The products of the output's gradient with the output, cut into tiles of queries. -/
theorem delta_real (A : Args m c Q K V' O) (h : Fin 4) (b : Fin 8) (e : Fin 1024) :
    V m c main_v35 (ix4 h b 0 e) = ((dlt Q K V' O h (1024 * b.val + e.val) : ℝ) : EReal) := by
  have hb : b.val * 1024 + e.val < 8192 := by have := b.isLt; have := e.isLt; omega
  unfold V
  after_reads_at
  simp only [score_real (Q := Q) (K := K) (h := h.val) hb mask_entry (fun d => A.q h ⟨b.val * 1024 + e.val, hb⟩ d) (fun x d => A.k h x d)]
  rw [mask_word, fold_scores Q K hb h]
  rw [sum_real (f := fun k => Ex Q K h (b.val * 1024 + e.val) k) (fun k => exp_masked Q K h (b.val * 1024 + e.val) k)]
  rw [mul_comm 1024 b.val]
  refine dot_real (f := fun d => O h (b.val * 1024 + e.val) d) (fun d => ?_) (fun d => dot_real (f := fun k => Pr Q K h (b.val * 1024 + e.val) k) (g := fun k => V' h k d) (fun k => ?_) (fun k => A.v h k d))
  · rw [A.o]
    have h1 : (h.val * 128 + d.val) / 128 = h.val := by have := d.isLt; omega
    have h2 : (h.val * 128 + d.val) % 128 = d.val := by have := d.isLt; omega
    simp only [h1, h2]
  · refine (congrArg (fun x => Ideal.div x _) (exp_masked Q K h (b.val * 1024 + e.val) k)).trans ?_
    refine (div_real (Ls_pos Q K hb).ne').trans ?_
    unfold Pr
    rw [mul_one_div]

end Cert.KernelIdeal.Body
end
-- ==== Proof.Result.lean ====
/- What the launch leaves in the three result arrays, for arguments whose entries are real numbers. -/
module

public import proofs.«01_k».proof.Proof.Run
public import proofs.«01_k».proof.Proof.Values
public import proofs.«01_k».proof.Proof.Host
public import Idealize.ShloMosaic.Lib.Pipeline.Value
public import Idealize.ShloMosaic.Lib.ValueIdxCore

@[expose] public section

set_option maxRecDepth 16384

noncomputable section

namespace Cert.KernelIdeal.Body

open Idealize.ShloMosaic Idealize.ShloMosaic.TcCoe Idealize.ShloMosaic.Tactic
open Idealize.SL Idealize.SL.Sem
open Idealize.ShloMosaic.Pipeline (Dat)
open Cert.KernelIdeal Cert.KernelIdeal.Gen

section
variable (Q K V O : ℕ → ℕ → ℕ → ℝ) (L D : ℕ → ℕ → ℝ)
variable (c : Dev nD) (i : grid0.Coords) (arg2 : Memref sig .tc .vmem S2x8x1x1024 .f32) (harg2 : arg2.IsWhole) (arg3 : Memref sig .tc .vmem S2x8192x128 .bf16) (harg3 : arg3.IsWhole) (arg4 : Memref sig .tc .vmem S8192x256 .bf16) (harg4 : arg4.IsWhole) (arg5 : Memref sig .tc .vmem S2x8x1x1024 .f32) (harg5 : arg5.IsWhole) (arg6 : Memref sig .tc .vmem S2x1024x128 .bf16) (harg6 : arg6.IsWhole) (arg7 : Memref sig .tc .vmem S2x1024x128 .bf16) (harg7 : arg7.IsWhole) (arg8 : Memref sig .tc .vmem S2x8192x128 .f32) (harg8 : arg8.IsWhole) (arg9 : Memref sig .tc .vmem S2x1024x128 .f32) (harg9 : arg9.IsWhole) (arg10 : Memref sig .tc .vmem S2x1024x128 .f32) (harg10 : arg10.IsWhole)
variable (x0 : Vec Ideal S2x8x1x1024 .f32) (x1 : Vec Ideal S2x8192x128 .bf16) (x2 : Vec Ideal S8192x256 .bf16) (x3 : Vec Ideal S2x8x1x1024 .f32) (x4 : Vec Ideal S2x1024x128 .bf16) (x5 : Vec Ideal S2x1024x128 .bf16) (x6 : Vec Ideal S2x8192x128 .f32) (x7 : Vec Ideal S2x1024x128 .f32) (x8 : Vec Ideal S2x1024x128 .f32)

/-- The three blocks after the run on a first tile of keys. -/
theorem firstOut_value (hc0 : FirstTile i) (hi : (i 1).val = 0) (R : Reads Q K V O L D (i 1).val arg2 arg3 arg4 arg5 arg6 arg7 (harg2.unread x0) (harg3.unread x1) (harg4.unread x2) (harg5.unread x3) (harg6.unread x4) (harg7.unread x5)) :
    Holds (firstOut6 c i arg2 harg2 arg3 harg3 arg4 harg4 arg5 harg5 arg6 harg6 arg7 harg7 arg8 harg8 arg9 harg9 arg10 harg10 hc0 x0 x1 x2 x3 x4 x5 x6 x7 x8) (fun h t c => dqSum Q K V O L D ((i 1).val + 1) h t c)
      ∧ Holds (firstOut7 c i arg2 harg2 arg3 harg3 arg4 harg4 arg5 harg5 arg6 harg6 arg7 harg7 arg8 harg8 arg9 harg9 arg10 harg10 hc0 x0 x1 x2 x3 x4 x5 x6 x7 x8) (fun h r c => dkSum Q K V O L D 8192 h (1024 * (i 1).val + r) c * scale)
      ∧ Holds (firstOut8 c i arg2 harg2 arg3 harg3 arg4 harg4 arg5 harg5 arg6 harg6 arg7 harg7 arg8 harg8 arg9 harg9 arg10 harg10 hc0 x0 x1 x2 x3 x4 x5 x6 x7 x8) (fun h r c => dvSum Q K O L 8192 h (1024 * (i 1).val + r) c) := by
  unfold firstOut6 firstOut7 firstOut8
  exact first_value Q K V O L D c i arg2 harg2 arg3 harg3 arg4 harg4 arg5 harg5 arg6 harg6 arg7 harg7 arg8 harg8 arg9 harg9 arg10 harg10 x0 x1 x2 x3 x4 x5 x6 x7 x8 hc0 hi R

/-- The three blocks after the run on a later tile of keys. -/
theorem laterOut_value (hc0 : ¬FirstTile i) (R : Reads Q K V O L D (i 1).val arg2 arg3 arg4 arg5 arg6 arg7 (harg2.unread x0) (harg3.unread x1) (harg4.unread x2) (harg5.unread x3) (harg6.unread x4) (harg7.unread x5)) (h6 : Holds x6 fun h t c => dqSum Q K V O L D (i 1).val h t c) :
    Holds (laterOut6 c i arg2 harg2 arg3 harg3 arg4 harg4 arg5 harg5 arg6 harg6 arg7 harg7 arg8 harg8 arg9 harg9 arg10 harg10 hc0 x0 x1 x2 x3 x4 x5 x6 x7 x8) (fun h t c => dqSum Q K V O L D ((i 1).val + 1) h t c)
      ∧ Holds (laterOut7 c i arg2 harg2 arg3 harg3 arg4 harg4 arg5 harg5 arg6 harg6 arg7 harg7 arg8 harg8 arg9 harg9 arg10 harg10 hc0 x0 x1 x2 x3 x4 x5 x6 x7 x8) (fun h r c => dkSum Q K V O L D 8192 h (1024 * (i 1).val + r) c * scale)
      ∧ Holds (laterOut8 c i arg2 harg2 arg3 harg3 arg4 harg4 arg5 harg5 arg6 harg6 arg7 harg7 arg8 harg8 arg9 harg9 arg10 harg10 hc0 x0 x1 x2 x3 x4 x5 x6 x7 x8) (fun h r c => dvSum Q K O L 8192 h (1024 * (i 1).val + r) c) := by
  unfold laterOut6 laterOut7 laterOut8
  exact later_value Q K V O L D c i arg2 harg2 arg3 harg3 arg4 harg4 arg5 harg5 arg6 harg6 arg7 harg7 arg8 harg8 arg9 harg9 arg10 harg10 x0 x1 x2 x3 x4 x5 x6 x7 x8 hc0 R h6

end

section
variable {m : (ℓ : Loc nD τ sig) → Buf (Elt Ideal) ℓ} {c : Dev nD} {Q K V' O : ℕ → ℕ → ℕ → ℝ}

/-! ## The operands' blocks -/

theorem Args.q_idx (A : Args m c Q K V' O) (i : S4x8192x128.Idx) : m (c, Proc.tc.devRef main_arg0) i = ((Q (i 0).val (i 1).val (i 2).val : ℝ) : EReal) := by
  rw [eq_ix3 i]; exact A.q _ _ _

theorem Args.k_idx (A : Args m c Q K V' O) (i : S4x8192x128.Idx) : m (c, Proc.tc.devRef main_arg1) i = ((K (i 0).val (i 1).val (i 2).val : ℝ) : EReal) := by
  rw [eq_ix3 i]; exact A.k _ _ _

theorem Args.v_idx (A : Args m c Q K V' O) (i : S4x8192x128.Idx) : m (c, Proc.tc.devRef main_arg2) i = ((V' (i 0).val (i 1).val (i 2).val : ℝ) : EReal) := by
  rw [eq_ix3 i]; exact A.v _ _ _

theorem Args.o_idx (A : Args m c Q K V' O) (i : S8192x512.Idx) : m (c, Proc.tc.devRef main_arg3) i = ((O ((i 1).val / 128) (i 0).val ((i 1).val % 128) : ℝ) : EReal) := by
  rw [eq_ix2 i]; exact A.o _ _

theorem fin_one_eq {n : Fin 1} : n = 0 := Subsingleton.elim _ _

theorem Args.lse_idx (A : Args m c Q K V' O) (i : S4x8x1x1024.Idx) : V m c main_v34 i = ((lse2 Q K (i 0).val (1024 * (i 1).val + (i 3).val) : ℝ) : EReal) := by
  obtain ⟨h, b, z, e, rfl⟩ : ∃ (h : Fin 4) (b : Fin 8) (z : Fin 1) (e : Fin 1024), i = ix4 h b z e := ⟨i 0, i 1, i 2, i 3, eq_ix4 i⟩
  obtain rfl := fin_one_eq (n := z)
  exact lse_real A h b e

theorem Args.dlt_idx (A : Args m c Q K V' O) (i : S4x8x1x1024.Idx) : V m c main_v35 i = ((dlt Q K V' O (i 0).val (1024 * (i 1).val + (i 3).val) : ℝ) : EReal) := by
  obtain ⟨h, b, z, e, rfl⟩ : ∃ (h : Fin 4) (b : Fin 8) (z : Fin 1) (e : Fin 1024), i = ix4 h b z e := ⟨i 0, i 1, i 2, i 3, eq_ix4 i⟩
  obtain rfl := fin_one_eq (n := z)
  exact delta_real A h b e

theorem index0_0 : ∀ t : Fin grid0.N, win0_0.index t 0 = t.val / 8 ∧ win0_0.index t 1 = 0 ∧ win0_0.index t 2 = 0 ∧ win0_0.index t 3 = 0 := by decide +kernel
theorem index0_1 : ∀ t : Fin grid0.N, win0_1.index t 0 = t.val / 8 ∧ win0_1.index t 1 = 0 ∧ win0_1.index t 2 = 0 := by decide +kernel
theorem index0_2 : ∀ t : Fin grid0.N, win0_2.index t 0 = 0 ∧ win0_2.index t 1 = t.val / 8 := by decide +kernel
theorem index0_3 : ∀ t : Fin grid0.N, win0_3.index t 0 = t.val / 8 ∧ win0_3.index t 1 = 0 ∧ win0_3.index t 2 = 0 ∧ win0_3.index t 3 = 0 := by decide +kernel
theorem index0_4 : ∀ t : Fin grid0.N, win0_4.index t 0 = t.val / 8 ∧ win0_4.index t 1 = t.val % 8 ∧ win0_4.index t 2 = 0 := by decide +kernel
theorem index0_5 : ∀ t : Fin grid0.N, win0_5.index t 0 = t.val / 8 ∧ win0_5.index t 1 = t.val % 8 ∧ win0_5.index t 2 = 0 := by decide +kernel
theorem index0_6 : ∀ t : Fin grid0.N, win0_6.index t 0 = t.val / 8 ∧ win0_6.index t 1 = 0 ∧ win0_6.index t 2 = 0 := by decide +kernel
theorem index0_7 : ∀ t : Fin grid0.N, win0_7.index t 0 = t.val / 8 ∧ win0_7.index t 1 = t.val % 8 ∧ win0_7.index t 2 = 0 := by decide +kernel
theorem index0_8 : ∀ t : Fin grid0.N, win0_8.index t 0 = t.val / 8 ∧ win0_8.index t 1 = t.val % 8 ∧ win0_8.index t 2 = 0 := by decide +kernel

/-- The log-sum-exps of a point's pair of heads. -/
theorem block_lse (A : Args m c Q K V' O) (t : Fin cfg0.N) : HoldsPer (iblk m c 0 t) (fun h q => lse2 Q K (2 * (t.val / 8) + h) q) := by
  intro y
  obtain ⟨e0, e1, e2, e3⟩ := index0_0 t
  unfold iblk
  rw [View.read_apply]
  refine (A.lse_idx _).trans ?_
  show ((lse2 Q K (win0_0.index t 0 * 2 + 1 * (y 0).val) (1024 * (win0_0.index t 1 * 8 + 1 * (y 1).val) + (win0_0.index t 3 * 1024 + 1 * (y 3).val)) : ℝ) : EReal) = _
  rw [e0, e1, e3]
  congr 2 <;> omega

/-- The products of the output's gradient with the output, of a point's pair of heads. -/
theorem block_dlt (A : Args m c Q K V' O) (t : Fin cfg0.N) : HoldsPer (iblk m c 3 t) (fun h q => dlt Q K V' O (2 * (t.val / 8) + h) q) := by
  intro y
  obtain ⟨e0, e1, e2, e3⟩ := index0_3 t
  unfold iblk
  rw [View.read_apply]
  refine (A.dlt_idx _).trans ?_
  show ((dlt Q K V' O (win0_3.index t 0 * 2 + 1 * (y 0).val) (1024 * (win0_3.index t 1 * 8 + 1 * (y 1).val) + (win0_3.index t 3 * 1024 + 1 * (y 3).val)) : ℝ) : EReal) = _
  rw [e0, e1, e3]
  congr 2 <;> omega

/-- The queries of a point's pair of heads. -/
theorem block_q (A : Args m c Q K V' O) (t : Fin cfg0.N) : Holds (iblk m c 1 t) (fun h r d => Q (2 * (t.val / 8) + h) r d) := by
  intro y
  obtain ⟨e0, e1, e2⟩ := index0_1 t
  unfold iblk
  rw [View.read_apply]
  refine (congrFun (V_main_arg0 m c) _).trans ((A.q_idx _).trans ?_)
  show ((Q (win0_1.index t 0 * 2 + 1 * (y 0).val) (win0_1.index t 1 * 8192 + 1 * (y 1).val) (win0_1.index t 2 * 128 + 1 * (y 2).val) : ℝ) : EReal) = _
  rw [e0, e1, e2]
  congr 2 <;> omega

/-- The output's gradient of a point's pair of heads. -/
theorem block_o (A : Args m c Q K V' O) (t : Fin cfg0.N) : HoldsRows (iblk m c 2 t) (fun h r d => O (2 * (t.val / 8) + h) r d) := by
  intro y
  obtain ⟨e0, e1⟩ := index0_2 t
  unfold iblk
  rw [View.read_apply]
  refine (congrFun (V_main_arg3 m c) _).trans ((A.o_idx _).trans ?_)
  show ((O ((win0_2.index t 1 * 256 + 1 * (y 1).val) / 128) (win0_2.index t 0 * 8192 + 1 * (y 0).val) ((win0_2.index t 1 * 256 + 1 * (y 1).val) % 128) : ℝ) : EReal) = _
  rw [e0, e1]
  congr 2 <;> omega

/-- The keys of a point's tile. -/
theorem block_k (A : Args m c Q K V' O) (t : Fin cfg0.N) : Holds (iblk m c 4 t) (fun h r d => K (2 * (t.val / 8) + h) (1024 * (t.val % 8) + r) d) := by
  intro y
  obtain ⟨e0, e1, e2⟩ := index0_4 t
  unfold iblk
  rw [View.read_apply]
  refine (congrFun (V_main_arg1 m c) _).trans ((A.k_idx _).trans ?_)
  show ((K (win0_4.index t 0 * 2 + 1 * (y 0).val) (win0_4.index t 1 * 1024 + 1 * (y 1).val) (win0_4.index t 2 * 128 + 1 * (y 2).val) : ℝ) : EReal) = _
  rw [e0, e1, e2]
  congr 2 <;> omega

/-- The values of a point's tile. -/
theorem block_v (A : Args m c Q K V' O) (t : Fin cfg0.N) : Holds (iblk m c 5 t) (fun h r d => V' (2 * (t.val / 8) + h) (1024 * (t.val % 8) + r) d) := by
  intro y
  obtain ⟨e0, e1, e2⟩ := index0_5 t
  unfold iblk
  rw [View.read_apply]
  refine (congrFun (V_main_arg2 m c) _).trans ((A.v_idx _).trans ?_)
  show ((V' (win0_5.index t 0 * 2 + 1 * (y 0).val) (win0_5.index t 1 * 1024 + 1 * (y 1).val) (win0_5.index t 2 * 128 + 1 * (y 2).val) : ℝ) : EReal) = _
  rw [e0, e1, e2]
  congr 2 <;> omega

/-! ## What a point leaves -/

theorem coord1_mod (t : Fin cfg0.N) : (grid0.coords t 1).val = t.val % 8 := by rw [coord1 t, Nat.div_one]

/-- The body's reads at a point are the numbers of its pair of heads and its tile of keys. -/
theorem reads_point (A : Args m c Q K V' O) (t : Fin cfg0.N) :
    Reads (fun h => Q (2 * (t.val / 8) + h)) (fun h => K (2 * (t.val / 8) + h)) (fun h => V' (2 * (t.val / 8) + h)) (fun h => O (2 * (t.val / 8) + h))
      (fun h => lse2 Q K (2 * (t.val / 8) + h)) (fun h => dlt Q K V' O (2 * (t.val / 8) + h)) (grid0.coords t 1).val (ms0_0 t) (ms0_1 t) (ms0_2 t) (ms0_3 t) (ms0_4 t) (ms0_5 t)
      ((hs0_0 t).unread (iblk m c 0 t)) ((hs0_1 t).unread (iblk m c 1 t)) ((hs0_2 t).unread (iblk m c 2 t)) ((hs0_3 t).unread (iblk m c 3 t)) ((hs0_4 t).unread (iblk m c 4 t)) ((hs0_5 t).unread (iblk m c 5 t)) := by
  constructor
  · rw [(hs0_0 t).read_unread]; exact block_lse A t
  · rw [(hs0_1 t).read_unread]; exact block_q A t
  · rw [(hs0_2 t).read_unread]; exact block_o A t
  · rw [(hs0_3 t).read_unread]; exact block_dlt A t
  · rw [(hs0_4 t).read_unread, coord1_mod]; exact block_k A t
  · rw [(hs0_5 t).read_unread, coord1_mod]; exact block_v A t

/-- The three blocks at a point with the first tile of keys. -/
theorem firstAt_value (A : Args m c Q K V' O) (t : Fin cfg0.N) (h : t.val % 8 = 0) :
    Holds (firstAt6 m c t h) (fun a r d => dqSum Q K V' O (lse2 Q K) (dlt Q K V' O) (t.val % 8 + 1) (2 * (t.val / 8) + a) r d)
      ∧ Holds (firstAt7 m c t h) (fun a r d => dkSum Q K V' O (lse2 Q K) (dlt Q K V' O) 8192 (2 * (t.val / 8) + a) (1024 * (t.val % 8) + r) d * scale)
      ∧ Holds (firstAt8 m c t h) (fun a r d => dvSum Q K O (lse2 Q K) 8192 (2 * (t.val / 8) + a) (1024 * (t.val % 8) + r) d) := by
  have H := firstOut_value (fun h => Q (2 * (t.val / 8) + h)) (fun h => K (2 * (t.val / 8) + h)) (fun h => V' (2 * (t.val / 8) + h)) (fun h => O (2 * (t.val / 8) + h))
    (fun h => lse2 Q K (2 * (t.val / 8) + h)) (fun h => dlt Q K V' O (2 * (t.val / 8) + h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (some6 t) (some7 t) (some8 t)
    ((firstTile_iff t).mpr h) (by rw [coord1_mod, h]) (reads_point A t)
  rw [coord1_mod] at H
  unfold firstAt6 firstAt7 firstAt8
  exact H

/-- The three blocks at a point with a later tile of keys. -/
theorem laterAt_value (A : Args m c Q K V' O) (t : Fin cfg0.N) (h : ¬t.val % 8 = 0) {x6 : Vec Ideal S2x8192x128 .f32}
    (h6 : Holds x6 fun a r d => dqSum Q K V' O (lse2 Q K) (dlt Q K V' O) (t.val % 8) (2 * (t.val / 8) + a) r d) :
    Holds (laterAt6 m c t h x6) (fun a r d => dqSum Q K V' O (lse2 Q K) (dlt Q K V' O) (t.val % 8 + 1) (2 * (t.val / 8) + a) r d)
      ∧ Holds (laterAt7 m c t h x6) (fun a r d => dkSum Q K V' O (lse2 Q K) (dlt Q K V' O) 8192 (2 * (t.val / 8) + a) (1024 * (t.val % 8) + r) d * scale)
      ∧ Holds (laterAt8 m c t h x6) (fun a r d => dvSum Q K O (lse2 Q K) 8192 (2 * (t.val / 8) + a) (1024 * (t.val % 8) + r) d) := by
  have H := laterOut_value (fun h => Q (2 * (t.val / 8) + h)) (fun h => K (2 * (t.val / 8) + h)) (fun h => V' (2 * (t.val / 8) + h)) (fun h => O (2 * (t.val / 8) + h))
    (fun h => lse2 Q K (2 * (t.val / 8) + h)) (fun h => dlt Q K V' O (2 * (t.val / 8) + h)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) x6 (some7 t) (some8 t)
    (fun h' => h ((firstTile_iff t).mp h')) (reads_point A t) (by rw [coord1_mod]; exact h6)
  rw [coord1_mod] at H
  unfold laterAt6 laterAt7 laterAt8
  exact H

/-- The block of the queries' gradient after a point: the tiles of keys so far. -/
theorem left6_value (A : Args m c Q K V' O) : ∀ (n : ℕ) (hn : n < cfg0.N),
    Holds (left6 m c n hn) (fun a r d => dqSum Q K V' O (lse2 Q K) (dlt Q K V' O) (n % 8 + 1) (2 * (n / 8) + a) r d) := by
  intro n
  induction n with
  | zero =>
    intro hn
    rw [left6_first m c ⟨0, hn⟩ rfl]
    exact (firstAt_value A ⟨0, hn⟩ rfl).1
  | succ n ih =>
    intro hn
    by_cases h : (n + 1) % 8 = 0
    · rw [left6_first m c ⟨n + 1, hn⟩ h]
      exact (firstAt_value A ⟨n + 1, hn⟩ h).1
    · rw [left6_later m c ⟨n + 1, hn⟩ h]
      refine (laterAt_value A ⟨n + 1, hn⟩ h ?_).1
      have e1 : (n + 1) % 8 = n % 8 + 1 := by omega
      have e2 : (n + 1) / 8 = n / 8 := by omega
      dsimp only
      rw [e1, e2]
      exact ih _

theorem before6_value (A : Args m c Q K V' O) (t : Fin cfg0.N) (h : ¬t.val % 8 = 0) :
    Holds (before6 m c t) (fun a r d => dqSum Q K V' O (lse2 Q K) (dlt Q K V' O) (t.val % 8) (2 * (t.val / 8) + a) r d) := by
  have e1 : (t.val - 1) % 8 + 1 = t.val % 8 := by omega
  have e2 : (t.val - 1) / 8 = t.val / 8 := by omega
  have H := left6_value A (t.val - 1) (Nat.lt_of_le_of_lt (Nat.sub_le _ _) t.isLt)
  rw [e1, e2] at H
  exact H

/-- The block of the keys' gradient after a point. -/
theorem left7_value (A : Args m c Q K V' O) (t : Fin cfg0.N) :
    Holds (left7 m c t) (fun a r d => dkSum Q K V' O (lse2 Q K) (dlt Q K V' O) 8192 (2 * (t.val / 8) + a) (1024 * (t.val % 8) + r) d * scale) := by
  by_cases h : t.val % 8 = 0
  · rw [left7_first m c t h]; exact (firstAt_value A t h).2.1
  · rw [left7_later m c t h]; exact (laterAt_value A t h (before6_value A t h)).2.1

/-- The block of the values' gradient after a point. -/
theorem left8_value (A : Args m c Q K V' O) (t : Fin cfg0.N) :
    Holds (left8 m c t) (fun a r d => dvSum Q K O (lse2 Q K) 8192 (2 * (t.val / 8) + a) (1024 * (t.val % 8) + r) d) := by
  by_cases h : t.val % 8 = 0
  · rw [left8_first m c t h]; exact (firstAt_value A t h).2.2
  · rw [left8_later m c t h]; exact (laterAt_value A t h (before6_value A t h)).2.2

/-! ## The result arrays -/

variable (Q K V' O)

/-- The queries' gradient, as an array. -/
def dqArr : S4x8192x128.Idx → EReal := fun i => ((dqSum Q K V' O (lse2 Q K) (dlt Q K V' O) 8 (i 0).val (i 1).val (i 2).val : ℝ) : EReal)

/-- The keys' gradient, as an array. -/
def dkArr : S4x8192x128.Idx → EReal := fun i => ((dkSum Q K V' O (lse2 Q K) (dlt Q K V' O) 8192 (i 0).val (i 1).val (i 2).val * scale : ℝ) : EReal)

/-- The values' gradient, as an array. -/
def dvArr : S4x8192x128.Idx → EReal := fun i => ((dvSum Q K O (lse2 Q K) 8192 (i 0).val (i 1).val (i 2).val : ℝ) : EReal)

variable {Q K V' O}

/-- The array of the queries' gradient at the end. -/
theorem final_dq (A : Args m c Q K V' O) : (dats m 0 c).arrAt 6 cfg0.N = dqArr Q K V' O := by
  have hN : cfg0.N = 16 := rfl
  refine (dats m 0 c).arrAt_eq_of_cover 6 (dqArr Q K V' O) (fun t hf => ?_) (fun (i : S4x8192x128.Idx) => ?_)
  · have h7 := (flush0_6 t).mp hf
    obtain ⟨e0, e1, e2⟩ := index0_6 t
    show (cfg0.win 6).cut (grid0.coords t) ((dats m 0 c).after 6 t) = _
    rw [after0_6]
    funext y
    refine (left6_value A t.val t.isLt y).trans ?_
    rw [View.read_apply]
    show _ = ((dqSum Q K V' O (lse2 Q K) (dlt Q K V' O) 8 (win0_6.index t 0 * 2 + 1 * (y 0).val) (win0_6.index t 1 * 8192 + 1 * (y 1).val) (win0_6.index t 2 * 128 + 1 * (y 2).val) : ℝ) : EReal)
    have a0 : t.val / 8 * 2 + 1 * (y 0).val = 2 * (t.val / 8) + (y 0).val := by omega
    have a1 : 0 * 8192 + 1 * (y 1).val = (y 1).val := by rw [Nat.zero_mul, Nat.zero_add, Nat.one_mul]
    have a2 : 0 * 128 + 1 * (y 2).val = (y 2).val := by omega
    have a3 : t.val % 8 + 1 = 8 := by rw [h7]
    rw [e0, e1, e2, a0, a1, a2, a3]
  · have h0 : (i 0 : Nat) < 4 := (i 0).isLt
    have h1 : (i 1 : Nat) < 8192 := (i 1).isLt
    have h2 : (i 2 : Nat) < 128 := (i 2).isLt
    have ht : (i 0 : Nat) / 2 * 8 + 7 < cfg0.N := by omega
    refine ⟨⟨(i 0 : Nat) / 2 * 8 + 7, ht⟩, (flush0_6 _).mpr (by dsimp only; omega), ?_⟩
    obtain ⟨e0, e1, e2⟩ := index0_6 ⟨(i 0 : Nat) / 2 * 8 + 7, ht⟩
    dsimp only at e0
    show i ∈ ((View.whole main_v36_0).slice (win0_6.rect ⟨(i 0 : Nat) / 2 * 8 + 7, ht⟩)).set
    rw [View.set_slice_whole, Rect.mem_set_unit]
    intro a
    match a with
    | ⟨0, _⟩ => show win0_6.index _ 0 * 2 ≤ (i 0 : Nat) ∧ (i 0 : Nat) < win0_6.index _ 0 * 2 + 2; rw [e0]; omega
    | ⟨1, _⟩ => show win0_6.index _ 1 * 8192 ≤ (i 1 : Nat) ∧ (i 1 : Nat) < win0_6.index _ 1 * 8192 + 8192; rw [e1]; omega
    | ⟨2, _⟩ => show win0_6.index _ 2 * 128 ≤ (i 2 : Nat) ∧ (i 2 : Nat) < win0_6.index _ 2 * 128 + 128; rw [e2]; omega

/-- The array of the keys' gradient at the end. -/
theorem final_dk (A : Args m c Q K V' O) : (dats m 0 c).arrAt 7 cfg0.N = dkArr Q K V' O := by
  have hN : cfg0.N = 16 := rfl
  refine (dats m 0 c).arrAt_eq_of_cover 7 (dkArr Q K V' O) (fun t hf => ?_) (fun (i : S4x8192x128.Idx) => ?_)
  · obtain ⟨e0, e1, e2⟩ := index0_7 t
    show (cfg0.win 7).cut (grid0.coords t) ((dats m 0 c).after 7 t) = _
    rw [after0_7]
    funext y
    refine (left7_value A t y).trans ?_
    rw [View.read_apply]
    show _ = ((dkSum Q K V' O (lse2 Q K) (dlt Q K V' O) 8192 (win0_7.index t 0 * 2 + 1 * (y 0).val) (win0_7.index t 1 * 1024 + 1 * (y 1).val) (win0_7.index t 2 * 128 + 1 * (y 2).val) * scale : ℝ) : EReal)
    rw [e0, e1, e2]
    have a0 : t.val / 8 * 2 + 1 * (y 0).val = 2 * (t.val / 8) + (y 0).val := by omega
    have a1 : t.val % 8 * 1024 + 1 * (y 1).val = 1024 * (t.val % 8) + (y 1).val := by omega
    have a2 : 0 * 128 + 1 * (y 2).val = (y 2).val := by omega
    rw [a0, a1, a2]
  · have h0 : (i 0 : Nat) < 4 := (i 0).isLt
    have h1 : (i 1 : Nat) < 8192 := (i 1).isLt
    have h2 : (i 2 : Nat) < 128 := (i 2).isLt
    have ht : (i 0 : Nat) / 2 * 8 + (i 1 : Nat) / 1024 < cfg0.N := by omega
    refine ⟨⟨(i 0 : Nat) / 2 * 8 + (i 1 : Nat) / 1024, ht⟩, flush0_7 _, ?_⟩
    obtain ⟨e0, e1, e2⟩ := index0_7 ⟨(i 0 : Nat) / 2 * 8 + (i 1 : Nat) / 1024, ht⟩
    dsimp only at e0 e1
    show i ∈ ((View.whole main_v36_1).slice (win0_7.rect ⟨(i 0 : Nat) / 2 * 8 + (i 1 : Nat) / 1024, ht⟩)).set
    rw [View.set_slice_whole, Rect.mem_set_unit]
    intro a
    match a with
    | ⟨0, _⟩ => show win0_7.index _ 0 * 2 ≤ (i 0 : Nat) ∧ (i 0 : Nat) < win0_7.index _ 0 * 2 + 2; rw [e0]; omega
    | ⟨1, _⟩ => show win0_7.index _ 1 * 1024 ≤ (i 1 : Nat) ∧ (i 1 : Nat) < win0_7.index _ 1 * 1024 + 1024; rw [e1]; omega
    | ⟨2, _⟩ => show win0_7.index _ 2 * 128 ≤ (i 2 : Nat) ∧ (i 2 : Nat) < win0_7.index _ 2 * 128 + 128; rw [e2]; omega

/-- The array of the values' gradient at the end. -/
theorem final_dv (A : Args m c Q K V' O) : (dats m 0 c).arrAt 8 cfg0.N = dvArr Q K O := by
  have hN : cfg0.N = 16 := rfl
  refine (dats m 0 c).arrAt_eq_of_cover 8 (dvArr Q K O) (fun t hf => ?_) (fun (i : S4x8192x128.Idx) => ?_)
  · obtain ⟨e0, e1, e2⟩ := index0_8 t
    show (cfg0.win 8).cut (grid0.coords t) ((dats m 0 c).after 8 t) = _
    rw [after0_8]
    funext y
    refine (left8_value A t y).trans ?_
    rw [View.read_apply]
    show _ = ((dvSum Q K O (lse2 Q K) 8192 (win0_8.index t 0 * 2 + 1 * (y 0).val) (win0_8.index t 1 * 1024 + 1 * (y 1).val) (win0_8.index t 2 * 128 + 1 * (y 2).val) : ℝ) : EReal)
    rw [e0, e1, e2]
    have a0 : t.val / 8 * 2 + 1 * (y 0).val = 2 * (t.val / 8) + (y 0).val := by omega
    have a1 : t.val % 8 * 1024 + 1 * (y 1).val = 1024 * (t.val % 8) + (y 1).val := by omega
    have a2 : 0 * 128 + 1 * (y 2).val = (y 2).val := by omega
    rw [a0, a1, a2]
  · have h0 : (i 0 : Nat) < 4 := (i 0).isLt
    have h1 : (i 1 : Nat) < 8192 := (i 1).isLt
    have h2 : (i 2 : Nat) < 128 := (i 2).isLt
    have ht : (i 0 : Nat) / 2 * 8 + (i 1 : Nat) / 1024 < cfg0.N := by omega
    refine ⟨⟨(i 0 : Nat) / 2 * 8 + (i 1 : Nat) / 1024, ht⟩, flush0_8 _, ?_⟩
    obtain ⟨e0, e1, e2⟩ := index0_8 ⟨(i 0 : Nat) / 2 * 8 + (i 1 : Nat) / 1024, ht⟩
    dsimp only at e0 e1
    show i ∈ ((View.whole main_v36_2).slice (win0_8.rect ⟨(i 0 : Nat) / 2 * 8 + (i 1 : Nat) / 1024, ht⟩)).set
    rw [View.set_slice_whole, Rect.mem_set_unit]
    intro a
    match a with
    | ⟨0, _⟩ => show win0_8.index _ 0 * 2 ≤ (i 0 : Nat) ∧ (i 0 : Nat) < win0_8.index _ 0 * 2 + 2; rw [e0]; omega
    | ⟨1, _⟩ => show win0_8.index _ 1 * 1024 ≤ (i 1 : Nat) ∧ (i 1 : Nat) < win0_8.index _ 1 * 1024 + 1024; rw [e1]; omega
    | ⟨2, _⟩ => show win0_8.index _ 2 * 128 ≤ (i 2 : Nat) ∧ (i 2 : Nat) < win0_8.index _ 2 * 128 + 128; rw [e2]; omega

end

end Cert.KernelIdeal.Body
end
-- ==== Proof.Ref.lean ====
/- The reference's results, for arguments whose entries are real numbers: the same real numbers as the kernel's. -/
module

public import proofs.«01_k».proof.Proof.Gen.ReferenceIdeal.Read
public import proofs.«01_k».proof.Proof.Softmax
public import Idealize.ShloMosaic.Lib.Pointwise

@[expose] public section

set_option maxRecDepth 16384

noncomputable section

namespace Cert.ReferenceIdeal.Body

open Idealize.ShloMosaic Idealize.ShloMosaic.TcCoe Idealize.ShloMosaic.Tactic
open Idealize.ShloMosaic.StableHlo
open Cert.ReferenceIdeal Cert.ReferenceIdeal.Gen Cert.ReferenceIdeal.Read
open Cert.KernelIdeal.Body (scale_word mask_word select_le dot_real sum_real fold_scores exp_masked div_real Ls_pos Wt_eq Sg_quotient dqSum_all scale Sc Mx Ex Ls Pr dP dlt lse2 Sg dqSum dkSum dvSum)

/-- The arguments' entries are real numbers. -/
structure Ops (x0 x1 x2 : Vec Ideal S4x8192x128 .bf16) (x3 : Vec Ideal S8192x512 .bf16) (Q K V O : ℕ → ℕ → ℕ → ℝ) : Prop where
  q : ∀ (h : Fin 4) (t : Fin 8192) (d : Fin 128), x0 (ix3 h t d) = ((Q h t d : ℝ) : EReal)
  k : ∀ (h : Fin 4) (t : Fin 8192) (d : Fin 128), x1 (ix3 h t d) = ((K h t d : ℝ) : EReal)
  v : ∀ (h : Fin 4) (t : Fin 8192) (d : Fin 128), x2 (ix3 h t d) = ((V h t d : ℝ) : EReal)
  o : ∀ (t : Fin 8192) (l : Fin 512), x3 (ix2 t l) = ((O (l.val / 128) t (l.val % 128) : ℝ) : EReal)

theorem zero_word : Ideal.ofBits .f32 0x00000000#32 = (0 : EReal) := by
  simp [Ideal.ofBits, Ideal.ieee]

theorem one_word : Ideal.ofBits .f32 0x3F800000#32 = ((1 : ℝ) : EReal) := by
  simp [Ideal.ofBits, Ideal.ieee, -EReal.coe_mul]; try norm_num

variable {x0 x1 x2 : Vec Ideal S4x8192x128 .bf16} {x3 : Vec Ideal S8192x512 .bf16} {Q K V O : ℕ → ℕ → ℕ → ℝ}

/-- A masked score. -/
theorem score (A : Ops x0 x1 x2 x3 Q K V O) (h : Fin 4) (q k : Fin 8192) :
    val_main_v13_0 (F := Ideal) x0 x1 (ix3 h q k) = if k.val ≤ q.val then ((Sc Q K h q k : ℝ) : EReal) else ⊥ := by
  pointwise [val_main_v13_0, val_main_v13_1, val_main_v12, val_main_v11, val_main_v10, val_main_v9, val_main_v8, val_main_v7, val_main_v6, val_main_v5, val_main_cst, val_main_v4, val_main_v0, val_main_v1, val_main_call0_v2, val_main_call0_v0, val_main_cst_0]
  rw [select_le k.isLt q.isLt, dot_real (A.q h q) (A.k h k), scale_word, ← EReal.coe_mul,
    show id (constant (F := Ideal) S_ .f32 0xFF800000#32) ix0 = (⊥ : EReal) from mask_word]
  rfl

/-- A row's greatest score, -/
theorem greatest (A : Ops x0 x1 x2 x3 Q K V O) (h : Fin 4) (q : Fin 8192) : val_main_v14 (F := Ideal) x0 x1 (ix2 h q) = ((Mx Q K h q : ℝ) : EReal) := by
  pointwise [val_main_v14]
  simp only [score A]
  rw [show val_main_cst_1 (F := Ideal) (Shape.Idx.first h_S_) = (⊥ : EReal) from mask_word]
  exact fold_scores Q K q.isLt h

/-- which the comparison with the least number keeps. -/
theorem kept (A : Ops x0 x1 x2 x3 Q K V O) (h : Fin 4) (q : Fin 8192) : val_main_v21 (F := Ideal) x0 x1 (ix2 h q) = ((Mx Q K h q : ℝ) : EReal) := by
  rw [val_main_v21_apply, greatest A, val_main_v20_apply, val_main_cst_3_apply]
  exact (congrArg (fun z : EReal => max z ((Mx Q K h q : ℝ) : EReal)) mask_word).trans (max_eq_right bot_le)

/-- The exponentials of a row of scores, -/
theorem exps (A : Ops x0 x1 x2 x3 Q K V O) (h : Fin 4) (q k : Fin 8192) : val_main_v34 (F := Ideal) x0 x1 (ix3 h q k) = ((Ex Q K h q k : ℝ) : EReal) := by
  pointwise [val_main_v34, val_main_v33, val_main_v32, val_main_v31]
  rw [score A, kept A]
  exact exp_masked Q K h q k

/-- their sum, -/
theorem sums (A : Ops x0 x1 x2 x3 Q K V O) (h : Fin 4) (q : Fin 8192) : val_main_v35 (F := Ideal) x0 x1 (ix2 h q) = ((Ls Q K h q : ℝ) : EReal) := by
  pointwise [val_main_v35]
  rw [show val_main_cst_9 (F := Ideal) (Shape.Idx.first h_S_) = (0 : EReal) from zero_word, zero_add]
  exact sum_real fun k => exps A h q k

/-- and the row's softmax. -/
theorem weights (A : Ops x0 x1 x2 x3 Q K V O) (h : Fin 4) (q k : Fin 8192) : val_main_v38 (F := Ideal) x0 x1 (ix3 h q k) = ((Pr Q K h q k : ℝ) : EReal) := by
  pointwise [val_main_v38, val_main_v37, val_main_v36]
  rw [exps A, sums A, div_real (Ls_pos Q K q.isLt).ne', mul_one_div]
  rfl

/-- The reciprocal of the sum's square. -/
theorem squares (A : Ops x0 x1 x2 x3 Q K V O) (h : Fin 4) (q : Fin 8192) : val_main_v41 (F := Ideal) x0 x1 (ix3 h q 0) = ((1 / (Ls Q K h q * Ls Q K h q) : ℝ) : EReal) := by
  pointwise [val_main_v41, val_main_v40, val_main_v39, val_main_v36]
  have hL := (Ls_pos Q K (h := h) q.isLt).ne'
  rw [show val_main_cst_10 (F := Ideal) ix0 = ((1 : ℝ) : EReal) from one_word, sums A, ← EReal.coe_mul, div_real (mul_ne_zero hL hL), one_mul]

/-- The products of the output's gradient with the values. -/
theorem prods (A : Ops x0 x1 x2 x3 Q K V O) (h : Fin 4) (q k : Fin 8192) : val_main_v47 (F := Ideal) x2 x3 (ix3 h q k) = ((dP V O h q k : ℝ) : EReal) := by
  pointwise [val_main_v47, val_main_v46, val_main_v45, val_main_v3, val_main_v2]
  refine dot_real (f := fun d => O h q d) (fun d => ?_) (A.v h k)
  rw [A.o]
  have h1 : (h.val * 128 + d.val) / 128 = h.val := by have := d.isLt; omega
  have h2 : (h.val * 128 + d.val) % 128 = d.val := by have := d.isLt; omega
  simp only [h1, h2]

/-- The mean the quotient rule subtracts. -/
theorem means (A : Ops x0 x1 x2 x3 Q K V O) (h : Fin 4) (q : Fin 8192) : val_main_v58 (F := Ideal) x0 x1 x2 x3 (ix2 h q)
    = ((-(∑ k ∈ Finset.range 8192, dP V O h q k * (1 / (Ls Q K h q * Ls Q K h q)) * Ex Q K h q k) : ℝ) : EReal) := by
  pointwise [val_main_v58, val_main_v55, val_main_v54, val_main_v53, val_main_v52, val_main_v51, val_main_v50]
  have e : ∑ x : Fin 8192, val_main_v47 (F := Ideal) x2 x3 (ix3 h q x) * val_main_v41 (F := Ideal) x0 x1 (ix3 h q 0) * val_main_v34 (F := Ideal) x0 x1 (ix3 h q x)
      = ((∑ k ∈ Finset.range 8192, dP V O h q k * (1 / (Ls Q K h q * Ls Q K h q)) * Ex Q K h q k : ℝ) : EReal) := by
    refine sum_real (f := fun k => dP V O h q k * (1 / (Ls Q K h q * Ls Q K h q)) * Ex Q K h q k) fun k => ?_
    rw [prods A, squares A, exps A, ← EReal.coe_mul, ← EReal.coe_mul]
  rw [e, show val_main_cst_12 (F := Ideal) (Shape.Idx.first h_S_) = (0 : EReal) from zero_word,
    show val_main_cst_11 (F := Ideal) (Shape.Idx.first h_S_) = (0 : EReal) from zero_word, zero_add, zero_add]
  rw [Finset.univ_unique, Finset.sum_singleton, EReal.coe_neg]

/-- The gradients of the scores, scaled. -/
theorem grads (A : Ops x0 x1 x2 x3 Q K V O) (h : Fin 4) (q k : Fin 8192) : val_main_v64 (F := Ideal) x0 x1 x2 x3 (ix3 h q k)
    = ((Sg Q K V O (lse2 Q K) (dlt Q K V O) h k q * scale : ℝ) : EReal) := by
  pointwise [val_main_v64, val_main_v63, val_main_cst_13, val_main_v62, val_main_v13_1, val_main_v12, val_main_v11, val_main_v10, val_main_v9, val_main_v8, val_main_v7, val_main_call1_v0, val_main_call1_cst, val_main_v61, val_main_v60, val_main_v59, val_main_v57, val_main_v56, val_main_v36]
  rw [select_le k.isLt q.isLt, prods A, sums A, means A, exps A, scale_word, div_real (Ls_pos Q K q.isLt).ne',
    ← Sg_quotient Q K V O q.isLt k.val]
  split_ifs
  · rw [← EReal.coe_add, ← EReal.coe_mul, ← EReal.coe_mul]
  · rw [zero_mul, EReal.coe_zero]

/-- The reference's gradient of the queries, -/
theorem out_q (A : Ops x0 x1 x2 x3 Q K V O) (h : Fin 4) (q : Fin 8192) (d : Fin 128) : val_main_v66 (F := Ideal) x0 x1 x2 x3 (ix3 h q d)
    = ((dqSum Q K V O (lse2 Q K) (dlt Q K V O) 8 h q d : ℝ) : EReal) := by
  pointwise [val_main_v66, val_main_v1]
  rw [dqSum_all]
  exact dot_real (f := fun k => Sg Q K V O (lse2 Q K) (dlt Q K V O) h k q * scale) (g := fun k => K h k d) (grads A h q) fun k => A.k h k d
/-- of the keys, -/
theorem out_k (A : Ops x0 x1 x2 x3 Q K V O) (h : Fin 4) (k : Fin 8192) (d : Fin 128) : val_main_v65 (F := Ideal) x0 x1 x2 x3 (ix3 h k d)
    = ((dkSum Q K V O (lse2 Q K) (dlt Q K V O) 8192 h k d * scale : ℝ) : EReal) := by
  pointwise [val_main_v65, val_main_v0]
  refine (dot_real (f := fun q => Sg Q K V O (lse2 Q K) (dlt Q K V O) h k q * scale) (g := fun q => Q h q d) (fun q => grads A h q k) fun q => A.q h q d).trans (congrArg Real.toEReal ?_)
  unfold dkSum
  rw [Finset.sum_mul]
  exact Finset.sum_congr rfl fun q _ => by ring
/-- and of the values. -/
theorem out_v (A : Ops x0 x1 x2 x3 Q K V O) (h : Fin 4) (k : Fin 8192) (d : Fin 128) : val_main_v49 (F := Ideal) x0 x1 x3 (ix3 h k d)
    = ((dvSum Q K O (lse2 Q K) 8192 h k d : ℝ) : EReal) := by
  pointwise [val_main_v49, val_main_v48, val_main_v46, val_main_v45, val_main_v3]
  refine (dot_real (f := fun q => O h q d) (g := fun q => Pr Q K h q k) (fun q => ?_) fun q => weights A h q k).trans (congrArg Real.toEReal ?_)
  · rw [A.o]
    have h1 : (h.val * 128 + d.val) / 128 = h.val := by have := d.isLt; omega
    have h2 : (h.val * 128 + d.val) % 128 = d.val := by have := d.isLt; omega
    simp only [h1, h2]
  · unfold dvSum
    exact Finset.sum_congr rfl fun q hq => by rw [Wt_eq Q K (Finset.mem_range.mp hq), mul_comm]

end Cert.ReferenceIdeal.Body
end
-- ==== Proof.Finite.lean ====
/- The precondition read: where every entry of the four arguments is finite, every entry is a real number. -/
module

public import proofs.«01_k».proof.Defs
public import proofs.«01_k».proof.Proof.Result
public import proofs.«01_k».proof.Proof.Ref
public import Idealize.ShloMosaic.Lib.Pipeline.Value
public import Idealize.ShloMosaic.Lib.ValueIdxCore

@[expose] public section

set_option maxRecDepth 16384

noncomputable section

namespace Cert.Finite

open Idealize.ShloMosaic Idealize.ShloMosaic.TcCoe Idealize.ShloMosaic.Tactic
open Idealize.ShloMosaic.StableHlo

/-- The shape relations that the precondition states. -/
theorem pre_facts : Cert.Pre_finite.Facts where
  shapeCasts_S8192x512_S4x8192x128 := by decide
  bitsLt_bf16_f32 := by decide
  bcast_S_S4x8192x128 := by decide

/-- The bit that says an extended real's absolute value lies below infinity. -/
def below (x : EReal) : BitVec 1 := Ideal.cmp .olt (max x (-x)) (Ideal.ofBits .f32 0x7F800000#32)

theorem inf_word : Ideal.ofBits .f32 0x7F800000#32 = (⊤ : EReal) := by
  simp [Ideal.ofBits, Ideal.ieee]

/-- An extended real whose absolute value lies below infinity is a real number. -/
theorem real_of_below {x : EReal} (h : below x = 1#1) : x = ((x.toReal : ℝ) : EReal) := by
  have h1 : BitVec.ofBool (decide (max x (-x) < Ideal.ofBits .f32 0x7F800000#32)) = 1#1 := h
  have h2 : max x (-x) < (⊤ : EReal) := by
    rw [← inf_word]
    by_contra hn
    rw [decide_eq_false hn] at h1
    exact absurd h1 (by decide)
  have h3 := max_lt_iff.mp h2
  refine (EReal.coe_toReal h3.1.ne ?_).symm
  intro hb
  rw [hb] at h3
  exact absurd h3.2 (by simp)

theorem and_one {a b : BitVec 1} (h : IntOp.andi a b = 1#1) : a = 1#1 ∧ b = 1#1 := by
  revert a b
  decide

section
variable [Cert.Pre_finite.Facts]
open Cert.Pre_finite Cert.Pre_finite.Facts

variable (a0 a1 a2 : Vec Ideal S4x8192x128 .bf16) (a3 : Vec Ideal S8192x512 .bf16)

/-- The precondition at one index: the four bits together. -/
theorem fn_at (i : S4x8192x128.Idx) :
    Cert.Pre_finite.fn (F := Ideal) a0 a1 a2 a3 i
      = IntOp.andi (IntOp.andi (IntOp.andi (below (a0 i)) (below (a1 i))) (below (a2 i)))
          (below (shapeCast S4x8192x128 a3 shapeCasts_S8192x512_S4x8192x128 i)) := rfl

variable {a0 a1 a2 a3}

/-- Every entry of the four arguments is a real number. -/
theorem entries (h : Cert.Pre_finite.fn (F := Ideal) a0 a1 a2 a3 = fun _ => 1#1) :
    (∀ i, (a0 i : EReal) = ((EReal.toReal (a0 i) : ℝ) : EReal)) ∧ (∀ i, (a1 i : EReal) = ((EReal.toReal (a1 i) : ℝ) : EReal))
      ∧ (∀ i, (a2 i : EReal) = ((EReal.toReal (a2 i) : ℝ) : EReal))
      ∧ ∀ (t : Fin 8192) (l : Fin 512), (a3 (ix2 t l) : EReal) = ((EReal.toReal (a3 (ix2 t l)) : ℝ) : EReal) := by
  have H : ∀ i, IntOp.andi (IntOp.andi (IntOp.andi (below (a0 i)) (below (a1 i))) (below (a2 i)))
      (below (shapeCast S4x8192x128 a3 shapeCasts_S8192x512_S4x8192x128 i)) = 1#1 := fun i =>
    (fn_at a0 a1 a2 a3 i).symm.trans (congrFun h i)
  refine ⟨fun i => real_of_below (and_one (and_one (and_one (H i)).1).1).1,
    fun i => real_of_below (and_one (and_one (and_one (H i)).1).1).2, fun i => real_of_below (and_one (and_one (H i)).1).2, ?_⟩
  intro t l
  have ht := t.isLt
  have hl := l.isLt
  have e := (and_one (H (ix3 ⟨(t.val * 512 + l.val) / 1048576, by omega⟩ ⟨(t.val * 512 + l.val) / 128 % 8192, by omega⟩
    ⟨(t.val * 512 + l.val) % 128, by omega⟩))).2
  rw [shapeCast_apply a3 _ _ (ix2 t l) (by
    rw [Shape.rowMajor_val_two, Shape.rowMajor_val_three]
    show t.val * 512 + l.val = ((t.val * 512 + l.val) / 1048576 * 8192 + (t.val * 512 + l.val) / 128 % 8192) * 128 + (t.val * 512 + l.val) % 128
    omega)] at e
  exact real_of_below e

end

/-- The real number at head `h`, row `t` and lane `d` of an argument of the heads' shape. -/
def entry (a : Vec Ideal Cert.ReferenceIdeal.S4x8192x128 .bf16) (h t d : ℕ) : ℝ :=
  if p : h < 4 ∧ t < 8192 ∧ d < 128 then EReal.toReal (a (ix3 ⟨h, p.1⟩ ⟨t, p.2.1⟩ ⟨d, p.2.2⟩)) else 0

/-- The same of the output's gradient, whose heads lie next to each other. -/
def entryO (a : Vec Ideal Cert.ReferenceIdeal.S8192x512 .bf16) (h t d : ℕ) : ℝ :=
  if p : t < 8192 ∧ 128 * h + d < 512 then EReal.toReal (a (ix2 ⟨t, p.1⟩ ⟨128 * h + d, p.2⟩)) else 0

theorem entry_eq (a : Vec Ideal Cert.ReferenceIdeal.S4x8192x128 .bf16) (h : Fin 4) (t : Fin 8192) (d : Fin 128) :
    entry a h t d = EReal.toReal (a (ix3 h t d)) := dif_pos ⟨h.isLt, t.isLt, d.isLt⟩

theorem entryO_eq (a : Vec Ideal Cert.ReferenceIdeal.S8192x512 .bf16) (t : Fin 8192) (l : Fin 512) :
    entryO a (l.val / 128) t (l.val % 128) = EReal.toReal (a (ix2 t l)) := by
  have e : 128 * (l.val / 128) + l.val % 128 = l.val := Nat.div_add_mod l.val 128
  have p : t.val < 8192 ∧ 128 * (l.val / 128) + l.val % 128 < 512 := ⟨t.isLt, by rw [e]; exact l.isLt⟩
  refine (dif_pos p).trans ?_
  have e2 : (⟨128 * (l.val / 128) + l.val % 128, p.2⟩ : Fin 512) = l := Fin.ext e
  rw [e2]

/-- The reference's arguments are real numbers where the precondition holds of them. -/
theorem ops [Cert.Pre_finite.Facts] {x0 x1 x2 : Vec Ideal Cert.ReferenceIdeal.S4x8192x128 .bf16}
    {x3 : Vec Ideal Cert.ReferenceIdeal.S8192x512 .bf16}
    (h : Cert.Pre_finite.fn (F := Ideal) x0 x1 x2 x3 = fun _ => 1#1) :
    Cert.ReferenceIdeal.Body.Ops x0 x1 x2 x3 (entry x0) (entry x1) (entry x2) (entryO x3) where
  q a t d := ((entries h).1 _).trans (congrArg _ (entry_eq x0 a t d).symm)
  k a t d := ((entries h).2.1 _).trans (congrArg _ (entry_eq x1 a t d).symm)
  v a t d := ((entries h).2.2.1 _).trans (congrArg _ (entry_eq x2 a t d).symm)
  o t l := ((entries h).2.2.2 t l).trans (congrArg _ (entryO_eq x3 t l).symm)

section
open Cert.KernelIdeal
variable (m : (ℓ : Loc nD τ sig) → Buf (Elt Ideal) ℓ) (c : Dev nD)

/-- The queries, keys, values and the output's gradient on a device. -/
abbrev inQ : Vec Ideal Cert.ReferenceIdeal.S4x8192x128 .bf16 := m (c, Proc.tc.devRef main_arg0)
abbrev inK : Vec Ideal Cert.ReferenceIdeal.S4x8192x128 .bf16 := m (c, Proc.tc.devRef main_arg1)
abbrev inV : Vec Ideal Cert.ReferenceIdeal.S4x8192x128 .bf16 := m (c, Proc.tc.devRef main_arg2)
abbrev inO : Vec Ideal Cert.ReferenceIdeal.S8192x512 .bf16 := m (c, Proc.tc.devRef main_arg3)

/-- So are the kernel's. -/
theorem args [Cert.Pre_finite.Facts] (h : Cert.Pre_KernelIdeal_finite m) :
    Cert.KernelIdeal.Body.Args m c (entry (inQ m c)) (entry (inK m c)) (entry (inV m c)) (entryO (inO m c)) :=
  have A := ops (x0 := inQ m c) (x1 := inK m c) (x2 := inV m c) (x3 := inO m c) (h c)
  ⟨A.q, A.k, A.v, A.o⟩

end

/-- The kernel's result arrays are the reference's. -/
theorem results_q {x0 x1 x2 : Vec Ideal Cert.ReferenceIdeal.S4x8192x128 .bf16} {x3 : Vec Ideal Cert.ReferenceIdeal.S8192x512 .bf16}
    {Q K V O : ℕ → ℕ → ℕ → ℝ} (A : Cert.ReferenceIdeal.Body.Ops x0 x1 x2 x3 Q K V O) :
    Cert.ReferenceIdeal.Read.val_main_v66 (F := Ideal) x0 x1 x2 x3 = Cert.KernelIdeal.Body.dqArr Q K V O := by
  funext i
  rw [eq_ix3 i]
  exact Cert.ReferenceIdeal.Body.out_q A (i 0) (i 1) (i 2)

theorem results_k {x0 x1 x2 : Vec Ideal Cert.ReferenceIdeal.S4x8192x128 .bf16} {x3 : Vec Ideal Cert.ReferenceIdeal.S8192x512 .bf16}
    {Q K V O : ℕ → ℕ → ℕ → ℝ} (A : Cert.ReferenceIdeal.Body.Ops x0 x1 x2 x3 Q K V O) :
    Cert.ReferenceIdeal.Read.val_main_v65 (F := Ideal) x0 x1 x2 x3 = Cert.KernelIdeal.Body.dkArr Q K V O := by
  funext i
  rw [eq_ix3 i]
  exact Cert.ReferenceIdeal.Body.out_k A (i 0) (i 1) (i 2)

theorem results_v {x0 x1 x2 : Vec Ideal Cert.ReferenceIdeal.S4x8192x128 .bf16} {x3 : Vec Ideal Cert.ReferenceIdeal.S8192x512 .bf16}
    {Q K V O : ℕ → ℕ → ℕ → ℝ} (A : Cert.ReferenceIdeal.Body.Ops x0 x1 x2 x3 Q K V O) :
    Cert.ReferenceIdeal.Read.val_main_v49 (F := Ideal) x0 x1 x3 = Cert.KernelIdeal.Body.dvArr Q K O := by
  funext i
  rw [eq_ix3 i]
  exact Cert.ReferenceIdeal.Body.out_v A (i 0) (i 1) (i 2)

end Cert.Finite

end
-- ==== Proof.Tiles.lean ====
/- The tokens in blocks of 512: a sum over all 8192 tokens is the sum over the blocks of the sums within them. -/
module

public import Idealize.ShloMosaic.PureOps.Ideal.Laws

@[expose] public section

noncomputable section

namespace Cert.Tiles

/-- Token `r` of block `b`. -/
def token (b : ℕ) (r : Fin 512) : Fin 8192 := ⟨(512 * b + r.val) % 8192, Nat.mod_lt _ (by decide)⟩

theorem token_val {b : ℕ} (hb : b < 16) (r : Fin 512) : (token b r).val = 512 * b + r.val := by
  have := r.isLt
  exact Nat.mod_eq_of_lt (by omega)

/-- A sum over the first `n * b` naturals, by blocks of `n`. -/
theorem sum_blocks {β : Type*} [AddCommMonoid β] (g : ℕ → β) (n : ℕ) : ∀ b : ℕ,
    ∑ s ∈ Finset.range b, ∑ r ∈ Finset.range n, g (n * s + r) = ∑ k ∈ Finset.range (n * b), g k
  | 0 => by simp
  | b + 1 => by rw [Finset.sum_range_succ, sum_blocks g n b, Nat.mul_succ, Finset.sum_range_add]

/-- The sum over all tokens is the sum over the 16 blocks of the blocks' sums. -/
theorem sum_tokens {β : Type*} [AddCommMonoid β] (g : Fin 8192 → β) :
    ∑ s ∈ Finset.range 16, ∑ r : Fin 512, g (token s r) = ∑ k : Fin 8192, g k := by
  have h8 : ∀ n : ℕ, n % 8192 < 8192 := fun n => Nat.mod_lt _ (by decide)
  have e : ∀ s, ∑ r : Fin 512, g (token s r) = ∑ r ∈ Finset.range 512, g ⟨(512 * s + r) % 8192, h8 _⟩ := fun s =>
    Fin.sum_univ_eq_sum_range (fun r => g ⟨(512 * s + r) % 8192, h8 _⟩) 512
  simp only [e]
  rw [sum_blocks (fun n => g ⟨n % 8192, h8 n⟩) 512 16, ← Fin.sum_univ_eq_sum_range (fun n => g ⟨n % 8192, h8 n⟩) 8192]
  exact Finset.sum_congr rfl fun k _ => congrArg g (Fin.ext (Nat.mod_eq_of_lt k.isLt))

end Cert.Tiles
-- ==== Proof.First.lean ====
/- The gradient of the weights of a product whose rows are normed: what the kernel accumulates over the sixteen blocks of
   tokens, and that the reference computes the same sums. -/
module

public import proofs.«01_k».proof.Proof.Gen.Kernel3Ideal.Value
public import proofs.«01_k».proof.Proof.Gen.Reference3Ideal.Read
public import proofs.«01_k».proof.Defs
public import proofs.«01_k».proof.Proof.Tiles
public import Idealize.ShloMosaic.Lib.Pointwise
public import Idealize.ShloMosaic.Lib.IdealHost
public import Idealize.ShloMosaic.Lib.Quiescent

@[expose] public section

set_option maxRecDepth 16384

noncomputable section

namespace Cert.First

open Idealize.ShloMosaic Idealize.ShloMosaic.TcCoe Idealize.ShloMosaic.Tactic Idealize.SL.Sem
open Cert.Tiles

/-- The word of zero is read as zero. -/
theorem zero_word : Ideal.ofBits .f32 0x00000000#32 = (0 : EReal) := by
  simp [Ideal.ofBits, Ideal.ieee]

/-- An entry of a normed row: the entry over the root of the row's mean square and the small constant, times the gain. -/
def normed (x : Fin 1024 → EReal) (g : EReal) (k : Fin 1024) : EReal :=
  x k * Ideal.rsqrt (Ideal.div (∑ j : Fin 1024, x j * x j) (Ideal.ofBits .f32 0x44800000#32) + Ideal.ofBits .f32 0x358637BD#32) * g

section
open Cert.Kernel3Ideal Cert.Kernel3Ideal.Gen

/-- One block's part of an entry of the gradient. -/
def part (x : S8192x1024.Idx → EReal) (g : S1x1024.Idx → EReal) (d : S8192x4096.Idx → EReal) (b : ℕ) (k : Fin 1024) (j : Fin 4096) : EReal :=
  ∑ r : Fin 512, normed (fun l => x (ix2 (token b r) l)) (g (ix2 0 k)) k * d (ix2 (token b r) j)

/-- What the body adds to the block of the gradient it holds. -/
theorem pay_apply (x : Vec Ideal S512x1024 .f32) (g : Vec Ideal S1x1024 .f32) (acc : Vec Ideal S1024x2048 .f32) (d : Vec Ideal S512x2048 .bf16) (k : Fin 1024) (j : Fin 2048) :
    k0_pay2 (F := Ideal) x g acc d (ix2 k j) = acc (ix2 k j) + ∑ r : Fin 512, normed (fun l => x (ix2 r l)) (g (ix2 0 k)) k * d (ix2 r j) := by
  pointwise [k0_pay2]
  rfl

/-- The block of zeros the first block of tokens begins with. -/
theorem start_apply (k : Fin 1024) (j : Fin 2048) : k0_pay1 (F := Ideal) (ix2 k j) = 0 := by
  pointwise [k0_pay1]

theorem index_x : ∀ t : Fin grid0.N, win0_0.index t 0 = t.val % 16 ∧ win0_0.index t 1 = 0 := by decide +kernel
theorem index_g : ∀ t : Fin grid0.N, win0_1.index t 0 = 0 ∧ win0_1.index t 1 = 0 := by decide +kernel
theorem index_d : ∀ t : Fin grid0.N, win0_2.index t 0 = t.val % 16 ∧ win0_2.index t 1 = t.val / 16 := by decide +kernel

variable (m : (ℓ : Loc nD τ sig) → Buf (Elt Ideal) ℓ) (c : Dev nD)

/-- The rows before the norm, the gains, and the product's gradient. -/
abbrev inX : S8192x1024.Idx → EReal := m ((c.tc : Thread nD τ).loc main_arg0)
abbrev inG : S1x1024.Idx → EReal := m ((c.tc : Thread nD τ).loc main_arg1)
abbrev inD : S8192x4096.Idx → EReal := m ((c.tc : Thread nD τ).loc main_arg2)

/-- Column `j` of block `b` of the gradient's columns. -/
def column (b : ℕ) (j : Fin 2048) : Fin 4096 := ⟨(2048 * b + j.val) % 4096, Nat.mod_lt _ (by decide)⟩

/-- A point's block of rows holds the rows of the point's tokens, -/
theorem block_x (t : Fin cfg0.N) (r : Fin 512) (k : Fin 1024) : iblk m c 0 t (ix2 r k) = inX m c (ix2 (token (t.val % 16) r) k) := by
  obtain ⟨e0, e1⟩ := index_x t
  unfold iblk
  rw [View.read_apply]
  refine congrArg (inX m c) (funext fun a => Fin.ext ?_)
  match a with
  | ⟨0, _⟩ => show win0_0.index t 0 * 512 + 1 * r.val = (token (t.val % 16) r).val; rw [token_val (Nat.mod_lt _ (by decide)), e0]; omega
  | ⟨1, _⟩ => show win0_0.index t 1 * 1024 + 1 * k.val = k.val; rw [e1]; omega

/-- its block of gains holds all of them, -/
theorem block_g (t : Fin cfg0.N) (k : Fin 1024) : iblk m c 1 t (ix2 0 k) = inG m c (ix2 0 k) := by
  obtain ⟨e0, e1⟩ := index_g t
  unfold iblk
  rw [View.read_apply]
  refine congrArg (inG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- and its block of the product's gradient holds the tokens' rows at the point's columns. -/
theorem block_d (t : Fin cfg0.N) (r : Fin 512) (j : Fin 2048) : iblk m c 2 t (ix2 r j) = inD m c (ix2 (token (t.val % 16) r) (column (t.val / 16) j)) := by
  obtain ⟨e0, e1⟩ := index_d t
  have ht : t.val < 32 := lt_of_lt_of_eq t.isLt N_0
  have hj := j.isLt
  unfold iblk
  rw [View.read_apply]
  refine congrArg (inD m c) (funext fun a => Fin.ext ?_)
  match a with
  | ⟨0, _⟩ => show win0_2.index t 0 * 512 + 1 * r.val = (token (t.val % 16) r).val; rw [token_val (Nat.mod_lt _ (by decide)), e0]; omega
  | ⟨1, _⟩ => show win0_2.index t 1 * 2048 + 1 * j.val = (2048 * (t.val / 16) + j.val) % 4096; rw [e1]; omega

/-- What a point adds is its block of tokens' part of the gradient. -/
theorem step_apply (n : ℕ) (h : n < cfg0.N) (acc : Vec Ideal S1024x2048 .f32) (i : S1024x2048.Idx) :
    Value.step3 m c n h acc i = acc i + part (inX m c) (inG m c) (inD m c) (n % 16) (i 0) (column (n / 16) (i 1)) := by
  obtain ⟨k, j, rfl⟩ : ∃ (k : Fin 1024) (j : Fin 2048), i = ix2 k j := ⟨i 0, i 1, eq_ix2 i⟩
  refine (pay_apply _ _ _ _ k j).trans (congrArg (acc _ + ·) (Finset.sum_congr rfl fun r _ => ?_))
  have ex : (fun l => iblk m c 0 ⟨n, h⟩ (ix2 r l)) = fun l => inX m c (ix2 (token (n % 16) r) l) := funext fun l => block_x m c ⟨n, h⟩ r l
  exact congrArg₂ (fun p q : EReal => p * q) (congrArg₂ (fun p q => normed p q k) ex (block_g m c ⟨n, h⟩ k)) (block_d m c ⟨n, h⟩ r j)

/-- The first point of a block of columns leaves its own part. -/
theorem reset_apply (n : ℕ) (h : n < cfg0.N) (i : S1024x2048.Idx) :
    Value.reset3 m c n h i = 0 + part (inX m c) (inG m c) (inD m c) (n % 16) (i 0) (column (n / 16) (i 1)) := by
  refine (step_apply m c n h (k0_pay1 (F := Ideal)) i).trans (congrArg (· + _) ?_)
  obtain ⟨k, j, rfl⟩ : ∃ (k : Fin 1024) (j : Fin 2048), i = ix2 k j := ⟨i 0, i 1, eq_ix2 i⟩
  exact start_apply k j

/-- The kernel's result: an entry is the sum over all tokens. -/
theorem result (i : S1024x4096.Idx) :
    Value.G3 m c i = ∑ t : Fin 8192, normed (fun l => inX m c (ix2 t l)) (inG m c (ix2 0 (i 0))) (i 0) * inD m c (ix2 t (i 1)) := by
  have h0 : (i 0).val < 1024 := (i 0).isLt
  have h1 : (i 1).val < 4096 := (i 1).isLt
  have hr : Value.run3Of i = (i 1).val / 2048 := by show 2 * ((i 0).val / 1024 - 0) + 1 * ((i 1).val / 2048 - 0) = _; omega
  have hN : cfg0.N = 32 := N_0
  have hk : (Value.loc3Of i 0 : Fin 1024) = i 0 := Fin.ext (Nat.mod_eq_of_lt h0)
  have hj : column ((i 1).val / 2048) (Value.loc3Of i 1) = i 1 := Fin.ext (by
    show (2048 * ((i 1).val / 2048) + (i 1).val % 2048) % 4096 = (i 1).val
    omega)
  unfold Value.G3
  rw [dif_pos (by rw [hr]; omega)]
  refine (Pipeline.accAt_add_apply (Value.reset3 m c) (Value.step3 m c) (fun _ => (0 : EReal))
    (fun n i => part (inX m c) (inG m c) (inD m c) (n % 16) (i 0) (column (n / 16) (i 1))) _ 15
    (fun h i => reset_apply m c _ h i) (fun n h acc i _ _ => step_apply m c n h acc i) 15 le_rfl _ _).trans ?_
  rw [zero_add, hr]
  refine Eq.trans (Finset.sum_congr rfl fun s hs => ?_)
    (sum_tokens fun t => normed (fun l => inX m c (ix2 t l)) (inG m c (ix2 0 (i 0))) (i 0) * inD m c (ix2 t (i 1)))
  have hs' : s < 16 := Finset.mem_range.mp hs
  rw [show (16 * ((i 1).val / 2048) + s) % 16 = s by omega, show (16 * ((i 1).val / 2048) + s) / 16 = (i 1).val / 2048 by omega, hj, hk]
  rfl

end

section
open Cert.Reference3Ideal Cert.Reference3Ideal.Read

/-- The reference's result is the same sum. -/
theorem reference (x : S8192x1024.Idx → EReal) (g : S1x1024.Idx → EReal) (d : S8192x4096.Idx → EReal) (i : S1024x4096.Idx) :
    val_main_v18 (F := Ideal) x g d i = ∑ t : Fin 8192, normed (fun l => x (ix2 t l)) (g (ix2 0 (i 0))) (i 0) * d (ix2 t (i 1)) := by
  rw [eq_ix2 i]
  pointwise [val_main_v18, val_main_v17, val_main_v15, val_main_v14, val_main_v13, val_main_v12, val_main_v11, val_main_v10, val_main_v9, val_main_v8, val_main_v7, val_main_v6, val_main_v5, val_main_v4, val_main_v3, val_main_v1, val_main_v0]
  rw [show val_main_cst_0 (F := Ideal) (Shape.Idx.first Gen.h_S_) = (0 : EReal) from zero_word]
  simp only [zero_add]
  exact Finset.sum_congr rfl fun t _ => mul_comm _ _

end

/-- The reference ends with its arguments unchanged and every counter at zero. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel's result is the reference's. -/
theorem values : Cert.algebraic_Kernel3Ideal_Reference3Ideal := by
  intro m g m' g' _ hagree
  refine ⟨fun c => Cert.Kernel3Ideal.Value.G3 m c, Cert.Kernel3Ideal.Value.run (F := Ideal) m g, ?_⟩
  refine (θ_run Cert.Reference3Ideal.defs _ _).mono (fun r H c => ⟨(H c).1.trans ?_, (H c).2⟩) (Cert.Reference3Ideal.Value.run (F := Ideal) m' g')
  obtain ⟨e0, e1, e2⟩ := hagree c
  rw [e0, e1, e2]
  exact funext fun i => (reference _ _ _ i).trans (result m c i).symm

end Cert.First
-- ==== Proof.Fourth.lean ====
/- The gradient of the attention's input weights, a product whose rows are normed: what the kernel accumulates over the sixteen
   blocks of tokens, and that the reference computes the same sums. -/
module

public import proofs.«01_k».proof.Proof.Gen.Kernel11Ideal.Value
public import proofs.«01_k».proof.Proof.Gen.Reference11Ideal.Read
public import proofs.«01_k».proof.Proof.First
public import Idealize.ShloMosaic.Lib.Pointwise
public import Idealize.ShloMosaic.Lib.IdealHost
public import Idealize.ShloMosaic.Lib.Quiescent

@[expose] public section

set_option maxRecDepth 16384

noncomputable section

namespace Cert.Fourth

open Idealize.ShloMosaic Idealize.ShloMosaic.TcCoe Idealize.ShloMosaic.Tactic Idealize.SL.Sem
open Cert.First (normed zero_word)
open Cert.Tiles

section
open Cert.Kernel11Ideal Cert.Kernel11Ideal.Gen

/-- One block's part of an entry of the gradient. -/
def part (x : S8192x1024.Idx → EReal) (g : S1x1024.Idx → EReal) (d : S8192x640.Idx → EReal) (b : ℕ) (k : Fin 1024) (j : Fin 640) : EReal :=
  ∑ r : Fin 512, normed (fun l => x (ix2 (token b r) l)) (g (ix2 0 k)) k * d (ix2 (token b r) j)

/-- What the body adds to the block of the gradient it holds. -/
theorem pay_apply (x : Vec Ideal S512x1024 .f32) (g : Vec Ideal S1x1024 .f32) (acc : Vec Ideal S1024x640 .f32) (d : Vec Ideal S512x640 .bf16) (k : Fin 1024) (j : Fin 640) :
    k0_pay2 (F := Ideal) x g acc d (ix2 k j) = acc (ix2 k j) + ∑ r : Fin 512, normed (fun l => x (ix2 r l)) (g (ix2 0 k)) k * d (ix2 r j) := by
  pointwise [k0_pay2]
  rfl

/-- The block of zeros the first block of tokens begins with. -/
theorem start_apply (k : Fin 1024) (j : Fin 640) : k0_pay1 (F := Ideal) (ix2 k j) = 0 := by
  pointwise [k0_pay1]

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_d : ∀ t : Fin grid0.N, win0_2.index t 0 = t.val ∧ win0_2.index t 1 = 0 := by decide +kernel

variable (m : (ℓ : Loc nD τ sig) → Buf (Elt Ideal) ℓ) (c : Dev nD)

/-- The rows before the norm, the gains, and the product's gradient. -/
abbrev inX : S8192x1024.Idx → EReal := m ((c.tc : Thread nD τ).loc main_arg0)
abbrev inG : S1x1024.Idx → EReal := m ((c.tc : Thread nD τ).loc main_arg1)
abbrev inD : S8192x640.Idx → EReal := m ((c.tc : Thread nD τ).loc main_arg2)

/-- A point is one of sixteen. -/
theorem point_lt (t : Fin cfg0.N) : t.val < 16 := lt_of_lt_of_eq t.isLt N_0

/-- A point's block of rows holds the rows of the point's tokens, -/
theorem block_x (t : Fin cfg0.N) (r : Fin 512) (k : Fin 1024) : iblk m c 0 t (ix2 r k) = inX m c (ix2 (token (t.val) r) k) := by
  obtain ⟨e0, e1⟩ := index_x t
  unfold iblk
  rw [View.read_apply]
  refine congrArg (inX m c) (funext fun a => Fin.ext ?_)
  match a with
  | ⟨0, _⟩ => show win0_0.index t 0 * 512 + 1 * r.val = (token (t.val) r).val; rw [token_val (point_lt t), e0]; omega
  | ⟨1, _⟩ => show win0_0.index t 1 * 1024 + 1 * k.val = k.val; rw [e1]; omega

/-- its block of gains holds all of them, -/
theorem block_g (t : Fin cfg0.N) (k : Fin 1024) : iblk m c 1 t (ix2 0 k) = inG m c (ix2 0 k) := by
  obtain ⟨e0, e1⟩ := index_g t
  unfold iblk
  rw [View.read_apply]
  refine congrArg (inG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- and its block of the product's gradient holds the tokens' rows . -/
theorem block_d (t : Fin cfg0.N) (r : Fin 512) (j : Fin 640) : iblk m c 2 t (ix2 r j) = inD m c (ix2 (token (t.val) r) j) := by
  obtain ⟨e0, e1⟩ := index_d t
  unfold iblk
  rw [View.read_apply]
  refine congrArg (inD m c) (funext fun a => Fin.ext ?_)
  match a with
  | ⟨0, _⟩ => show win0_2.index t 0 * 512 + 1 * r.val = (token (t.val) r).val; rw [token_val (point_lt t), e0]; omega
  | ⟨1, _⟩ => show win0_2.index t 1 * 640 + 1 * j.val = j.val; rw [e1]; omega

/-- What a point adds is its block of tokens' part of the gradient. -/
theorem step_apply (n : ℕ) (h : n < cfg0.N) (acc : Vec Ideal S1024x640 .f32) (i : S1024x640.Idx) :
    Value.step3 m c n h acc i = acc i + part (inX m c) (inG m c) (inD m c) n (i 0) (i 1) := by
  obtain ⟨k, j, rfl⟩ : ∃ (k : Fin 1024) (j : Fin 640), i = ix2 k j := ⟨i 0, i 1, eq_ix2 i⟩
  refine (pay_apply _ _ _ _ k j).trans (congrArg (acc _ + ·) (Finset.sum_congr rfl fun r _ => ?_))
  have ex : (fun l => iblk m c 0 ⟨n, h⟩ (ix2 r l)) = fun l => inX m c (ix2 (token n r) l) := funext fun l => block_x m c ⟨n, h⟩ r l
  exact congrArg₂ (fun p q : EReal => p * q) (congrArg₂ (fun p q => normed p q k) ex (block_g m c ⟨n, h⟩ k)) (block_d m c ⟨n, h⟩ r j)

/-- The first point leaves its own part. -/
theorem reset_apply (n : ℕ) (h : n < cfg0.N) (i : S1024x640.Idx) :
    Value.reset3 m c n h i = 0 + part (inX m c) (inG m c) (inD m c) n (i 0) (i 1) := by
  refine (step_apply m c n h (k0_pay1 (F := Ideal)) i).trans (congrArg (· + _) ?_)
  obtain ⟨k, j, rfl⟩ : ∃ (k : Fin 1024) (j : Fin 640), i = ix2 k j := ⟨i 0, i 1, eq_ix2 i⟩
  exact start_apply k j

/-- The kernel's result: an entry is the sum over all tokens. -/
theorem result (i : S1024x640.Idx) :
    Value.G3 m c i = ∑ t : Fin 8192, normed (fun l => inX m c (ix2 t l)) (inG m c (ix2 0 (i 0))) (i 0) * inD m c (ix2 t (i 1)) := by
  have h0 : (i 0).val < 1024 := (i 0).isLt
  have h1 : (i 1).val < 640 := (i 1).isLt
  have hr : Value.run3Of i = 0 := by show 1 * ((i 0).val / 1024 - 0) + 1 * ((i 1).val / 640 - 0) = _; omega
  have hN : cfg0.N = 16 := N_0
  have hk : (Value.loc3Of i 0 : Fin 1024) = i 0 := Fin.ext (Nat.mod_eq_of_lt h0)
  have hj : (Value.loc3Of i 1 : Fin 640) = i 1 := Fin.ext (Nat.mod_eq_of_lt h1)
  unfold Value.G3
  rw [dif_pos (by rw [hr]; omega)]
  refine (Pipeline.accAt_add_apply (Value.reset3 m c) (Value.step3 m c) (fun _ => (0 : EReal))
    (fun n i => part (inX m c) (inG m c) (inD m c) n (i 0) (i 1)) _ 15
    (fun h i => reset_apply m c _ h i) (fun n h acc i _ _ => step_apply m c n h acc i) 15 le_rfl _ _).trans ?_
  rw [zero_add, hr]
  refine Eq.trans (Finset.sum_congr rfl fun s hs => ?_)
    (sum_tokens fun t => normed (fun l => inX m c (ix2 t l)) (inG m c (ix2 0 (i 0))) (i 0) * inD m c (ix2 t (i 1)))
  rw [show 16 * 0 + s = s by omega, hj, hk]
  rfl

end

section
open Cert.Reference11Ideal Cert.Reference11Ideal.Read

/-- The reference's result is the same sum. -/
theorem reference (x : S8192x1024.Idx → EReal) (g : S1x1024.Idx → EReal) (d : S8192x640.Idx → EReal) (i : S1024x640.Idx) :
    val_main_v18 (F := Ideal) x g d i = ∑ t : Fin 8192, normed (fun l => x (ix2 t l)) (g (ix2 0 (i 0))) (i 0) * d (ix2 t (i 1)) := by
  rw [eq_ix2 i]
  pointwise [val_main_v18, val_main_v17, val_main_v15, val_main_v14, val_main_v13, val_main_v12, val_main_v11, val_main_v10, val_main_v9, val_main_v8, val_main_v7, val_main_v6, val_main_v5, val_main_v4, val_main_v3, val_main_v1, val_main_v0]
  rw [show val_main_cst_0 (F := Ideal) (Shape.Idx.first Gen.h_S_) = (0 : EReal) from zero_word]
  simp only [zero_add]
  exact Finset.sum_congr rfl fun t _ => mul_comm _ _

end

/-- The reference ends with its arguments unchanged and every counter at zero. -/
theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The kernel's result is the reference's. -/
theorem values : Cert.algebraic_Kernel11Ideal_Reference11Ideal := by
  intro m g m' g' _ hagree
  refine ⟨fun c => Cert.Kernel11Ideal.Value.G3 m c, Cert.Kernel11Ideal.Value.run (F := Ideal) m g, ?_⟩
  refine (θ_run Cert.Reference11Ideal.defs _ _).mono (fun r H c => ⟨(H c).1.trans ?_, (H c).2⟩) (Cert.Reference11Ideal.Value.run (F := Ideal) m' g')
  obtain ⟨e0, e1, e2⟩ := hagree c
  rw [e0, e1, e2]
  exact funext fun i => (reference _ _ _ i).trans (result m c i).symm

end Cert.Fourth
-- ==== Proof.Third.lean ====
/- The gradient of the input weights of one pair of branches, a product whose rows are normed: what the kernel accumulates over
   the sixteen blocks of tokens, and that the reference computes the same sums. -/
module

public import proofs.«01_k».proof.Proof.Gen.Kernel10Ideal.Value
public import proofs.«01_k».proof.Proof.Gen.Reference10Ideal.Read
public import proofs.«01_k».proof.Proof.First
public import Idealize.ShloMosaic.Lib.Pointwise
public import Idealize.ShloMosaic.Lib.IdealHost
public import Idealize.ShloMosaic.Lib.Quiescent

@[expose] public section

set_option maxRecDepth 16384

noncomputable section

namespace Cert.Third

open Idealize.ShloMosaic Idealize.ShloMosaic.TcCoe Idealize.ShloMosaic.Tactic Idealize.SL.Sem
open Cert.First (normed zero_word)
open Cert.Tiles

section
open Cert.Kernel10Ideal Cert.Kernel10Ideal.Gen

/-- One block's part of an entry of the gradient. -/
def part (x : S8192x1024.Idx → EReal) (g : S1x1024.Idx → EReal) (d : S8192x768.Idx → EReal) (b : ℕ) (k : Fin 1024) (j : Fin 768) : EReal :=
  ∑ r : Fin 512, normed (fun l => x (ix2 (token b r) l)) (g (ix2 0 k)) k * d (ix2 (token b r) j)

/-- What the body adds to the block of the gradient it holds. -/
theorem pay_apply (x : Vec Ideal S512x1024 .f32) (g : Vec Ideal S1x1024 .f32) (acc : Vec Ideal S1024x768 .f32) (d : Vec Ideal S512x768 .bf16) (k : Fin 1024) (j : Fin 768) :
    k0_pay2 (F := Ideal) x g acc d (ix2 k j) = acc (ix2 k j) + ∑ r : Fin 512, normed (fun l => x (ix2 r l)) (g (ix2 0 k)) k * d (ix2 r j) := by
  pointwise [k0_pay2]
  rfl

/-- The block of zeros the first block of tokens begins with. -/
theorem start_apply (k : Fin 1024) (j : Fin 768) : k0_pay1 (F := Ideal) (ix2 k j) = 0 := by
  pointwise [k0_pay1]

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_d : ∀ t : Fin grid0.N, win0_2.index t 0 = t.val ∧ win0_2.index t 1 = 0 := by decide +kernel

variable (m : (ℓ : Loc nD τ sig) → Buf (Elt Ideal) ℓ) (c : Dev nD)

/-- The rows before the norm, the gains, and the product's gradient. -/
abbrev inX : S8192x1024.Idx → EReal := m ((c.tc : Thread nD τ).loc main_arg0)
abbrev inG : S1x1024.Idx → EReal := m ((c.tc : Thread nD τ).loc main_arg1)
abbrev inD : S8192x768.Idx → EReal := m ((c.tc : Thread nD τ).loc main_arg2)

/-- A point is one of sixteen. -/
theorem point_lt (t : Fin cfg0.N) : t.val < 16 := lt_of_lt_of_eq t.isLt N_0

/-- A point's block of rows holds the rows of the point's tokens, -/
theorem block_x (t : Fin cfg0.N) (r : Fin 512) (k : Fin 1024) : iblk m c 0 t (ix2 r k) = inX m c (ix2 (token (t.val) r) k) := by
  obtain ⟨e0, e1⟩ := index_x t
  unfold iblk
  rw [View.read_apply]
  refine congrArg (inX m c) (funext fun a => Fin.ext ?_)
  match a with
  | ⟨0, _⟩ => show win0_0.index t 0 * 512 + 1 * r.val = (token (t.val) r).val; rw [token_val (point_lt t), e0]; omega
  | ⟨1, _⟩ => show win0_0.index t 1 * 1024 + 1 * k.val = k.val; rw [e1]; omega

/-- its block of gains holds all of them, -/
theorem block_g (t : Fin cfg0.N) (k : Fin 1024) : iblk m c 1 t (ix2 0 k) = inG m c (ix2 0 k) := by
  obtain ⟨e0, e1⟩ := index_g t
  unfold iblk
  rw [View.read_apply]
  refine congrArg (inG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- and its block of the product's gradient holds the tokens' rows . -/
theorem block_d (t : Fin cfg0.N) (r : Fin 512) (j : Fin 768) : iblk m c 2 t (ix2 r j) = inD m c (ix2 (token (t.val) r) j) := by
  obtain ⟨e0, e1⟩ := index_d t
  unfold iblk
  rw [View.read_apply]
  refine congrArg (inD m c) (funext fun a => Fin.ext ?_)
  match a with
  | ⟨0, _⟩ => show win0_2.index t 0 * 512 + 1 * r.val = (token (t.val) r).val; rw [token_val (point_lt t), e0]; omega
  | ⟨1, _⟩ => show win0_2.index t 1 * 768 + 1 * j.val = j.val; rw [e1]; omega

/-- What a point adds is its block of tokens' part of the gradient. -/
theorem step_apply (n : ℕ) (h : n < cfg0.N) (acc : Vec Ideal S1024x768 .f32) (i : S1024x768.Idx) :
    Value.step3 m c n h acc i = acc i + part (inX m c) (inG m c) (inD m c) n (i 0) (i 1) := by
  obtain ⟨k, j, rfl⟩ : ∃ (k : Fin 1024) (j : Fin 768), i = ix2 k j := ⟨i 0, i 1, eq_ix2 i⟩
  refine (pay_apply _ _ _ _ k j).trans (congrArg (acc _ + ·) (Finset.sum_congr rfl fun r _ => ?_))
  have ex : (fun l => iblk m c 0 ⟨n, h⟩ (ix2 r l)) = fun l => inX m c (ix2 (token n r) l) := funext fun l => block_x m c ⟨n, h⟩ r l
  exact congrArg₂ (fun p q : EReal => p * q) (congrArg₂ (fun p q => normed p q k) ex (block_g m c ⟨n, h⟩ k)) (block_d m c ⟨n, h⟩ r j)

/-- The first point leaves its own part. -/
theorem reset_apply (n : ℕ) (h : n < cfg0.N) (i : S1024x768.Idx) :
    Value.reset3 m c n h i = 0 + part (inX m c) (inG m c) (inD m c) n (i 0) (i 1) := by
  refine (step_apply m c n h (k0_pay1 (F := Ideal)) i).trans (congrArg (· + _) ?_)
  obtain ⟨k, j, rfl⟩ : ∃ (k : Fin 1024) (j : Fin 768), i = ix2 k j := ⟨i 0, i 1, eq_ix2 i⟩
  exact start_apply k j

/-- The kernel's result: an entry is the sum over all tokens. -/
theorem result (i : S1024x768.Idx) :
    Value.G3 m c i = ∑ t : Fin 8192, normed (fun l => inX m c (ix2 t l)) (inG m c (ix2 0 (i 0))) (i 0) * inD m c (ix2 t (i 1)) := by
  have h0 : (i 0).val < 1024 := (i 0).isLt
  have h1 : (i 1).val < 768 := (i 1).isLt
  have hr : Value.run3Of i = 0 := by show 1 * ((i 0).val / 1024 - 0) + 1 * ((i 1).val / 768 - 0) = _; omega
  have hN : cfg0.N = 16 := N_0
  have hk : (Value.loc3Of i 0 : Fin 1024) = i 0 := Fin.ext (Nat.mod_eq_of_lt h0)
  have hj : (Value.loc3Of i 1 : Fin 768) = i 1 := Fin.ext (Nat.mod_eq_of_lt h1)
  unfold Value.G3
  rw [dif_pos (by rw [hr]; omega)]
  refine (Pipeline.accAt_add_apply (Value.reset3 m c) (Value.step3 m c) (fun _ => (0 : EReal))
    (fun n i => part (inX m c) (inG m c) (inD m c) n (i 0) (i 1)) _ 15
    (fun h i => reset_apply m c _ h i) (fun n h acc i _ _ => step_apply m c n h acc i) 15 le_rfl _ _).trans ?_
  rw [zero_add, hr]
  refine Eq.trans (Finset.sum_congr rfl fun s hs => ?_)
    (sum_tokens fun t => normed (fun l => inX m c (ix2 t l)) (inG m c (ix2 0 (i 0))) (i 0) * inD m c (ix2 t (i 1)))
  rw [show 16 * 0 + s = s by omega, hj, hk]
  rfl

end

section
open Cert.Reference10Ideal Cert.Reference10Ideal.Read

/-- The reference's result is the same sum. -/
theorem reference (x : S8192x1024.Idx → EReal) (g : S1x1024.Idx → EReal) (d : S8192x768.Idx → EReal) (i : S1024x768.Idx) :
    val_main_v18 (F := Ideal) x g d i = ∑ t : Fin 8192, normed (fun l => x (ix2 t l)) (g (ix2 0 (i 0))) (i 0) * d (ix2 t (i 1)) := by
  rw [eq_ix2 i]
  pointwise [val_main_v18, val_main_v17, val_main_v15, val_main_v14, val_main_v13, val_main_v12, val_main_v11, val_main_v10, val_main_v9, val_main_v8, val_main_v7, val_main_v6, val_main_v5, val_main_v4, val_main_v3, val_main_v1, val_main_v0]
  rw [show val_main_cst_0 (F := Ideal) (Shape.Idx.first Gen.h_S_) = (0 : EReal) from zero_word]
  simp only [zero_add]
  exact Finset.sum_congr rfl fun t _ => mul_comm _ _

end

/-- The reference ends with its arguments unchanged and every counter at zero. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The kernel's result is the reference's. -/
theorem values : Cert.algebraic_Kernel10Ideal_Reference10Ideal := by
  intro m g m' g' _ hagree
  refine ⟨fun c => Cert.Kernel10Ideal.Value.G3 m c, Cert.Kernel10Ideal.Value.run (F := Ideal) m g, ?_⟩
  refine (θ_run Cert.Reference10Ideal.defs _ _).mono (fun r H c => ⟨(H c).1.trans ?_, (H c).2⟩) (Cert.Reference10Ideal.Value.run (F := Ideal) m' g')
  obtain ⟨e0, e1, e2⟩ := hagree c
  rw [e0, e1, e2]
  exact funext fun i => (reference _ _ _ i).trans (result m c i).symm

end Cert.Third
-- ==== Proof.Norm.lean ====
/- The gradient of a norm. For a row the kernel divides the whole difference by the row's root mean square, and the reference
   adds the same gradient up term by term, with half of the mean's part twice. The two agree for every row of extended reals:
   if an entry of the row is an infinity, the inverse root is zero and so is either gradient. -/
module

public import proofs.«01_k».proof.Proof.First

@[expose] public section

set_option maxRecDepth 16384

noncomputable section

namespace Cert.Norm

open Idealize.ShloMosaic

/-- The word of 1024 is read as 1024, -/
theorem size_word : Ideal.ofBits .f32 0x44800000#32 = ((1024 : ℝ) : EReal) := by
  simp [Ideal.ofBits, Ideal.ieee, -EReal.coe_mul]
  norm_num

/-- that of minus a half as minus a half, -/
theorem half_word : Ideal.ofBits .f32 0xBF000000#32 = ((-(1 / 2) : ℝ) : EReal) := by
  simp [Ideal.ofBits, Ideal.ieee, -EReal.coe_mul]
  norm_num

/-- and the small constant's as a positive number. -/
theorem small_word : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- A row's mean square, with the small constant added. -/
def square (x : Fin 1024 → EReal) : EReal :=
  Ideal.div (∑ l : Fin 1024, x l * x l) (Ideal.ofBits .f32 0x44800000#32) + Ideal.ofBits .f32 0x358637BD#32

/-- The inverse of its root. -/
def root (x : Fin 1024 → EReal) : EReal := Ideal.rsqrt (square x)

/-- An entry of the row's gradient, as the kernel computes it: `d` is the gradient of the scaled row. -/
def back (x d : Fin 1024 → EReal) (j : Fin 1024) : EReal :=
  root x * (d j - x j * root x * Ideal.div (∑ l : Fin 1024, d l * (x l * root x)) (Ideal.ofBits .f32 0x44800000#32))

/-- The half of the mean's part of the gradient, over the row's entry, as the reference computes it. -/
def half (x d : Fin 1024 → EReal) : EReal :=
  Ideal.div ((∑ l : Fin 1024, x l * d l) * (Ideal.ofBits .f32 0xBF000000#32 * Ideal.div (root x) (square x))) (Ideal.ofBits .f32 0x44800000#32)

/-- A product with itself is not negative. -/
theorem mul_self_nonneg' (a : EReal) : 0 ≤ a * a := by
  rcases le_total 0 a with h | h
  · exact EReal.mul_nonneg h h
  · have h' : 0 ≤ -a := EReal.neg_nonneg.mpr h
    have := EReal.mul_nonneg h' h'
    rwa [neg_mul, mul_neg, neg_neg] at this

/-- A nonnegative number comes out of a sum. -/
theorem sum_mul_coe {n : ℕ} (f : Fin n → EReal) {c : ℝ} (hc : 0 ≤ c) : ∑ l, f l * (c : EReal) = (∑ l, f l) * (c : EReal) := by
  classical
  induction (Finset.univ : Finset (Fin n)) using Finset.induction_on with
  | empty => simp
  | insert a s ha ih =>
    rw [Finset.sum_insert ha, Finset.sum_insert ha, ih]
    exact (EReal.right_distrib_of_nonneg_of_ne_top (EReal.coe_nonneg.mpr hc) (EReal.coe_ne_top c) _ _).symm

/-- The mean square is positive. -/
theorem square_pos (x : Fin 1024 → EReal) : 0 < square x := by
  obtain ⟨e, he, hw⟩ := small_word
  unfold square
  rw [hw, size_word, Ideal.div_coe (by norm_num)]
  have h : 0 ≤ (∑ l : Fin 1024, x l * x l) * ((1 / 1024 : ℝ) : EReal) :=
    EReal.mul_nonneg (Finset.sum_nonneg fun l _ => mul_self_nonneg' (x l)) (EReal.coe_nonneg.mpr (by norm_num))
  exact lt_of_lt_of_le (EReal.coe_pos.mpr he) (le_add_of_nonneg_left h)

/-- The two forms of the gradient agree. -/
theorem back_eq (x d : Fin 1024 → EReal) (j : Fin 1024) :
    back x d j = d j * root x + (x j * half x d + half x d * x j) := by
  have hpos := square_pos x
  unfold back half
  rw [size_word, half_word, Ideal.div_coe (by norm_num), Ideal.div_coe (by norm_num)]
  unfold root
  generalize square x = v at hpos ⊢
  induction v with
  | bot => exact absurd hpos (by simp)
  | top =>
    have e : Ideal.div 0 ⊤ = 0 := by unfold Ideal.div; simp
    simp [e]
  | coe q =>
    have hq : 0 < q := EReal.coe_pos.mp hpos
    rw [Ideal.rsqrt_coe, if_neg (not_lt.mpr hq.le), if_neg hq.ne', Ideal.div_coe hq.ne']
    have hr : 0 < (Real.sqrt q)⁻¹ := inv_pos.mpr (Real.sqrt_pos.mpr hq)
    have hqr : 1 / q = (Real.sqrt q)⁻¹ * (Real.sqrt q)⁻¹ := by
      rw [← mul_inv, Real.mul_self_sqrt hq.le, one_div]
    rw [hqr]
    generalize (Real.sqrt q)⁻¹ = r at hr ⊢
    have hs : ∑ l : Fin 1024, d l * (x l * (r : EReal)) = (∑ l : Fin 1024, x l * d l) * (r : EReal) := by
      rw [← sum_mul_coe _ hr.le]
      exact Finset.sum_congr rfl fun l _ => by rw [← mul_assoc, mul_comm (d l)]
    rw [hs]
    generalize (∑ l : Fin 1024, x l * d l) = T
    have hk : 0 ≤ 1 / 2 * (r * (r * r)) * (1 / 1024) := by positivity
    have e1 : T * (((-(1 / 2) : ℝ) : EReal) * ((r : EReal) * ((r * r : ℝ) : EReal))) * ((1 / 1024 : ℝ) : EReal)
        = -(T * ((1 / 2 * (r * (r * r)) * (1 / 1024) : ℝ) : EReal)) := by
      rw [← EReal.coe_mul, ← EReal.coe_mul, mul_assoc, ← EReal.coe_mul, ← mul_neg, ← EReal.coe_neg]
      congr 2
      ring
    rw [e1]
    have e2 : x j * (r : EReal) * (T * (r : EReal) * ((1 / 1024 : ℝ) : EReal)) = x j * T * ((r * r * (1 / 1024) : ℝ) : EReal) := by
      rw [show x j * (r : EReal) * (T * (r : EReal) * ((1 / 1024 : ℝ) : EReal)) = x j * T * ((r : EReal) * (r : EReal) * ((1 / 1024 : ℝ) : EReal)) by ac_rfl]
      rw [← EReal.coe_mul, ← EReal.coe_mul]
    rw [e2, sub_eq_add_neg, EReal.left_distrib_of_nonneg_of_ne_top (EReal.coe_nonneg.mpr hr.le) (EReal.coe_ne_top r), mul_comm (r : EReal) (d j)]
    refine congrArg (d j * (r : EReal) + ·) ?_
    have e3 : x j * -(T * ((1 / 2 * (r * (r * r)) * (1 / 1024) : ℝ) : EReal)) = -(x j * T) * ((1 / 2 * (r * (r * r)) * (1 / 1024) : ℝ) : EReal) := by
      rw [mul_neg, ← mul_assoc, neg_mul]
    rw [mul_comm (-(T * _)) (x j), e3, ← EReal.left_distrib_of_nonneg (EReal.coe_nonneg.mpr hk) (EReal.coe_nonneg.mpr hk), ← EReal.coe_add, ← neg_mul, mul_left_comm, ← EReal.coe_mul]
    congr 2
    ring

end Cert.Norm
-- ==== Proof.DownBack.lean ====
/- The gradient of the feed-forward's norm and second product: of the product, of the rows before it was rectified and squared,
   and of the norm's gains. What the kernel writes for each of the sixteen blocks of tokens, what it accumulates over them, and
   that the reference computes the same. -/
module

public import proofs.«01_k».proof.Proof.Gen.Kernel9Ideal.Value
public import proofs.«01_k».proof.Proof.Gen.Reference9Ideal.Read
public import proofs.«01_k».proof.Proof.Norm
public import Idealize.ShloMosaic.Lib.Pipeline.Value
public import Idealize.ShloMosaic.Lib.Pipeline.ValueKit.Basic

@[expose] public section

set_option maxRecDepth 16384

noncomputable section

namespace Cert.DownBack

open Idealize.ShloMosaic Idealize.ShloMosaic.TcCoe Idealize.ShloMosaic.Tactic Idealize.SL.Sem
open Cert.First (zero_word)
open Cert.Norm Cert.Tiles

section
open Cert.Kernel9Ideal Cert.Kernel9Ideal.Gen

/-- Every entry of the product's gradient: that of the layer's result, through the norm. -/
def through (y x : S8192x1024.Idx → EReal) (g : S1x1024.Idx → EReal) (i : S8192x1024.Idx) : EReal :=
  back (fun l => x (ix2 (i 0) l)) (fun l => y (ix2 (i 0) l) * g (ix2 0 l)) (i 1)

/-- An entry of the gradient before the rectified square: the token's row of the product's gradient times the column of the
    weights, and twice the rectified entry. -/
def entry (d : Fin 1024 → EReal) (w : S1024x4096.Idx → EReal) (a : EReal) (j : Fin 4096) : EReal :=
  (∑ k : Fin 1024, d k * w (ix2 k j)) * (Ideal.ofBits .f32 0x40000000#32 * max a 0)

/-- Every entry of it. -/
def before (y x : S8192x1024.Idx → EReal) (g : S1x1024.Idx → EReal) (a : S8192x4096.Idx → EReal) (w : S1024x4096.Idx → EReal) (i : S8192x4096.Idx) : EReal :=
  entry (fun k => through y x g (ix2 (i 0) k)) w (a i) (i 1)

/-- A token's part of the gradient of a gain. -/
def term (y x : S8192x1024.Idx → EReal) (t : Fin 8192) (j : Fin 1024) : EReal :=
  y (ix2 t j) * (x (ix2 t j) * root fun l => x (ix2 t l))

/-- Every entry of the gradient of the gains. -/
def gains (y x : S8192x1024.Idx → EReal) (i : S1x1024.Idx) : EReal :=
  ∑ t : Fin 8192, term y x t (i 1)

/-- The block of the product's gradient the body computes, -/
theorem pay_through (y : Vec Ideal S512x1024 .f32) (x : Vec Ideal S512x1024 .f32) (g : Vec Ideal S1x1024 .f32) (r : Fin 512) (j : Fin 1024) :
    k0_pay5 (F := Ideal) x g y (ix2 r j) = back (fun l => x (ix2 r l)) (fun l => y (ix2 r l) * g (ix2 0 l)) j := by
  pointwise [k0_pay5, k0_pay4, k0_pay3]
  rfl

/-- the block of the gradient before the rectified square, -/
theorem pay_before (d : FVec Ideal S512x1024 .f32) (w : Vec Ideal S1024x4096 .bf16) (a : Vec Ideal S512x4096 .bf16) (r : Fin 512) (j : Fin 4096) :
    k0_pay1 (F := Ideal) d w a (ix2 r j) = entry (fun k => d (ix2 r k)) w (a (ix2 r j)) j := by
  pointwise [k0_pay1]
  rfl

/-- and what it adds to the gradient of the gains. -/
theorem pay_gains (y : Vec Ideal S512x1024 .f32) (x : Vec Ideal S512x1024 .f32) (acc : Vec Ideal S1x1024 .f32) (j : Fin 1024) :
    k0_pay6 (F := Ideal) x y acc (ix2 0 j) = acc (ix2 0 j) + ∑ r : Fin 512, y (ix2 r j) * (x (ix2 r j) * root fun l => x (ix2 r l)) := by
  pointwise [k0_pay6, k0_pay4, k0_pay3]
  rfl

/-- The zeros the first block of tokens begins with. -/
theorem start_apply (j : Fin 1024) : k0_pay2 (F := Ideal) (ix2 0 j) = 0 := by
  pointwise [k0_pay2]

theorem index_y : ∀ t : Fin grid0.N, win0_0.index t 0 = t.val ∧ win0_0.index t 1 = 0 := by decide +kernel
theorem index_x : ∀ t : Fin grid0.N, win0_1.index t 0 = t.val ∧ win0_1.index t 1 = 0 := by decide +kernel
theorem index_g : ∀ t : Fin grid0.N, win0_2.index t 0 = 0 ∧ win0_2.index t 1 = 0 := by decide +kernel
theorem index_a : ∀ t : Fin grid0.N, win0_3.index t 0 = t.val ∧ win0_3.index t 1 = 0 := by decide +kernel
theorem index_w : ∀ t : Fin grid0.N, win0_4.index t 0 = 0 ∧ win0_4.index t 1 = 0 := by decide +kernel
theorem index_through : ∀ t : Fin grid0.N, win0_5.index t 0 = t.val ∧ win0_5.index t 1 = 0 := by decide +kernel
theorem index_before : ∀ t : Fin grid0.N, win0_6.index t 0 = t.val ∧ win0_6.index t 1 = 0 := by decide +kernel
theorem index_gains : ∀ t : Fin grid0.N, win0_7.index t 0 = 0 ∧ win0_7.index t 1 = 0 := by decide +kernel
theorem writes_through : ∀ t : Fin grid0.N, (cfg0.win 5).flush t = true := by decide +kernel
theorem writes_before : ∀ t : Fin grid0.N, (cfg0.win 6).flush t = true := by decide +kernel
theorem writes_gains : ∀ t : Fin grid0.N, (cfg0.win 7).flush t = true ↔ t.val = 15 := by decide +kernel

variable (m : (ℓ : Loc nD τ sig) → Buf (Elt Ideal) ℓ) (c : Dev nD)

/-- The gradient of the layer's result, the product, the gains, the rows before they were rectified, and the weights. -/
abbrev inY : S8192x1024.Idx → EReal := m ((c.tc : Thread nD τ).loc main_arg0)
abbrev inX : S8192x1024.Idx → EReal := m ((c.tc : Thread nD τ).loc main_arg1)
abbrev inG : S1x1024.Idx → EReal := m ((c.tc : Thread nD τ).loc main_arg2)
abbrev inA : S8192x4096.Idx → EReal := m ((c.tc : Thread nD τ).loc main_arg3)
abbrev inW : S1024x4096.Idx → EReal := m ((c.tc : Thread nD τ).loc main_arg4)

/-- A point is one of sixteen. -/
theorem point_lt (t : Fin cfg0.N) : t.val < 16 := lt_of_lt_of_eq t.isLt N_0

/-- A point's block of the result's gradient holds the rows of its tokens, -/
theorem block_y (t : Fin cfg0.N) (r : Fin 512) (j : Fin 1024) : iblk m c 0 t (ix2 r j) = inY m c (ix2 (token t.val r) j) := by
  obtain ⟨e0, e1⟩ := index_y t
  unfold iblk
  rw [View.read_apply]
  refine congrArg (inY m c) (funext fun a => Fin.ext ?_)
  match a with
  | ⟨0, _⟩ => show win0_0.index t 0 * 512 + 1 * r.val = (token t.val r).val; rw [token_val (point_lt t), e0]; omega
  | ⟨1, _⟩ => show win0_0.index t 1 * 1024 + 1 * j.val = j.val; rw [e1]; omega

/-- and so does its block of the product; -/
theorem block_x (t : Fin cfg0.N) (r : Fin 512) (j : Fin 1024) : iblk m c 1 t (ix2 r j) = inX m c (ix2 (token t.val r) j) := by
  obtain ⟨e0, e1⟩ := index_x t
  unfold iblk
  rw [View.read_apply]
  refine congrArg (inX m c) (funext fun a => Fin.ext ?_)
  match a with
  | ⟨0, _⟩ => show win0_1.index t 0 * 512 + 1 * r.val = (token t.val r).val; rw [token_val (point_lt t), e0]; omega
  | ⟨1, _⟩ => show win0_1.index t 1 * 1024 + 1 * j.val = j.val; rw [e1]; omega

/-- its block of gains holds all of those, -/
theorem block_g (t : Fin cfg0.N) (j : Fin 1024) : iblk m c 2 t (ix2 0 j) = inG m c (ix2 0 j) := by
  obtain ⟨e0, e1⟩ := index_g t
  unfold iblk
  rw [View.read_apply]
  refine congrArg (inG m c) (funext fun a => Fin.ext ?_)
  match a with
  | ⟨0, _⟩ => show win0_2.index t 0 * 1 + 1 * 0 = 0; rw [e0]
  | ⟨1, _⟩ => show win0_2.index t 1 * 1024 + 1 * j.val = j.val; rw [e1]; omega

/-- its block of the rows before they were rectified its tokens', -/
theorem block_a (t : Fin cfg0.N) (r : Fin 512) (j : Fin 4096) : iblk m c 3 t (ix2 r j) = inA m c (ix2 (token t.val r) j) := by
  obtain ⟨e0, e1⟩ := index_a t
  unfold iblk
  rw [View.read_apply]
  refine congrArg (inA m c) (funext fun a => Fin.ext ?_)
  match a with
  | ⟨0, _⟩ => show win0_3.index t 0 * 512 + 1 * r.val = (token t.val r).val; rw [token_val (point_lt t), e0]; omega
  | ⟨1, _⟩ => show win0_3.index t 1 * 4096 + 1 * j.val = j.val; rw [e1]; omega

/-- and its block of weights all of them. -/
theorem block_w (t : Fin cfg0.N) (k : Fin 1024) (j : Fin 4096) : iblk m c 4 t (ix2 k j) = inW m c (ix2 k j) := by
  obtain ⟨e0, e1⟩ := index_w t
  unfold iblk
  rw [View.read_apply]
  refine congrArg (inW m c) (funext fun a => Fin.ext ?_)
  match a with
  | ⟨0, _⟩ => show win0_4.index t 0 * 1024 + 1 * k.val = k.val; rw [e0]; omega
  | ⟨1, _⟩ => show win0_4.index t 1 * 4096 + 1 * j.val = j.val; rw [e1]; omega

/-- The point's rows of the product are its tokens', -/
theorem row_block (t : Fin cfg0.N) (r : Fin 512) : (fun l => iblk m c 1 t (ix2 r l)) = fun l => inX m c (ix2 (token t.val r) l) :=
  funext fun l => block_x m c t r l

/-- and so is its block of the product's gradient. -/
theorem through_block (t : Fin cfg0.N) (r : Fin 512) (j : Fin 1024) :
    k0_pay5 (F := Ideal) (iblk m c 1 t) (iblk m c 2 t) (iblk m c 0 t) (ix2 r j) = through (inY m c) (inX m c) (inG m c) (ix2 (token t.val r) j) := by
  refine (pay_through _ _ _ r j).trans ?_
  exact congrArg₂ (fun p q => back p q j) (row_block m c t r) (funext fun l => congrArg₂ (fun p q : EReal => p * q) (block_y m c t r l) (block_g m c t l))

/-- The block of the product's gradient a point leaves, as the body's terms, -/
theorem body_through (t : Fin cfg0.N) :
    (outsAt0 m c t.val t.isLt).1 = k0_pay7 (iblk m c 1 t) (iblk m c 2 t) (iblk m c 0 t) := by
  by_cases h : t.val % 16 = 0
  · rw [outsAt0_A m c t h]
    dsimp only
    unfold out0_A_5
    rw [View.read_writes_eq_canon _ _ _ (cover0_A_5 c _ _ _ _ _ _ _ _ _ _ _ _ _ _ _ _ _ _ _ _ _ _ _)]
    unfold kernelRun0_A
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]
  · rw [outsAt0_B m c t h]
    dsimp only
    unfold out0_B_5
    rw [View.read_writes_eq_canon _ _ _ (cover0_B_5 c _ _ _ _ _ _ _ _ _ _ _ _ _ _ _ _ _ _ _ _ _ _ _ _)]
    unfold kernelRun0_B
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]

/-- and that of the gradient before the rectified square. -/
theorem body_before (t : Fin cfg0.N) :
    (outsAt0 m c t.val t.isLt).2.1 = k0_pay1 (k0_pay5 (iblk m c 1 t) (iblk m c 2 t) (iblk m c 0 t)) (iblk m c 4 t) (iblk m c 3 t) := by
  by_cases h : t.val % 16 = 0
  · rw [outsAt0_A m c t h]
    dsimp only
    unfold out0_A_6
    rw [View.read_writes_eq_canon _ _ _ (cover0_A_6 c _ _ _ _ _ _ _ _ _ _ _ _ _ _ _ _ _ _ _ _ _ _ _)]
    unfold kernelRun0_A
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]
  · rw [outsAt0_B m c t h]
    dsimp only
    unfold out0_B_6
    rw [View.read_writes_eq_canon _ _ _ (cover0_B_6 c _ _ _ _ _ _ _ _ _ _ _ _ _ _ _ _ _ _ _ _ _ _ _ _)]
    unfold kernelRun0_B
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]

/-- What a point leaves of the gradient of the gains, over what it found, -/
def step (n : ℕ) (h : n < cfg0.N) (acc : Vec Ideal S1x1024 .f32) : Vec Ideal S1x1024 .f32 :=
  k0_pay6 (iblk m c 1 ⟨n, h⟩) (iblk m c 0 ⟨n, h⟩) acc

/-- and what the first point leaves. -/
def first (n : ℕ) (h : n < cfg0.N) : Vec Ideal S1x1024 .f32 := step m c n h (k0_pay2 (F := Ideal))

/-- The first point's gradient of the gains, as the body's terms, -/
theorem body_first (t : Fin cfg0.N) (h : t.val % 16 = 0) : (outsAt0 m c t.val t.isLt).2.2 = first m c t.val t.isLt := by
  rw [outsAt0_A m c t h]
  dsimp only
  unfold out0_A_7 first step
  rw [View.read_writes_eq_canon _ _ _ (cover0_A_7 c _ _ _ _ _ _ _ _ _ _ _ _ _ _ _ _ _ _ _ _ _ _ _)]
  unfold kernelRun0_A
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread]
  simp (disch := decide) only [View.ld_unit_lit]
  rw [View.readCov_unit_zero _ (funext fun a => by fin_cases a <;> rfl)]

/-- and a later point's. -/
theorem body_step (t : Fin cfg0.N) (h : ¬t.val % 16 = 0) :
    (outsAt0 m c t.val t.isLt).2.2 = step m c t.val t.isLt (outsAt0 m c (t.val - 1) (Nat.lt_of_le_of_lt (Nat.sub_le _ _) t.isLt)).2.2 := by
  rw [outsAt0_B m c t h]
  dsimp only
  unfold out0_B_7 step
  rw [View.read_writes_eq_canon _ _ _ (cover0_B_7 c _ _ _ _ _ _ _ _ _ _ _ _ _ _ _ _ _ _ _ _ _ _ _ _)]
  unfold kernelRun0_B
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread, (hs0_7 t).read_unread]
  simp (disch := decide) only [View.ld_unit_lit]

/-- What a point leaves in its block of the product's gradient, -/
theorem left_through (t : Fin cfg0.N) (r : Fin 512) (j : Fin 1024) :
    (outsAt0 m c t.val t.isLt).1 (ix2 r j) = through (inY m c) (inX m c) (inG m c) (ix2 (token t.val r) j) := by
  rw [body_through]
  exact through_block m c t r j

/-- and in that of the gradient before the rectified square. -/
theorem left_before (t : Fin cfg0.N) (r : Fin 512) (j : Fin 4096) :
    (outsAt0 m c t.val t.isLt).2.1 (ix2 r j) = before (inY m c) (inX m c) (inG m c) (inA m c) (inW m c) (ix2 (token t.val r) j) := by
  rw [body_before]
  refine (pay_before _ _ _ r j).trans ?_
  refine congrArg₂ (fun p q : EReal => p * q) (Finset.sum_congr rfl fun k _ => ?_) (congrArg (fun p : EReal => Ideal.ofBits .f32 0x40000000#32 * max p 0) (block_a m c t r j))
  exact congrArg₂ (fun p q : EReal => p * q) (through_block m c t r k) (block_w m c t k j)

/-- One block's part of the gradient of a gain. -/
def part (b : ℕ) (j : Fin 1024) : EReal := ∑ r : Fin 512, term (inY m c) (inX m c) (token b r) j

/-- What a point adds is its block's part. -/
theorem step_apply (n : ℕ) (h : n < cfg0.N) (acc : Vec Ideal S1x1024 .f32) (i : S1x1024.Idx) :
    step m c n h acc i = acc i + part m c n (i 1) := by
  obtain ⟨j, rfl⟩ : ∃ j : Fin 1024, i = ix2 0 j := ⟨i 1, (eq_ix2 i).trans (congrArg (fun a => ix2 a (i 1)) (Subsingleton.elim (α := Fin 1) _ _))⟩
  refine (pay_gains _ _ _ j).trans (congrArg (acc _ + ·) (Finset.sum_congr rfl fun r _ => ?_))
  exact congrArg₂ (fun p q : EReal => p * q) (block_y m c ⟨n, h⟩ r j)
    (congrArg₂ (fun p q => p * root q) (block_x m c ⟨n, h⟩ r j) (row_block m c ⟨n, h⟩ r))

/-- The first point leaves its own part. -/
theorem first_apply (n : ℕ) (h : n < cfg0.N) (i : S1x1024.Idx) : first m c n h i = 0 + part m c n (i 1) := by
  refine (step_apply m c n h (k0_pay2 (F := Ideal)) i).trans (congrArg (· + _) ?_)
  obtain ⟨j, rfl⟩ : ∃ j : Fin 1024, i = ix2 0 j := ⟨i 1, (eq_ix2 i).trans (congrArg (fun a => ix2 a (i 1)) (Subsingleton.elim (α := Fin 1) _ _))⟩
  exact start_apply j

/-- The last point leaves the sum over all tokens. -/
theorem left_gains (t : Fin cfg0.N) (ht : t.val = 15) (i : S1x1024.Idx) :
    (outsAt0 m c t.val t.isLt).2.2 i = gains (inY m c) (inX m c) i := by
  have hN : cfg0.N = 16 := N_0
  have e := Pipeline.eq_accAt_of_mod (fun n h => (outsAt0 m c n h).2.2) 16 (first m c) (step m c)
    (fun n h hn => body_first m c ⟨n, h⟩ hn)
    (fun n h hn => body_step m c ⟨n + 1, h⟩ hn) (by decide) t.val t.isLt (by omega)
  refine (congrFun e i).trans ?_
  refine (Pipeline.accAt_add_apply (first m c) (step m c) (fun _ => (0 : EReal)) (fun n i => part m c n (i 1)) _ _
    (fun h i => first_apply m c _ h i) (fun n h acc i _ _ => step_apply m c n h acc i) _ le_rfl _ _).trans ?_
  rw [zero_add, ht]
  refine Eq.trans (Finset.sum_congr rfl fun s _ => ?_) (sum_tokens fun t => term (inY m c) (inX m c) t (i 1))
  rw [show 16 * (15 / 16) + s = s by omega]
  rfl

/-- The product's gradient, -/
theorem result_through : (dats m 0 c).arrAt 5 cfg0.N = through (inY m c) (inX m c) (inG m c) := by
  have hN : cfg0.N = 16 := N_0
  refine (dats m 0 c).arrAt_eq_of_cover 5 (through (inY m c) (inX m c) (inG m c)) (fun t _ => ?_) (fun (i : S8192x1024.Idx) => ?_)
  · obtain ⟨e0, e1⟩ := index_through t
    rw [Value.flushed5]
    funext y
    obtain ⟨r, j, rfl⟩ : ∃ (r : Fin 512) (j : Fin 1024), y = ix2 r j := ⟨y 0, y 1, eq_ix2 y⟩
    refine (left_through m c t r j).trans ?_
    rw [View.read_apply]
    refine congrArg (through (inY m c) (inX m c) (inG m c)) (funext fun a => Fin.ext ?_)
    match a with
    | ⟨0, _⟩ => show (token t.val r).val = win0_5.index t 0 * 512 + 1 * r.val; rw [token_val (point_lt t), e0]; omega
    | ⟨1, _⟩ => show j.val = win0_5.index t 1 * 1024 + 1 * j.val; rw [e1]; omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, writes_through _, ?_⟩
    obtain ⟨e0, e1⟩ := index_through ⟨(i 0 : Nat) / 512, ht⟩
    dsimp only at e0
    show i ∈ ((View.whole main_v0_0).slice (win0_5.rect ⟨(i 0 : Nat) / 512, ht⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [e0]; omega
    | ⟨1, _⟩ => show win0_5.index _ 1 * 1024 ≤ (i 1 : Nat) ∧ (i 1 : Nat) < win0_5.index _ 1 * 1024 + 1024; rw [e1]; omega

/-- that before the rectified square, -/
theorem result_before : (dats m 0 c).arrAt 6 cfg0.N = before (inY m c) (inX m c) (inG m c) (inA m c) (inW m c) := by
  have hN : cfg0.N = 16 := N_0
  refine (dats m 0 c).arrAt_eq_of_cover 6 (before (inY m c) (inX m c) (inG m c) (inA m c) (inW m c)) (fun t _ => ?_) (fun (i : S8192x4096.Idx) => ?_)
  · obtain ⟨e0, e1⟩ := index_before t
    rw [Value.flushed6]
    funext y
    obtain ⟨r, j, rfl⟩ : ∃ (r : Fin 512) (j : Fin 4096), y = ix2 r j := ⟨y 0, y 1, eq_ix2 y⟩
    refine (left_before m c t r j).trans ?_
    rw [View.read_apply]
    refine congrArg (before (inY m c) (inX m c) (inG m c) (inA m c) (inW m c)) (funext fun a => Fin.ext ?_)
    match a with
    | ⟨0, _⟩ => show (token t.val r).val = win0_6.index t 0 * 512 + 1 * r.val; rw [token_val (point_lt t), e0]; omega
    | ⟨1, _⟩ => show j.val = win0_6.index t 1 * 4096 + 1 * j.val; rw [e1]; omega
  · have h0 : (i 0 : Nat) < 8192 := (i 0).isLt
    have h1 : (i 1 : Nat) < 4096 := (i 1).isLt
    have ht : (i 0 : Nat) / 512 < cfg0.N := by omega
    refine ⟨⟨(i 0 : Nat) / 512, ht⟩, writes_before _, ?_⟩
    obtain ⟨e0, e1⟩ := index_before ⟨(i 0 : Nat) / 512, ht⟩
    dsimp only at e0
    show i ∈ ((View.whole main_v0_1).slice (win0_6.rect ⟨(i 0 : Nat) / 512, ht⟩)).set
    rw [View.set_slice_whole, Rect.mem_set_unit]
    intro a
    match a with
    | ⟨0, _⟩ => show win0_6.index _ 0 * 512 ≤ (i 0 : Nat) ∧ (i 0 : Nat) < win0_6.index _ 0 * 512 + 512; rw [e0]; omega
    | ⟨1, _⟩ => show win0_6.index _ 1 * 4096 ≤ (i 1 : Nat) ∧ (i 1 : Nat) < win0_6.index _ 1 * 4096 + 4096; rw [e1]; omega

/-- and that of the gains. -/
theorem result_gains : (dats m 0 c).arrAt 7 cfg0.N = gains (inY m c) (inX m c) := by
  have hN : cfg0.N = 16 := N_0
  refine (dats m 0 c).arrAt_eq_of_cover 7 (gains (inY m c) (inX m c)) (fun t hf => ?_) (fun (i : S1x1024.Idx) => ?_)
  · obtain ⟨e0, e1⟩ := index_gains t
    rw [Value.flushed7]
    funext y
    obtain ⟨r, j, rfl⟩ : ∃ (r : Fin 1) (j : Fin 1024), y = ix2 r j := ⟨y 0, y 1, eq_ix2 y⟩
    refine (left_gains m c t ((writes_gains t).mp hf) (ix2 r j)).trans ?_
    rw [View.read_apply]
    refine congrArg (gains (inY m c) (inX m c)) (funext fun a => Fin.ext ?_)
    match a with
    | ⟨0, _⟩ => show r.val = win0_7.index t 0 * 1 + 1 * r.val; rw [e0]; omega
    | ⟨1, _⟩ => show j.val = win0_7.index t 1 * 1024 + 1 * j.val; rw [e1]; omega
  · have h0 : (i 0 : Nat) < 1 := (i 0).isLt
    have h1 : (i 1 : Nat) < 1024 := (i 1).isLt
    have ht : 15 < cfg0.N := by omega
    refine ⟨⟨15, ht⟩, (writes_gains _).mpr rfl, ?_⟩
    obtain ⟨e0, e1⟩ := index_gains ⟨15, ht⟩
    show i ∈ ((View.whole main_v0_2).slice (win0_7.rect ⟨15, ht⟩)).set
    rw [View.set_slice_whole, Rect.mem_set_unit]
    intro a
    match a with
    | ⟨0, _⟩ => show win0_7.index _ 0 * 1 ≤ (i 0 : Nat) ∧ (i 0 : Nat) < win0_7.index _ 0 * 1 + 1; rw [e0]; omega
    | ⟨1, _⟩ => show win0_7.index _ 1 * 1024 ≤ (i 1 : Nat) ∧ (i 1 : Nat) < win0_7.index _ 1 * 1024 + 1024; rw [e1]; omega

end

section
open Cert.Reference9Ideal Cert.Reference9Ideal.Read

/-- The reference's product's gradient is the same, -/
theorem reference_through (y x : S8192x1024.Idx → EReal) (g : S1x1024.Idx → EReal) (i : S8192x1024.Idx) :
    val_main_v36 (F := Ideal) y x g i = through y x g i := by
  obtain ⟨t, j, rfl⟩ : ∃ (t : Fin 8192) (j : Fin 1024), i = ix2 t j := ⟨i 0, i 1, eq_ix2 i⟩
  pointwise [val_main_v36, val_main_v35, val_main_v34, val_main_v33, val_main_v32, val_main_v31, val_main_v30, val_main_v29, val_main_v28, val_main_v27, val_main_v26, val_main_v25, val_main_v24, val_main_v23, val_main_v21, val_main_v20, val_main_v14, val_main_v11, val_main_v10, val_main_v9, val_main_v8, val_main_v7, val_main_v6, val_main_v5, val_main_v4, val_main_v3, val_main_v2, val_main_v1, val_main_v0]
  show _ = back (fun l => x (ix2 t l)) (fun l => y (ix2 t l) * g (ix2 0 l)) j
  rw [back_eq, show val_main_cst (F := Ideal) (Shape.Idx.first Gen.h_S_) = (0 : EReal) from zero_word,
    show val_main_cst_5 (F := Ideal) (Shape.Idx.first Gen.h_S_) = (0 : EReal) from zero_word,
    show val_main_cst_7 (F := Ideal) (Shape.Idx.first Gen.h_S_) = (0 : EReal) from zero_word]
  simp only [zero_add, Finset.univ_unique, Finset.sum_singleton]
  rw [add_assoc]
  rfl

/-- so is the gradient before the rectified square, -/
theorem reference_before (y x : S8192x1024.Idx → EReal) (g : S1x1024.Idx → EReal) (a : S8192x4096.Idx → EReal) (w : S1024x4096.Idx → EReal) (i : S8192x4096.Idx) :
    val_main_v52 (F := Ideal) y x g a w i = before y x g a w i := by
  obtain ⟨t, j, rfl⟩ : ∃ (t : Fin 8192) (j : Fin 4096), i = ix2 t j := ⟨i 0, i 1, eq_ix2 i⟩
  have e : ∀ j', val_main_v36 (F := Ideal) y x g (ix2 t j') = through y x g (ix2 t j') := fun j' => reference_through y x g (ix2 t j')
  unfold val_main_v52 val_main_v50 val_main_v49
  generalize val_main_v36 (F := Ideal) y x g = f at e
  pointwise [val_main_v51, val_main_v47, val_main_v46, val_main_v45, val_main_v44, val_main_v41, val_main_v40, val_main_v39, val_main_v38, val_main_call0_v0]
  simp only [e]
  rw [show val_main_cst_8 (F := Ideal) ix0 = (0 : EReal) from zero_word,
    show val_main_cst_11 (F := Ideal) ix0 = (0 : EReal) from zero_word,
    show val_main_call0_cst (F := Ideal) ix0 = (0 : EReal) from zero_word]
  show _ = (∑ k : Fin 1024, through y x g (ix2 t k) * w (ix2 k j)) * (Ideal.ofBits .f32 0x40000000#32 * max (a (ix2 t j)) 0)
  by_cases h : 0 < a (ix2 t j)
  · rw [if_pos h]
    rfl
  · rw [if_neg h, max_eq_right (not_lt.mp h), mul_zero, mul_zero]

/-- and that of the gains. -/
theorem reference_gains (y x : S8192x1024.Idx → EReal) (i : S1x1024.Idx) :
    val_main_v37 (F := Ideal) y x i = gains y x i := by
  obtain ⟨r, j, rfl⟩ : ∃ (r : Fin 1) (j : Fin 1024), i = ix2 r j := ⟨i 0, i 1, eq_ix2 i⟩
  pointwise [val_main_v37, val_main_v22, val_main_v19, val_main_v18, val_main_v17, val_main_v13, val_main_v12, val_main_v8, val_main_v7, val_main_v6, val_main_v5, val_main_v4, val_main_v3, val_main_v2, val_main_v1]
  rw [show val_main_cst (F := Ideal) (Shape.Idx.first Gen.h_S_) = (0 : EReal) from zero_word,
    show val_main_cst_3 (F := Ideal) (Shape.Idx.first Gen.h_S_) = (0 : EReal) from zero_word,
    show val_main_cst_4 (F := Ideal) (Shape.Idx.first Gen.h_S_) = (0 : EReal) from zero_word]
  simp only [zero_add, Finset.univ_unique, Finset.sum_singleton]
  exact Finset.sum_congr rfl fun t _ => mul_comm _ _

end

/-- The reference ends with its arguments unchanged and every counter at zero. -/
theorem frame_reference : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- The kernel's results are the reference's. -/
theorem values : Cert.algebraic_Kernel9Ideal_Reference9Ideal := by
  intro m g m' g' _ hagree
  refine ⟨fun c => through (inY m c) (inX m c) (inG m c), fun c => before (inY m c) (inX m c) (inG m c) (inA m c) (inW m c), fun c => gains (inY m c) (inX m c),
    (θ_run Cert.Kernel9Ideal.defs _ _).mono (fun r h c => ⟨(h c).1.trans (result_through m c), (h c).2.1.trans (result_before m c), (h c).2.2.1.trans (result_gains m c), (h c).2.2.2⟩)
      (Cert.Kernel9Ideal.Value.run_blocks (F := Ideal) m g), ?_⟩
  refine (θ_run Cert.Reference9Ideal.defs _ _).mono (fun r H c => ⟨(H c).1.trans ?_, (H c).2.1.trans ?_, (H c).2.2.1.trans ?_, (H c).2.2.2⟩) (Cert.Reference9Ideal.Value.run (F := Ideal) m' g')
  · obtain ⟨e0, e1, e2, e3, e4⟩ := hagree c
    rw [Cert.Reference9Ideal.Read.val_main_v53_eq, e0, e1, e2]
    exact funext fun i => reference_through _ _ _ i
  · obtain ⟨e0, e1, e2, e3, e4⟩ := hagree c
    rw [Cert.Reference9Ideal.Read.val_main_v54_eq, e0, e1, e2, e3, e4]
    exact funext fun i => reference_before _ _ _ _ _ i
  · obtain ⟨e0, e1, e2, e3, e4⟩ := hagree c
    rw [Cert.Reference9Ideal.Read.val_main_v37_eq, e0, e1]
    exact funext fun i => reference_gains _ _ i

end Cert.DownBack
-- ==== Proof.InBack.lean ====
/- The gradient of the four projections of the normed rows with respect to what goes into the norm, and of the norm's gains: what
   the kernel writes for each of the sixteen blocks of tokens, what it accumulates over them, and that the reference
   computes the same. -/
module

public import proofs.«01_k».proof.Proof.Gen.Kernel8Ideal.Value
public import proofs.«01_k».proof.Proof.Gen.Reference8Ideal.Read
public import proofs.«01_k».proof.Proof.Norm
public import Idealize.ShloMosaic.Lib.Pipeline.Value
public import Idealize.ShloMosaic.Lib.Pipeline.ValueKit.Basic

@[expose] public section

set_option maxRecDepth 16384

noncomputable section

namespace Cert.InBack

open Idealize.ShloMosaic Idealize.ShloMosaic.TcCoe Idealize.ShloMosaic.Tactic Idealize.SL.Sem
open Cert.First (zero_word)
open Cert.Norm Cert.Tiles

section
open Cert.Kernel8Ideal Cert.Kernel8Ideal.Gen

/-- An entry of the normed row's gradient: the token's row of each projection's gradient, times the column of its weights. -/
def entry (d0 : Fin 4096 → EReal) (d1 d2 : Fin 768 → EReal) (d3 : Fin 640 → EReal)
    (w0 : S4096x1024.Idx → EReal) (w1 w2 : S768x1024.Idx → EReal) (w3 : S640x1024.Idx → EReal) (j : Fin 1024) : EReal :=
  ∑ k : Fin 4096, d0 k * w0 (ix2 k j) + ∑ k : Fin 768, d1 k * w1 (ix2 k j) + ∑ k : Fin 768, d2 k * w2 (ix2 k j) + ∑ k : Fin 640, d3 k * w3 (ix2 k j)

/-- The normed rows' gradient. -/
def rows (d0 : S8192x4096.Idx → EReal) (d1 d2 : S8192x768.Idx → EReal) (d3 : S8192x640.Idx → EReal)
    (w0 : S4096x1024.Idx → EReal) (w1 w2 : S768x1024.Idx → EReal) (w3 : S640x1024.Idx → EReal) (t : Fin 8192) (j : Fin 1024) : EReal :=
  entry (fun k => d0 (ix2 t k)) (fun k => d1 (ix2 t k)) (fun k => d2 (ix2 t k)) (fun k => d3 (ix2 t k)) w0 w1 w2 w3 j

/-- Every entry of the gradient of what came in, from the normed rows': its gradient past the norm, plus that through the norm. -/
def inward (h : Fin 8192 → Fin 1024 → EReal) (x : S8192x1024.Idx → EReal) (g : S1x1024.Idx → EReal) (y : S8192x1024.Idx → EReal) (i : S8192x1024.Idx) : EReal :=
  y i + back (fun l => x (ix2 (i 0) l)) (fun l => h (i 0) l * g (ix2 0 l)) (i 1)

/-- A token's part of the gradient of a gain. -/
def term (h : Fin 8192 → Fin 1024 → EReal) (x : S8192x1024.Idx → EReal) (t : Fin 8192) (j : Fin 1024) : EReal :=
  h t j * (x (ix2 t j) * root fun l => x (ix2 t l))

/-- Every entry of the gradient of the gains. -/
def gains (h : Fin 8192 → Fin 1024 → EReal) (x : S8192x1024.Idx → EReal) (i : S1x1024.Idx) : EReal :=
  ∑ t : Fin 8192, term h x t (i 1)

/-- The block of the normed rows' gradient the body computes, -/
theorem pay_entry (d0 : Vec Ideal S512x4096 .bf16) (d1 d2 : Vec Ideal S512x768 .bf16) (d3 : Vec Ideal S512x640 .bf16)
    (w0 : Vec Ideal S4096x1024 .bf16) (w1 w2 : Vec Ideal S768x1024 .bf16) (w3 : Vec Ideal S640x1024 .bf16) (r : Fin 512) (j : Fin 1024) :
    k0_pay5 (F := Ideal) d0 w0 d1 w1 d2 w2 d3 w3 (ix2 r j)
      = entry (fun k => d0 (ix2 r k)) (fun k => d1 (ix2 r k)) (fun k => d2 (ix2 r k)) (fun k => d3 (ix2 r k)) w0 w1 w2 w3 j := by
  pointwise [k0_pay5]
  rfl

/-- the block of the gradient of what came in, -/
theorem pay_inward (h : FVec Ideal S512x1024 .f32) (x : Vec Ideal S512x1024 .f32) (g : Vec Ideal S1x1024 .f32) (y : Vec Ideal S512x1024 .f32) (r : Fin 512) (j : Fin 1024) :
    k0_pay3 (F := Ideal) h x g (k0_pay6 x) (k0_pay7 x) y (ix2 r j)
      = y (ix2 r j) + back (fun l => x (ix2 r l)) (fun l => h (ix2 r l) * g (ix2 0 l)) j := by
  pointwise [k0_pay3, k0_pay1, k0_pay7, k0_pay6]
  rfl

/-- and what it adds to the gradient of the gains. -/
theorem pay_gains (h : FVec Ideal S512x1024 .f32) (x : Vec Ideal S512x1024 .f32) (acc : Vec Ideal S1x1024 .f32) (j : Fin 1024) :
    k0_pay2 (F := Ideal) h x (k0_pay7 x) acc (ix2 0 j) = acc (ix2 0 j) + ∑ r : Fin 512, h (ix2 r j) * (x (ix2 r j) * root fun l => x (ix2 r l)) := by
  pointwise [k0_pay2, k0_pay1, k0_pay7, k0_pay6]
  rfl

/-- The zeros the first block of tokens begins with. -/
theorem start_apply (j : Fin 1024) : k0_pay4 (F := Ideal) (ix2 0 j) = 0 := by
  pointwise [k0_pay4]

theorem index_d0 : ∀ t : Fin grid0.N, win0_0.index t 0 = t.val ∧ win0_0.index t 1 = 0 := by decide +kernel
theorem index_d1 : ∀ t : Fin grid0.N, win0_1.index t 0 = t.val ∧ win0_1.index t 1 = 0 := by decide +kernel
theorem index_d2 : ∀ t : Fin grid0.N, win0_2.index t 0 = t.val ∧ win0_2.index t 1 = 0 := by decide +kernel
theorem index_d3 : ∀ t : Fin grid0.N, win0_3.index t 0 = t.val ∧ win0_3.index t 1 = 0 := by decide +kernel
theorem index_w0 : ∀ t : Fin grid0.N, win0_4.index t 0 = 0 ∧ win0_4.index t 1 = 0 := by decide +kernel
theorem index_w1 : ∀ t : Fin grid0.N, win0_5.index t 0 = 0 ∧ win0_5.index t 1 = 0 := by decide +kernel
theorem index_w2 : ∀ t : Fin grid0.N, win0_6.index t 0 = 0 ∧ win0_6.index t 1 = 0 := by decide +kernel
theorem index_w3 : ∀ t : Fin grid0.N, win0_7.index t 0 = 0 ∧ win0_7.index t 1 = 0 := by decide +kernel
theorem index_x : ∀ t : Fin grid0.N, win0_8.index t 0 = t.val ∧ win0_8.index t 1 = 0 := by decide +kernel
theorem index_g : ∀ t : Fin grid0.N, win0_9.index t 0 = 0 ∧ win0_9.index t 1 = 0 := by decide +kernel
theorem index_y : ∀ t : Fin grid0.N, win0_10.index t 0 = t.val ∧ win0_10.index t 1 = 0 := by decide +kernel
theorem index_inward : ∀ t : Fin grid0.N, win0_11.index t 0 = t.val ∧ win0_11.index t 1 = 0 := by decide +kernel
theorem index_gains : ∀ t : Fin grid0.N, win0_12.index t 0 = 0 ∧ win0_12.index t 1 = 0 := by decide +kernel
theorem writes_inward : ∀ t : Fin grid0.N, (cfg0.win 11).flush t = true := by decide +kernel
theorem writes_gains : ∀ t : Fin grid0.N, (cfg0.win 12).flush t = true ↔ t.val = 15 := by decide +kernel

variable (m : (ℓ : Loc nD τ sig) → Buf (Elt Ideal) ℓ) (c : Dev nD)

/-- The projections' gradients, their weights, the rows before the norm, the gains, and the gradient past the norm. -/
abbrev inD0 : S8192x4096.Idx → EReal := m ((c.tc : Thread nD τ).loc main_arg0)
abbrev inD1 : S8192x768.Idx → EReal := m ((c.tc : Thread nD τ).loc main_arg1)
abbrev inD2 : S8192x768.Idx → EReal := m ((c.tc : Thread nD τ).loc main_arg2)
abbrev inD3 : S8192x640.Idx → EReal := m ((c.tc : Thread nD τ).loc main_arg3)
abbrev inW0 : S4096x1024.Idx → EReal := m ((c.tc : Thread nD τ).loc main_arg4)
abbrev inW1 : S768x1024.Idx → EReal := m ((c.tc : Thread nD τ).loc main_arg5)
abbrev inW2 : S768x1024.Idx → EReal := m ((c.tc : Thread nD τ).loc main_arg6)
abbrev inW3 : S640x1024.Idx → EReal := m ((c.tc : Thread nD τ).loc main_arg7)
abbrev inX : S8192x1024.Idx → EReal := m ((c.tc : Thread nD τ).loc main_arg8)
abbrev inG : S1x1024.Idx → EReal := m ((c.tc : Thread nD τ).loc main_arg9)
abbrev inY : S8192x1024.Idx → EReal := m ((c.tc : Thread nD τ).loc main_arg10)

/-- A point is one of sixteen. -/
theorem point_lt (t : Fin cfg0.N) : t.val < 16 := lt_of_lt_of_eq t.isLt N_0

/-- A point's block of the first projection's gradient holds the rows of its tokens, -/
theorem block_d0 (t : Fin cfg0.N) (r : Fin 512) (k : Fin 4096) : iblk m c 0 t (ix2 r k) = inD0 m c (ix2 (token t.val r) k) := by
  obtain ⟨e0, e1⟩ := index_d0 t
  unfold iblk
  rw [View.read_apply]
  refine congrArg (inD0 m c) (funext fun a => Fin.ext ?_)
  match a with
  | ⟨0, _⟩ => show win0_0.index t 0 * 512 + 1 * r.val = (token t.val r).val; rw [token_val (point_lt t), e0]; omega
  | ⟨1, _⟩ => show win0_0.index t 1 * 4096 + 1 * k.val = k.val; rw [e1]; omega

/-- its block of the second's, -/
theorem block_d1 (t : Fin cfg0.N) (r : Fin 512) (k : Fin 768) : iblk m c 1 t (ix2 r k) = inD1 m c (ix2 (token t.val r) k) := by
  obtain ⟨e0, e1⟩ := index_d1 t
  unfold iblk
  rw [View.read_apply]
  refine congrArg (inD1 m c) (funext fun a => Fin.ext ?_)
  match a with
  | ⟨0, _⟩ => show win0_1.index t 0 * 512 + 1 * r.val = (token t.val r).val; rw [token_val (point_lt t), e0]; omega
  | ⟨1, _⟩ => show win0_1.index t 1 * 768 + 1 * k.val = k.val; rw [e1]; omega

/-- of the third's, -/
theorem block_d2 (t : Fin cfg0.N) (r : Fin 512) (k : Fin 768) : iblk m c 2 t (ix2 r k) = inD2 m c (ix2 (token t.val r) k) := by
  obtain ⟨e0, e1⟩ := index_d2 t
  unfold iblk
  rw [View.read_apply]
  refine congrArg (inD2 m c) (funext fun a => Fin.ext ?_)
  match a with
  | ⟨0, _⟩ => show win0_2.index t 0 * 512 + 1 * r.val = (token t.val r).val; rw [token_val (point_lt t), e0]; omega
  | ⟨1, _⟩ => show win0_2.index t 1 * 768 + 1 * k.val = k.val; rw [e1]; omega

/-- and of the fourth's too, -/
theorem block_d3 (t : Fin cfg0.N) (r : Fin 512) (k : Fin 640) : iblk m c 3 t (ix2 r k) = inD3 m c (ix2 (token t.val r) k) := by
  obtain ⟨e0, e1⟩ := index_d3 t
  unfold iblk
  rw [View.read_apply]
  refine congrArg (inD3 m c) (funext fun a => Fin.ext ?_)
  match a with
  | ⟨0, _⟩ => show win0_3.index t 0 * 512 + 1 * r.val = (token t.val r).val; rw [token_val (point_lt t), e0]; omega
  | ⟨1, _⟩ => show win0_3.index t 1 * 640 + 1 * k.val = k.val; rw [e1]; omega

/-- its block of the first weights holds all of them, -/
theorem block_w0 (t : Fin cfg0.N) (k : Fin 4096) (j : Fin 1024) : iblk m c 4 t (ix2 k j) = inW0 m c (ix2 k j) := by
  obtain ⟨e0, e1⟩ := index_w0 t
  unfold iblk
  rw [View.read_apply]
  refine congrArg (inW0 m c) (funext fun a => Fin.ext ?_)
  match a with
  | ⟨0, _⟩ => show win0_4.index t 0 * 4096 + 1 * k.val = k.val; rw [e0]; omega
  | ⟨1, _⟩ => show win0_4.index t 1 * 1024 + 1 * j.val = j.val; rw [e1]; omega

/-- its block of the second, -/
theorem block_w1 (t : Fin cfg0.N) (k : Fin 768) (j : Fin 1024) : iblk m c 5 t (ix2 k j) = inW1 m c (ix2 k j) := by
  obtain ⟨e0, e1⟩ := index_w1 t
  unfold iblk
  rw [View.read_apply]
  refine congrArg (inW1 m c) (funext fun a => Fin.ext ?_)
  match a with
  | ⟨0, _⟩ => show win0_5.index t 0 * 768 + 1 * k.val = k.val; rw [e0]; omega
  | ⟨1, _⟩ => show win0_5.index t 1 * 1024 + 1 * j.val = j.val; rw [e1]; omega

/-- of the third, -/
theorem block_w2 (t : Fin cfg0.N) (k : Fin 768) (j : Fin 1024) : iblk m c 6 t (ix2 k j) = inW2 m c (ix2 k j) := by
  obtain ⟨e0, e1⟩ := index_w2 t
  unfold iblk
  rw [View.read_apply]
  refine congrArg (inW2 m c) (funext fun a => Fin.ext ?_)
  match a with
  | ⟨0, _⟩ => show win0_6.index t 0 * 768 + 1 * k.val = k.val; rw [e0]; omega
  | ⟨1, _⟩ => show win0_6.index t 1 * 1024 + 1 * j.val = j.val; rw [e1]; omega

/-- and of the fourth too, -/
theorem block_w3 (t : Fin cfg0.N) (k : Fin 640) (j : Fin 1024) : iblk m c 7 t (ix2 k j) = inW3 m c (ix2 k j) := by
  obtain ⟨e0, e1⟩ := index_w3 t
  unfold iblk
  rw [View.read_apply]
  refine congrArg (inW3 m c) (funext fun a => Fin.ext ?_)
  match a with
  | ⟨0, _⟩ => show win0_7.index t 0 * 640 + 1 * k.val = k.val; rw [e0]; omega
  | ⟨1, _⟩ => show win0_7.index t 1 * 1024 + 1 * j.val = j.val; rw [e1]; omega

/-- its block of the rows before the norm holds its tokens', -/
theorem block_x (t : Fin cfg0.N) (r : Fin 512) (k : Fin 1024) : iblk m c 8 t (ix2 r k) = inX m c (ix2 (token t.val r) k) := by
  obtain ⟨e0, e1⟩ := index_x t
  unfold iblk
  rw [View.read_apply]
  refine congrArg (inX m c) (funext fun a => Fin.ext ?_)
  match a with
  | ⟨0, _⟩ => show win0_8.index t 0 * 512 + 1 * r.val = (token t.val r).val; rw [token_val (point_lt t), e0]; omega
  | ⟨1, _⟩ => show win0_8.index t 1 * 1024 + 1 * k.val = k.val; rw [e1]; omega

/-- its block of gains holds all of those, -/
theorem block_g (t : Fin cfg0.N) (j : Fin 1024) : iblk m c 9 t (ix2 0 j) = inG m c (ix2 0 j) := by
  obtain ⟨e0, e1⟩ := index_g t
  unfold iblk
  rw [View.read_apply]
  refine congrArg (inG m c) (funext fun a => Fin.ext ?_)
  match a with
  | ⟨0, _⟩ => show win0_9.index t 0 * 1 + 1 * 0 = 0; rw [e0]
  | ⟨1, _⟩ => show win0_9.index t 1 * 1024 + 1 * j.val = j.val; rw [e1]; omega

/-- and its block of the gradient past the norm its tokens' rows. -/
theorem block_y (t : Fin cfg0.N) (r : Fin 512) (k : Fin 1024) : iblk m c 10 t (ix2 r k) = inY m c (ix2 (token t.val r) k) := by
  obtain ⟨e0, e1⟩ := index_y t
  unfold iblk
  rw [View.read_apply]
  refine congrArg (inY m c) (funext fun a => Fin.ext ?_)
  match a with
  | ⟨0, _⟩ => show win0_10.index t 0 * 512 + 1 * r.val = (token t.val r).val; rw [token_val (point_lt t), e0]; omega
  | ⟨1, _⟩ => show win0_10.index t 1 * 1024 + 1 * k.val = k.val; rw [e1]; omega

/-- The normed rows' gradient, over the tokens. -/
abbrev inH : Fin 8192 → Fin 1024 → EReal := rows (inD0 m c) (inD1 m c) (inD2 m c) (inD3 m c) (inW0 m c) (inW1 m c) (inW2 m c) (inW3 m c)

/-- The point's block of the normed rows' gradient, as the body computes it, -/
abbrev hidden (t : Fin cfg0.N) : FVec Ideal S512x1024 .f32 :=
  k0_pay5 (F := Ideal) (iblk m c 0 t) (iblk m c 4 t) (iblk m c 1 t) (iblk m c 5 t) (iblk m c 2 t) (iblk m c 6 t) (iblk m c 3 t) (iblk m c 7 t)

/-- holds its tokens', -/
theorem hidden_apply (t : Fin cfg0.N) (r : Fin 512) (j : Fin 1024) : hidden m c t (ix2 r j) = inH m c (token t.val r) j := by
  refine (pay_entry _ _ _ _ _ _ _ _ r j).trans ?_
  refine congrArg₂ (fun p q : EReal => p + q) (congrArg₂ (fun p q : EReal => p + q) (congrArg₂ (fun p q : EReal => p + q) ?_ ?_) ?_) ?_
  · exact Finset.sum_congr rfl fun k _ => congrArg₂ (fun p q : EReal => p * q) (block_d0 m c t r k) (block_w0 m c t k j)
  · exact Finset.sum_congr rfl fun k _ => congrArg₂ (fun p q : EReal => p * q) (block_d1 m c t r k) (block_w1 m c t k j)
  · exact Finset.sum_congr rfl fun k _ => congrArg₂ (fun p q : EReal => p * q) (block_d2 m c t r k) (block_w2 m c t k j)
  · exact Finset.sum_congr rfl fun k _ => congrArg₂ (fun p q : EReal => p * q) (block_d3 m c t r k) (block_w3 m c t k j)

/-- and so do its rows before the norm. -/
theorem row_block (t : Fin cfg0.N) (r : Fin 512) : (fun l => iblk m c 8 t (ix2 r l)) = fun l => inX m c (ix2 (token t.val r) l) :=
  funext fun l => block_x m c t r l

/-- The block of the gradient a point leaves, as the body's terms. -/
theorem body_inward (t : Fin cfg0.N) :
    (outsAt0 m c t.val t.isLt).1 = k0_pay3 (hidden m c t) (iblk m c 8 t) (iblk m c 9 t) (k0_pay6 (iblk m c 8 t)) (k0_pay7 (iblk m c 8 t)) (iblk m c 10 t) := by
  by_cases h : t.val % 16 = 0
  · rw [outsAt0_A m c t h]
    dsimp only
    unfold out0_A_11
    rw [View.read_writes_eq_canon _ _ _ (cover0_A_11 c _ _ _ _ _ _ _ _ _ _ _ _ _ _ _ _ _ _ _ _ _ _ _ _ _ _ _ _ _ _ _ _ _ _ _ _ _ _ _)]
    unfold kernelRun0_A
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
    simp (disch := decide) only [View.ld_unit_lit]
  · rw [outsAt0_B m c t h]
    dsimp only
    unfold out0_B_11
    rw [View.read_writes_eq_canon _ _ _ (cover0_B_11 c _ _ _ _ _ _ _ _ _ _ _ _ _ _ _ _ _ _ _ _ _ _ _ _ _ _ _ _ _ _ _ _ _ _ _ _ _ _ _ _)]
    unfold kernelRun0_B
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
    simp (disch := decide) only [View.ld_unit_lit]

/-- What a point leaves of the gradient of the gains, over what it found, -/
def step (n : ℕ) (h : n < cfg0.N) (acc : Vec Ideal S1x1024 .f32) : Vec Ideal S1x1024 .f32 :=
  k0_pay2 (hidden m c ⟨n, h⟩) (iblk m c 8 ⟨n, h⟩) (k0_pay7 (iblk m c 8 ⟨n, h⟩)) acc

/-- and what the first point leaves. -/
def first (n : ℕ) (h : n < cfg0.N) : Vec Ideal S1x1024 .f32 := step m c n h (k0_pay4 (F := Ideal))

/-- The first point's gradient of the gains, as the body's terms, -/
theorem body_first (t : Fin cfg0.N) (h : t.val % 16 = 0) : (outsAt0 m c t.val t.isLt).2 = first m c t.val t.isLt := by
  rw [outsAt0_A m c t h]
  dsimp only
  unfold out0_A_12 first step
  rw [View.read_writes_eq_canon _ _ _ (cover0_A_12 c _ _ _ _ _ _ _ _ _ _ _ _ _ _ _ _ _ _ _ _ _ _ _ _ _ _ _ _ _ _ _ _ _ _ _ _ _ _ _)]
  unfold kernelRun0_A
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread]
  simp (disch := decide) only [View.ld_unit_lit]
  rw [View.readCov_unit_zero _ (funext fun a => by fin_cases a <;> rfl)]

/-- and a later point's. -/
theorem body_step (t : Fin cfg0.N) (h : ¬t.val % 16 = 0) :
    (outsAt0 m c t.val t.isLt).2 = step m c t.val t.isLt (outsAt0 m c (t.val - 1) (Nat.lt_of_le_of_lt (Nat.sub_le _ _) t.isLt)).2 := by
  rw [outsAt0_B m c t h]
  dsimp only
  unfold out0_B_12 step
  rw [View.read_writes_eq_canon _ _ _ (cover0_B_12 c _ _ _ _ _ _ _ _ _ _ _ _ _ _ _ _ _ _ _ _ _ _ _ _ _ _ _ _ _ _ _ _ _ _ _ _ _ _ _ _)]
  unfold kernelRun0_B
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_12 t).read_unread]
  simp (disch := decide) only [View.ld_unit_lit]

/-- What a point leaves in its block of the gradient of what came in. -/
theorem left_inward (t : Fin cfg0.N) (r : Fin 512) (j : Fin 1024) :
    (outsAt0 m c t.val t.isLt).1 (ix2 r j) = inward (inH m c) (inX m c) (inG m c) (inY m c) (ix2 (token t.val r) j) := by
  rw [body_inward]
  refine (pay_inward _ _ _ _ r j).trans (congrArg₂ (fun p q : EReal => p + q) (block_y m c t r j) ?_)
  exact congrArg₂ (fun p q => back p q j) (row_block m c t r) (funext fun l => congrArg₂ (fun p q : EReal => p * q) (hidden_apply m c t r l) (block_g m c t l))

/-- One block's part of the gradient of a gain. -/
def part (b : ℕ) (j : Fin 1024) : EReal := ∑ r : Fin 512, term (inH m c) (inX m c) (token b r) j

/-- What a point adds is its block's part. -/
theorem step_apply (n : ℕ) (h : n < cfg0.N) (acc : Vec Ideal S1x1024 .f32) (i : S1x1024.Idx) :
    step m c n h acc i = acc i + part m c n (i 1) := by
  obtain ⟨j, rfl⟩ : ∃ j : Fin 1024, i = ix2 0 j := ⟨i 1, (eq_ix2 i).trans (congrArg (fun a => ix2 a (i 1)) (Subsingleton.elim (α := Fin 1) _ _))⟩
  refine (pay_gains _ _ _ j).trans (congrArg (acc _ + ·) (Finset.sum_congr rfl fun r _ => ?_))
  exact congrArg₂ (fun p q : EReal => p * q) (hidden_apply m c ⟨n, h⟩ r j)
    (congrArg₂ (fun p q => p * root q) (block_x m c ⟨n, h⟩ r j) (row_block m c ⟨n, h⟩ r))

/-- The first point leaves its own part. -/
theorem first_apply (n : ℕ) (h : n < cfg0.N) (i : S1x1024.Idx) : first m c n h i = 0 + part m c n (i 1) := by
  refine (step_apply m c n h (k0_pay4 (F := Ideal)) i).trans (congrArg (· + _) ?_)
  obtain ⟨j, rfl⟩ : ∃ j : Fin 1024, i = ix2 0 j := ⟨i 1, (eq_ix2 i).trans (congrArg (fun a => ix2 a (i 1)) (Subsingleton.elim (α := Fin 1) _ _))⟩
  exact start_apply j

/-- The last point leaves the sum over all tokens. -/
theorem left_gains (t : Fin cfg0.N) (ht : t.val = 15) (i : S1x1024.Idx) :
    (outsAt0 m c t.val t.isLt).2 i = gains (inH m c) (inX m c) i := by
  have hN : cfg0.N = 16 := N_0
  have e := Pipeline.eq_accAt_of_mod (fun n h => (outsAt0 m c n h).2) 16 (first m c) (step m c)
    (fun n h hn => body_first m c ⟨n, h⟩ hn)
    (fun n h hn => body_step m c ⟨n + 1, h⟩ hn) (by decide) t.val t.isLt (by omega)
  refine (congrFun e i).trans ?_
  refine (Pipeline.accAt_add_apply (first m c) (step m c) (fun _ => (0 : EReal)) (fun n i => part m c n (i 1)) _ _
    (fun h i => first_apply m c _ h i) (fun n h acc i _ _ => step_apply m c n h acc i) _ le_rfl _ _).trans ?_
  rw [zero_add, ht]
  refine Eq.trans (Finset.sum_congr rfl fun s _ => ?_) (sum_tokens fun t => term (inH m c) (inX m c) t (i 1))
  rw [show 16 * (15 / 16) + s = s by omega]
  rfl

/-- The gradient of what came in, -/
theorem result_inward : (dats m 0 c).arrAt 11 cfg0.N = inward (inH m c) (inX m c) (inG m c) (inY m c) := by
  have hN : cfg0.N = 16 := N_0
  refine (dats m 0 c).arrAt_eq_of_cover 11 (inward (inH m c) (inX m c) (inG m c) (inY m c)) (fun t _ => ?_) (fun (i : S8192x1024.Idx) => ?_)
  · obtain ⟨e0, e1⟩ := index_inward t
    rw [Value.flushed11]
    funext y
    obtain ⟨r, j, rfl⟩ : ∃ (r : Fin 512) (j : Fin 1024), y = ix2 r j := ⟨y 0, y 1, eq_ix2 y⟩
    refine (left_inward m c t r j).trans ?_
    rw [View.read_apply]
    refine congrArg (inward (inH m c) (inX m c) (inG m c) (inY m c)) (funext fun a => Fin.ext ?_)
    match a with
    | ⟨0, _⟩ => show (token t.val r).val = win0_11.index t 0 * 512 + 1 * r.val; rw [token_val (point_lt t), e0]; omega
    | ⟨1, _⟩ => show j.val = win0_11.index t 1 * 1024 + 1 * j.val; rw [e1]; omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, writes_inward _, ?_⟩
    obtain ⟨e0, e1⟩ := index_inward ⟨(i 0 : Nat) / 512, ht⟩
    dsimp only at e0
    show i ∈ ((View.whole main_v0_0).slice (win0_11.rect ⟨(i 0 : Nat) / 512, ht⟩)).set
    rw [View.set_slice_whole, Rect.mem_set_unit]
    intro a
    match a with
    | ⟨0, _⟩ => show win0_11.index _ 0 * 512 ≤ (i 0 : Nat) ∧ (i 0 : Nat) < win0_11.index _ 0 * 512 + 512; rw [e0]; omega
    | ⟨1, _⟩ => show win0_11.index _ 1 * 1024 ≤ (i 1 : Nat) ∧ (i 1 : Nat) < win0_11.index _ 1 * 1024 + 1024; rw [e1]; omega

/-- and that of the gains. -/
theorem result_gains : (dats m 0 c).arrAt 12 cfg0.N = gains (inH m c) (inX m c) := by
  have hN : cfg0.N = 16 := N_0
  refine (dats m 0 c).arrAt_eq_of_cover 12 (gains (inH m c) (inX m c)) (fun t hf => ?_) (fun (i : S1x1024.Idx) => ?_)
  · obtain ⟨e0, e1⟩ := index_gains t
    rw [Value.flushed12]
    funext y
    obtain ⟨r, j, rfl⟩ : ∃ (r : Fin 1) (j : Fin 1024), y = ix2 r j := ⟨y 0, y 1, eq_ix2 y⟩
    refine (left_gains m c t ((writes_gains t).mp hf) (ix2 r j)).trans ?_
    rw [View.read_apply]
    refine congrArg (gains (inH m c) (inX m c)) (funext fun a => Fin.ext ?_)
    match a with
    | ⟨0, _⟩ => show r.val = win0_12.index t 0 * 1 + 1 * r.val; rw [e0]; omega
    | ⟨1, _⟩ => show j.val = win0_12.index t 1 * 1024 + 1 * j.val; rw [e1]; omega
  · have h0 : (i 0 : Nat) < 1 := (i 0).isLt
    have h1 : (i 1 : Nat) < 1024 := (i 1).isLt
    have ht : 15 < cfg0.N := by omega
    refine ⟨⟨15, ht⟩, (writes_gains _).mpr rfl, ?_⟩
    obtain ⟨e0, e1⟩ := index_gains ⟨15, ht⟩
    show i ∈ ((View.whole main_v0_1).slice (win0_12.rect ⟨15, ht⟩)).set
    rw [View.set_slice_whole, Rect.mem_set_unit]
    intro a
    match a with
    | ⟨0, _⟩ => show win0_12.index _ 0 * 1 ≤ (i 0 : Nat) ∧ (i 0 : Nat) < win0_12.index _ 0 * 1 + 1; rw [e0]; omega
    | ⟨1, _⟩ => show win0_12.index _ 1 * 1024 ≤ (i 1 : Nat) ∧ (i 1 : Nat) < win0_12.index _ 1 * 1024 + 1024; rw [e1]; omega

end

section
open Cert.Reference8Ideal Cert.Reference8Ideal.Read

/-- The reference's normed rows' gradient is the same, -/
theorem reference_entry (d0 : S8192x4096.Idx → EReal) (d1 d2 : S8192x768.Idx → EReal) (d3 : S8192x640.Idx → EReal)
    (w0 : S4096x1024.Idx → EReal) (w1 w2 : S768x1024.Idx → EReal) (w3 : S640x1024.Idx → EReal) (t : Fin 8192) (j : Fin 1024) :
    val_main_v39 (F := Ideal) d0 d1 d2 d3 w0 w1 w2 w3 (ix2 t j) = rows d0 d1 d2 d3 w0 w1 w2 w3 t j := by
  pointwise [val_main_v39, val_main_v38, val_main_v37, val_main_v36, val_main_v35, val_main_v34, val_main_v33, val_main_v32, val_main_v31, val_main_v30, val_main_v29, val_main_v27, val_main_v26, val_main_v24, val_main_v23, val_main_v21, val_main_v20, val_main_v18, val_main_v17]
  exact (add_comm _ _).trans ((congrArg (_ + ·) ((add_comm _ _).trans (congrArg (_ + ·) (add_comm _ _)))).trans (by rw [← add_assoc, ← add_assoc]; rfl))

/-- and so is the gradient of what came in, -/
theorem reference_inward (d0 : S8192x4096.Idx → EReal) (d1 d2 : S8192x768.Idx → EReal) (d3 : S8192x640.Idx → EReal)
    (w0 : S4096x1024.Idx → EReal) (w1 w2 : S768x1024.Idx → EReal) (w3 : S640x1024.Idx → EReal)
    (x : S8192x1024.Idx → EReal) (g : S1x1024.Idx → EReal) (y : S8192x1024.Idx → EReal) (i : S8192x1024.Idx) :
    val_main_v60 (F := Ideal) d0 d1 d2 d3 w0 w1 w2 w3 x g y i = inward (rows d0 d1 d2 d3 w0 w1 w2 w3) x g y i := by
  obtain ⟨t, j, rfl⟩ : ∃ (t : Fin 8192) (j : Fin 1024), i = ix2 t j := ⟨i 0, i 1, eq_ix2 i⟩
  have e : ∀ j', val_main_v39 (F := Ideal) d0 d1 d2 d3 w0 w1 w2 w3 (ix2 t j') = rows d0 d1 d2 d3 w0 w1 w2 w3 t j' := reference_entry d0 d1 d2 d3 w0 w1 w2 w3 t
  unfold val_main_v60 val_main_v59 val_main_v58 val_main_v57 val_main_v56 val_main_v55 val_main_v54 val_main_v52 val_main_v51 val_main_v50 val_main_v48 val_main_v47 val_main_v46 val_main_v44
  generalize val_main_v39 (F := Ideal) d0 d1 d2 d3 w0 w1 w2 w3 = f at e
  pointwise [val_main_v53, val_main_v49, val_main_v43, val_main_v14, val_main_v11, val_main_v10, val_main_v9, val_main_v8, val_main_v7, val_main_v6, val_main_v5, val_main_v4, val_main_v3, val_main_v2, val_main_v1, val_main_v0]
  show _ = y (ix2 t j) + back (fun l => x (ix2 t l)) (fun l => rows d0 d1 d2 d3 w0 w1 w2 w3 t l * g (ix2 0 l)) j
  rw [back_eq, show val_main_cst (F := Ideal) (Shape.Idx.first Gen.h_S_) = (0 : EReal) from zero_word,
    show val_main_cst_5 (F := Ideal) (Shape.Idx.first Gen.h_S_) = (0 : EReal) from zero_word,
    show val_main_cst_7 (F := Ideal) (Shape.Idx.first Gen.h_S_) = (0 : EReal) from zero_word]
  simp only [zero_add, e, Finset.univ_unique, Finset.sum_singleton]
  rw [add_assoc, add_assoc]
  rfl

/-- and that of the gains. -/
theorem reference_gains (d0 : S8192x4096.Idx → EReal) (d1 d2 : S8192x768.Idx → EReal) (d3 : S8192x640.Idx → EReal)
    (w0 : S4096x1024.Idx → EReal) (w1 w2 : S768x1024.Idx → EReal) (w3 : S640x1024.Idx → EReal)
    (x : S8192x1024.Idx → EReal) (i : S1x1024.Idx) :
    val_main_v61 (F := Ideal) d0 d1 d2 d3 w0 w1 w2 w3 x i = gains (rows d0 d1 d2 d3 w0 w1 w2 w3) x i := by
  obtain ⟨r, j, rfl⟩ : ∃ (r : Fin 1) (j : Fin 1024), i = ix2 r j := ⟨i 0, i 1, eq_ix2 i⟩
  have e : ∀ t j', val_main_v39 (F := Ideal) d0 d1 d2 d3 w0 w1 w2 w3 (ix2 t j') = rows d0 d1 d2 d3 w0 w1 w2 w3 t j' := reference_entry d0 d1 d2 d3 w0 w1 w2 w3
  unfold val_main_v61 val_main_v45 val_main_v42 val_main_v41 val_main_v40
  generalize val_main_v39 (F := Ideal) d0 d1 d2 d3 w0 w1 w2 w3 = f at e
  pointwise [val_main_v13, val_main_v12, val_main_v8, val_main_v7, val_main_v6, val_main_v5, val_main_v4, val_main_v3, val_main_v2, val_main_v1]
  rw [show val_main_cst (F := Ideal) (Shape.Idx.first Gen.h_S_) = (0 : EReal) from zero_word,
    show val_main_cst_3 (F := Ideal) (Shape.Idx.first Gen.h_S_) = (0 : EReal) from zero_word,
    show val_main_cst_4 (F := Ideal) (Shape.Idx.first Gen.h_S_) = (0 : EReal) from zero_word]
  simp only [zero_add, e, Finset.univ_unique, Finset.sum_singleton]
  exact Finset.sum_congr rfl fun t _ => mul_comm _ _

end

/-- The reference ends with its arguments unchanged and every counter at zero. -/
theorem frame_reference : Cert.quiescent_Reference8Ideal := fun m ρ _ =>
  (θ_run Cert.Reference8Ideal.defs _ _).mono
    (fun r h => ⟨fun c => (h c).2.2, sem_eq_zero_of_no_sems (by decide) r.2⟩)
    (Cert.Reference8Ideal.Value.run (F := Ideal) m ρ)

/-- The kernel's results are the reference's. -/
theorem values : Cert.algebraic_Kernel8Ideal_Reference8Ideal := by
  intro m g m' g' _ hagree
  refine ⟨fun c => inward (inH m c) (inX m c) (inG m c) (inY m c), fun c => gains (inH m c) (inX m c),
    (θ_run Cert.Kernel8Ideal.defs _ _).mono (fun r h c => ⟨(h c).1.trans (result_inward m c), (h c).2.1.trans (result_gains m c), (h c).2.2⟩)
      (Cert.Kernel8Ideal.Value.run_blocks (F := Ideal) m g), ?_⟩
  refine (θ_run Cert.Reference8Ideal.defs _ _).mono (fun r H c => ⟨(H c).1.trans ?_, (H c).2.1.trans ?_, (H c).2.2⟩) (Cert.Reference8Ideal.Value.run (F := Ideal) m' g')
  · obtain ⟨e0, e1, e2, e3, e4, e5, e6, e7, e8, e9, e10⟩ := hagree c
    rw [Cert.Reference8Ideal.Read.val_main_v60_eq, e0, e1, e2, e3, e4, e5, e6, e7, e8, e9, e10]
    exact funext fun i => reference_inward _ _ _ _ _ _ _ _ _ _ _ i
  · obtain ⟨e0, e1, e2, e3, e4, e5, e6, e7, e8, e9, e10⟩ := hagree c
    rw [Cert.Reference8Ideal.Read.val_main_v61_eq, e0, e1, e2, e3, e4, e5, e6, e7, e8]
    exact funext fun i => reference_gains _ _ _ _ _ _ _ _ _ i

end Cert.InBack
-- ==== Proof.UpBack.lean ====
/- The gradient of the feed-forward's first product with respect to what goes into the norm before it, and of the norm's gains:
   what the kernel writes for each of the sixteen blocks of tokens, what it accumulates over them, and that the reference
   computes the same. -/
module

public import proofs.«01_k».proof.Proof.Gen.Kernel7Ideal.Value
public import proofs.«01_k».proof.Proof.Gen.Reference7Ideal.Read
public import proofs.«01_k».proof.Proof.Norm
public import Idealize.ShloMosaic.Lib.Pipeline.Value
public import Idealize.ShloMosaic.Lib.Pipeline.ValueKit.Basic

@[expose] public section

set_option maxRecDepth 16384

noncomputable section

namespace Cert.UpBack

open Idealize.ShloMosaic Idealize.ShloMosaic.TcCoe Idealize.ShloMosaic.Tactic Idealize.SL.Sem
open Cert.First (zero_word)
open Cert.Norm Cert.Tiles

section
open Cert.Kernel7Ideal Cert.Kernel7Ideal.Gen

/-- An entry of the normed row's gradient: the token's row of the product's gradient, times the column of the weights. -/
def entry (d : Fin 4096 → EReal) (w : S4096x1024.Idx → EReal) (j : Fin 1024) : EReal :=
  ∑ k : Fin 4096, d k * w (ix2 k j)

/-- Every entry of the gradient of what came in: its gradient past the norm, plus that through the norm. -/
def inward (d : S8192x4096.Idx → EReal) (w : S4096x1024.Idx → EReal) (x : S8192x1024.Idx → EReal) (g : S1x1024.Idx → EReal) (y : S8192x1024.Idx → EReal) (i : S8192x1024.Idx) : EReal :=
  y i + back (fun l => x (ix2 (i 0) l)) (fun l => entry (fun k => d (ix2 (i 0) k)) w l * g (ix2 0 l)) (i 1)

/-- A token's part of the gradient of a gain. -/
def term (d : S8192x4096.Idx → EReal) (w : S4096x1024.Idx → EReal) (x : S8192x1024.Idx → EReal) (t : Fin 8192) (j : Fin 1024) : EReal :=
  entry (fun k => d (ix2 t k)) w j * (x (ix2 t j) * root fun l => x (ix2 t l))

/-- Every entry of the gradient of the gains. -/
def gains (d : S8192x4096.Idx → EReal) (w : S4096x1024.Idx → EReal) (x : S8192x1024.Idx → EReal) (i : S1x1024.Idx) : EReal :=
  ∑ t : Fin 8192, term d w x t (i 1)

/-- The block of the normed rows' gradient the body computes, -/
theorem pay_entry (d : Vec Ideal S512x4096 .bf16) (w : Vec Ideal S4096x1024 .bf16) (r : Fin 512) (j : Fin 1024) :
    k0_pay3 (F := Ideal) d w (ix2 r j) = entry (fun k => d (ix2 r k)) w j := by
  pointwise [k0_pay3]
  rfl

/-- the block of the gradient through the norm, -/
theorem pay_back (d : Vec Ideal S512x4096 .bf16) (w : Vec Ideal S4096x1024 .bf16) (x : Vec Ideal S512x1024 .f32) (g : Vec Ideal S1x1024 .f32) (r : Fin 512) (j : Fin 1024) :
    k0_pay6 (F := Ideal) d w x g (ix2 r j) = back (fun l => x (ix2 r l)) (fun l => entry (fun k => d (ix2 r k)) w l * g (ix2 0 l)) j := by
  have e : ∀ j', k0_pay3 (F := Ideal) d w (ix2 r j') = entry (fun k => d (ix2 r k)) w j' := pay_entry d w r
  unfold k0_pay6
  generalize k0_pay3 (F := Ideal) d w = f at e
  dsimp only
  pointwise [k0_pay5, k0_pay4]
  unfold back root square
  simp only [e]

/-- and what it adds to the gradient of the gains. -/
theorem pay_gains (d : Vec Ideal S512x4096 .bf16) (w : Vec Ideal S4096x1024 .bf16) (x : Vec Ideal S512x1024 .f32) (acc : Vec Ideal S1x1024 .f32) (j : Fin 1024) :
    k0_pay7 (F := Ideal) d w x acc (ix2 0 j) = acc (ix2 0 j) + ∑ r : Fin 512, entry (fun k => d (ix2 r k)) w j * (x (ix2 r j) * root fun l => x (ix2 r l)) := by
  have e : ∀ r j', k0_pay3 (F := Ideal) d w (ix2 r j') = entry (fun k => d (ix2 r k)) w j' := pay_entry d w
  unfold k0_pay7
  generalize k0_pay3 (F := Ideal) d w = f at e
  dsimp only
  pointwise [k0_pay5, k0_pay4]
  unfold root square
  simp only [e]

/-- The zeros the first block of tokens begins with. -/
theorem start_apply (j : Fin 1024) : k0_pay2 (F := Ideal) (ix2 0 j) = 0 := by
  pointwise [k0_pay2]

theorem index_d : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_x : ∀ t : Fin grid0.N, win0_2.index t 0 = t.val ∧ win0_2.index t 1 = 0 := by decide +kernel
theorem index_g : ∀ t : Fin grid0.N, win0_3.index t 0 = 0 ∧ win0_3.index t 1 = 0 := by decide +kernel
theorem index_y : ∀ t : Fin grid0.N, win0_4.index t 0 = t.val ∧ win0_4.index t 1 = 0 := by decide +kernel
theorem index_inward : ∀ t : Fin grid0.N, win0_5.index t 0 = t.val ∧ win0_5.index t 1 = 0 := by decide +kernel
theorem index_gains : ∀ t : Fin grid0.N, win0_6.index t 0 = 0 ∧ win0_6.index t 1 = 0 := by decide +kernel
theorem writes_inward : ∀ t : Fin grid0.N, (cfg0.win 5).flush t = true := by decide +kernel
theorem writes_gains : ∀ t : Fin grid0.N, (cfg0.win 6).flush t = true ↔ t.val = 15 := by decide +kernel

variable (m : (ℓ : Loc nD τ sig) → Buf (Elt Ideal) ℓ) (c : Dev nD)

/-- The product's gradient, the weights, the rows before the norm, the gains, and the gradient past the norm. -/
abbrev inD : S8192x4096.Idx → EReal := m ((c.tc : Thread nD τ).loc main_arg0)
abbrev inW : S4096x1024.Idx → EReal := m ((c.tc : Thread nD τ).loc main_arg1)
abbrev inX : S8192x1024.Idx → EReal := m ((c.tc : Thread nD τ).loc main_arg2)
abbrev inG : S1x1024.Idx → EReal := m ((c.tc : Thread nD τ).loc main_arg3)
abbrev inY : S8192x1024.Idx → EReal := m ((c.tc : Thread nD τ).loc main_arg4)

/-- A point is one of sixteen. -/
theorem point_lt (t : Fin cfg0.N) : t.val < 16 := lt_of_lt_of_eq t.isLt N_0

/-- A point's block of the product's gradient holds the rows of its tokens, -/
theorem block_d (t : Fin cfg0.N) (r : Fin 512) (k : Fin 4096) : iblk m c 0 t (ix2 r k) = inD m c (ix2 (token t.val r) k) := by
  obtain ⟨e0, e1⟩ := index_d t
  unfold iblk
  rw [View.read_apply]
  refine congrArg (inD m c) (funext fun a => Fin.ext ?_)
  match a with
  | ⟨0, _⟩ => show win0_0.index t 0 * 512 + 1 * r.val = (token t.val r).val; rw [token_val (point_lt t), e0]; omega
  | ⟨1, _⟩ => show win0_0.index t 1 * 4096 + 1 * k.val = k.val; rw [e1]; omega

/-- its block of weights holds all of them, -/
theorem block_w (t : Fin cfg0.N) (k : Fin 4096) (j : Fin 1024) : iblk m c 1 t (ix2 k j) = inW m c (ix2 k j) := by
  obtain ⟨e0, e1⟩ := index_w t
  unfold iblk
  rw [View.read_apply]
  refine congrArg (inW m c) (funext fun a => Fin.ext ?_)
  match a with
  | ⟨0, _⟩ => show win0_1.index t 0 * 4096 + 1 * k.val = k.val; rw [e0]; omega
  | ⟨1, _⟩ => show win0_1.index t 1 * 1024 + 1 * j.val = j.val; rw [e1]; omega

/-- its block of the rows before the norm holds its tokens', -/
theorem block_x (t : Fin cfg0.N) (r : Fin 512) (j : Fin 1024) : iblk m c 2 t (ix2 r j) = inX m c (ix2 (token t.val r) j) := by
  obtain ⟨e0, e1⟩ := index_x t
  unfold iblk
  rw [View.read_apply]
  refine congrArg (inX m c) (funext fun a => Fin.ext ?_)
  match a with
  | ⟨0, _⟩ => show win0_2.index t 0 * 512 + 1 * r.val = (token t.val r).val; rw [token_val (point_lt t), e0]; omega
  | ⟨1, _⟩ => show win0_2.index t 1 * 1024 + 1 * j.val = j.val; rw [e1]; omega

/-- its block of gains holds all of those, -/
theorem block_g (t : Fin cfg0.N) (j : Fin 1024) : iblk m c 3 t (ix2 0 j) = inG m c (ix2 0 j) := by
  obtain ⟨e0, e1⟩ := index_g t
  unfold iblk
  rw [View.read_apply]
  refine congrArg (inG m c) (funext fun a => Fin.ext ?_)
  match a with
  | ⟨0, _⟩ => show win0_3.index t 0 * 1 + 1 * 0 = 0; rw [e0]
  | ⟨1, _⟩ => show win0_3.index t 1 * 1024 + 1 * j.val = j.val; rw [e1]; omega

/-- and its block of the gradient past the norm its tokens' rows. -/
theorem block_y (t : Fin cfg0.N) (r : Fin 512) (j : Fin 1024) : iblk m c 4 t (ix2 r j) = inY m c (ix2 (token t.val r) j) := by
  obtain ⟨e0, e1⟩ := index_y t
  unfold iblk
  rw [View.read_apply]
  refine congrArg (inY m c) (funext fun a => Fin.ext ?_)
  match a with
  | ⟨0, _⟩ => show win0_4.index t 0 * 512 + 1 * r.val = (token t.val r).val; rw [token_val (point_lt t), e0]; omega
  | ⟨1, _⟩ => show win0_4.index t 1 * 1024 + 1 * j.val = j.val; rw [e1]; omega

/-- The point's entries of the normed rows' gradient are its tokens', -/
theorem entry_block (t : Fin cfg0.N) (r : Fin 512) (j : Fin 1024) :
    entry (fun k => iblk m c 0 t (ix2 r k)) (iblk m c 1 t) j = entry (fun k => inD m c (ix2 (token t.val r) k)) (inW m c) j :=
  Finset.sum_congr rfl fun k _ => congrArg₂ (fun p q : EReal => p * q) (block_d m c t r k) (block_w m c t k j)

/-- and so are its rows. -/
theorem row_block (t : Fin cfg0.N) (r : Fin 512) : (fun l => iblk m c 2 t (ix2 r l)) = fun l => inX m c (ix2 (token t.val r) l) :=
  funext fun l => block_x m c t r l

/-- The block of the gradient a point leaves, as the body's terms. -/
theorem body_inward (t : Fin cfg0.N) :
    (outsAt0 m c t.val t.isLt).1 = k0_pay1 (k0_pay6 (iblk m c 0 t) (iblk m c 1 t) (iblk m c 2 t) (iblk m c 3 t)) (iblk m c 4 t) := by
  by_cases h : t.val % 16 = 0
  · rw [outsAt0_A m c t h]
    dsimp only
    unfold out0_A_5
    rw [View.read_writes_eq_canon _ _ _ (cover0_A_5 c _ _ _ _ _ _ _ _ _ _ _ _ _ _ _ _ _ _ _ _ _)]
    unfold kernelRun0_A
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]
  · rw [outsAt0_B m c t h]
    dsimp only
    unfold out0_B_5
    rw [View.read_writes_eq_canon _ _ _ (cover0_B_5 c _ _ _ _ _ _ _ _ _ _ _ _ _ _ _ _ _ _ _ _ _ _)]
    unfold kernelRun0_B
    dsimp only
    try sl_unfold_words
    rw [View.canon_unit_zero (funext fun a => by fin_cases a <;> rfl)]
    simp only [View.readAt_eq_ld, (hs0_0 t).read_unread, (hs0_1 t).read_unread, (hs0_2 t).read_unread, (hs0_3 t).read_unread, (hs0_4 t).read_unread]
    simp (disch := decide) only [View.ld_unit_lit]

/-- What a point leaves of the gradient of the gains, over what it found, -/
def step (n : ℕ) (h : n < cfg0.N) (acc : Vec Ideal S1x1024 .f32) : Vec Ideal S1x1024 .f32 :=
  k0_pay7 (iblk m c 0 ⟨n, h⟩) (iblk m c 1 ⟨n, h⟩) (iblk m c 2 ⟨n, h⟩) acc

/-- and what the first point leaves. -/
def first (n : ℕ) (h : n < cfg0.N) : Vec Ideal S1x1024 .f32 := step m c n h (k0_pay2 (F := Ideal))

/-- The first point's gradient of the gains, as the body's terms, -/
theorem body_first (t : Fin cfg0.N) (h : t.val % 16 = 0) : (outsAt0 m c t.val t.isLt).2 = first m c t.val t.isLt := by
  rw [outsAt0_A m c t h]
  dsimp only
  unfold out0_A_6 first step
  rw [View.read_writes_eq_canon _ _ _ (cover0_A_6 c _ _ _ _ _ _ _ _ _ _ _ _ _ _ _ _ _ _ _ _ _)]
  unfold kernelRun0_A
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread]
  simp (disch := decide) only [View.ld_unit_lit]
  rw [View.readCov_unit_zero _ (funext fun a => by fin_cases a <;> rfl)]

/-- and a later point's. -/
theorem body_step (t : Fin cfg0.N) (h : ¬t.val % 16 = 0) :
    (outsAt0 m c t.val t.isLt).2 = step m c t.val t.isLt (outsAt0 m c (t.val - 1) (Nat.lt_of_le_of_lt (Nat.sub_le _ _) t.isLt)).2 := by
  rw [outsAt0_B m c t h]
  dsimp only
  unfold out0_B_6 step
  rw [View.read_writes_eq_canon _ _ _ (cover0_B_6 c _ _ _ _ _ _ _ _ _ _ _ _ _ _ _ _ _ _ _ _ _ _)]
  unfold kernelRun0_B
  dsimp only
  try sl_unfold_words
  rw [View.canon_cons_unit_lit _ _ _ (by decide)]
  simp only [View.readAt_eq_ld, (hs0_0 t).read_unread, (hs0_1 t).read_unread, (hs0_2 t).read_unread, (hs0_3 t).read_unread, (hs0_4 t).read_unread, (hs0_6 t).read_unread]
  simp (disch := decide) only [View.ld_unit_lit]

/-- What a point leaves in its block of the gradient of what came in. -/
theorem left_inward (t : Fin cfg0.N) (r : Fin 512) (j : Fin 1024) :
    (outsAt0 m c t.val t.isLt).1 (ix2 r j) = inward (inD m c) (inW m c) (inX m c) (inG m c) (inY m c) (ix2 (token t.val r) j) := by
  rw [body_inward]
  refine congrArg₂ (fun p q : EReal => p + q) (block_y m c t r j) ((pay_back _ _ _ _ r j).trans ?_)
  exact congrArg₂ (fun p q => back p q j) (row_block m c t r) (funext fun l => congrArg₂ (fun p q : EReal => p * q) (entry_block m c t r l) (block_g m c t l))

/-- One block's part of the gradient of a gain. -/
def part (b : ℕ) (j : Fin 1024) : EReal := ∑ r : Fin 512, term (inD m c) (inW m c) (inX m c) (token b r) j

/-- What a point adds is its block's part. -/
theorem step_apply (n : ℕ) (h : n < cfg0.N) (acc : Vec Ideal S1x1024 .f32) (i : S1x1024.Idx) :
    step m c n h acc i = acc i + part m c n (i 1) := by
  obtain ⟨j, rfl⟩ : ∃ j : Fin 1024, i = ix2 0 j := ⟨i 1, (eq_ix2 i).trans (congrArg (fun a => ix2 a (i 1)) (Subsingleton.elim (α := Fin 1) _ _))⟩
  refine (pay_gains _ _ _ _ j).trans (congrArg (acc _ + ·) (Finset.sum_congr rfl fun r _ => ?_))
  exact congrArg₂ (fun p q : EReal => p * q) (entry_block m c ⟨n, h⟩ r j)
    (congrArg₂ (fun p q => p * root q) (block_x m c ⟨n, h⟩ r j) (row_block m c ⟨n, h⟩ r))

/-- The first point leaves its own part. -/
theorem first_apply (n : ℕ) (h : n < cfg0.N) (i : S1x1024.Idx) : first m c n h i = 0 + part m c n (i 1) := by
  refine (step_apply m c n h (k0_pay2 (F := Ideal)) i).trans (congrArg (· + _) ?_)
  obtain ⟨j, rfl⟩ : ∃ j : Fin 1024, i = ix2 0 j := ⟨i 1, (eq_ix2 i).trans (congrArg (fun a => ix2 a (i 1)) (Subsingleton.elim (α := Fin 1) _ _))⟩
  exact start_apply j

/-- The last point leaves the sum over all tokens. -/
theorem left_gains (t : Fin cfg0.N) (ht : t.val = 15) (i : S1x1024.Idx) :
    (outsAt0 m c t.val t.isLt).2 i = gains (inD m c) (inW m c) (inX m c) i := by
  have hN : cfg0.N = 16 := N_0
  have e := Pipeline.eq_accAt_of_mod (fun n h => (outsAt0 m c n h).2) 16 (first m c) (step m c)
    (fun n h hn => body_first m c ⟨n, h⟩ hn)
    (fun n h hn => body_step m c ⟨n + 1, h⟩ hn) (by decide) t.val t.isLt (by omega)
  refine (congrFun e i).trans ?_
  refine (Pipeline.accAt_add_apply (first m c) (step m c) (fun _ => (0 : EReal)) (fun n i => part m c n (i 1)) _ _
    (fun h i => first_apply m c _ h i) (fun n h acc i _ _ => step_apply m c n h acc i) _ le_rfl _ _).trans ?_
  rw [zero_add, ht]
  refine Eq.trans (Finset.sum_congr rfl fun s _ => ?_) (sum_tokens fun t => term (inD m c) (inW m c) (inX m c) t (i 1))
  rw [show 16 * (15 / 16) + s = s by omega]
  rfl

/-- The gradient of what came in, -/
theorem result_inward : (dats m 0 c).arrAt 5 cfg0.N = inward (inD m c) (inW m c) (inX m c) (inG m c) (inY m c) := by
  have hN : cfg0.N = 16 := N_0
  refine (dats m 0 c).arrAt_eq_of_cover 5 (inward (inD m c) (inW m c) (inX m c) (inG m c) (inY m c)) (fun t _ => ?_) (fun (i : S8192x1024.Idx) => ?_)
  · obtain ⟨e0, e1⟩ := index_inward t
    rw [Value.flushed5]
    funext y
    obtain ⟨r, j, rfl⟩ : ∃ (r : Fin 512) (j : Fin 1024), y = ix2 r j := ⟨y 0, y 1, eq_ix2 y⟩
    refine (left_inward m c t r j).trans ?_
    rw [View.read_apply]
    refine congrArg (inward (inD m c) (inW m c) (inX m c) (inG m c) (inY m c)) (funext fun a => Fin.ext ?_)
    match a with
    | ⟨0, _⟩ => show (token t.val r).val = win0_5.index t 0 * 512 + 1 * r.val; rw [token_val (point_lt t), e0]; omega
    | ⟨1, _⟩ => show j.val = win0_5.index t 1 * 1024 + 1 * j.val; rw [e1]; omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, writes_inward _, ?_⟩
    obtain ⟨e0, e1⟩ := index_inward ⟨(i 0 : Nat) / 512, ht⟩
    dsimp only at e0
    show i ∈ ((View.whole main_v0_0).slice (win0_5.rect ⟨(i 0 : Nat) / 512, ht⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [e0]; omega
    | ⟨1, _⟩ => show win0_5.index _ 1 * 1024 ≤ (i 1 : Nat) ∧ (i 1 : Nat) < win0_5.index _ 1 * 1024 + 1024; rw [e1]; omega

/-- and that of the gains. -/
theorem result_gains : (dats m 0 c).arrAt 6 cfg0.N = gains (inD m c) (inW m c) (inX m c) := by
  have hN : cfg0.N = 16 := N_0
  refine (dats m 0 c).arrAt_eq_of_cover 6 (gains (inD m c) (inW m c) (inX m c)) (fun t hf => ?_) (fun (i : S1x1024.Idx) => ?_)
  · obtain ⟨e0, e1⟩ := index_gains t
    rw [Value.flushed6]
    funext y
    obtain ⟨r, j, rfl⟩ : ∃ (r : Fin 1) (j : Fin 1024), y = ix2 r j := ⟨y 0, y 1, eq_ix2 y⟩
    refine (left_gains m c t ((writes_gains t).mp hf) (ix2 r j)).trans ?_
    rw [View.read_apply]
    refine congrArg (gains (inD m c) (inW m c) (inX m c)) (funext fun a => Fin.ext ?_)
    match a with
    | ⟨0, _⟩ => show r.val = win0_6.index t 0 * 1 + 1 * r.val; rw [e0]; omega
    | ⟨1, _⟩ => show j.val = win0_6.index t 1 * 1024 + 1 * j.val; rw [e1]; omega
  · have h0 : (i 0 : Nat) < 1 := (i 0).isLt
    have h1 : (i 1 : Nat) < 1024 := (i 1).isLt
    have ht : 15 < cfg0.N := by omega
    refine ⟨⟨15, ht⟩, (writes_gains _).mpr rfl, ?_⟩
    obtain ⟨e0, e1⟩ := index_gains ⟨15, ht⟩
    show i ∈ ((View.whole main_v0_1).slice (win0_6.rect ⟨15, ht⟩)).set
    rw [View.set_slice_whole, Rect.mem_set_unit]
    intro a
    match a with
    | ⟨0, _⟩ => show win0_6.index _ 0 * 1 ≤ (i 0 : Nat) ∧ (i 0 : Nat) < win0_6.index _ 0 * 1 + 1; rw [e0]; omega
    | ⟨1, _⟩ => show win0_6.index _ 1 * 1024 ≤ (i 1 : Nat) ∧ (i 1 : Nat) < win0_6.index _ 1 * 1024 + 1024; rw [e1]; omega

end

section
open Cert.Reference7Ideal Cert.Reference7Ideal.Read

/-- The reference's normed rows' gradient is the same, -/
theorem reference_entry (d : S8192x4096.Idx → EReal) (w : S4096x1024.Idx → EReal) (t : Fin 8192) (j : Fin 1024) :
    val_main_v21 (F := Ideal) d w (ix2 t j) = entry (fun k => d (ix2 t k)) w j := by
  pointwise [val_main_v21, val_main_v20, val_main_v18, val_main_v17]
  rfl

/-- and so is the gradient of what came in, -/
theorem reference_inward (d : S8192x4096.Idx → EReal) (w : S4096x1024.Idx → EReal) (x : S8192x1024.Idx → EReal) (g : S1x1024.Idx → EReal) (y : S8192x1024.Idx → EReal) (i : S8192x1024.Idx) :
    val_main_v42 (F := Ideal) d w x g y i = inward d w x g y i := by
  obtain ⟨t, j, rfl⟩ : ∃ (t : Fin 8192) (j : Fin 1024), i = ix2 t j := ⟨i 0, i 1, eq_ix2 i⟩
  have e : ∀ j', val_main_v21 (F := Ideal) d w (ix2 t j') = entry (fun k => d (ix2 t k)) w j' := reference_entry d w t
  unfold val_main_v42 val_main_v41 val_main_v40 val_main_v39 val_main_v38 val_main_v37 val_main_v36 val_main_v34 val_main_v33 val_main_v32 val_main_v30 val_main_v29 val_main_v28 val_main_v26
  generalize val_main_v21 (F := Ideal) d w = f at e
  pointwise [val_main_v35, val_main_v31, val_main_v25, val_main_v14, val_main_v11, val_main_v10, val_main_v9, val_main_v8, val_main_v7, val_main_v6, val_main_v5, val_main_v4, val_main_v3, val_main_v2, val_main_v1, val_main_v0]
  show _ = y (ix2 t j) + back (fun l => x (ix2 t l)) (fun l => entry (fun k => d (ix2 t k)) w l * g (ix2 0 l)) j
  rw [back_eq, show val_main_cst (F := Ideal) (Shape.Idx.first Gen.h_S_) = (0 : EReal) from zero_word,
    show val_main_cst_5 (F := Ideal) (Shape.Idx.first Gen.h_S_) = (0 : EReal) from zero_word,
    show val_main_cst_7 (F := Ideal) (Shape.Idx.first Gen.h_S_) = (0 : EReal) from zero_word]
  simp only [zero_add, e, Finset.univ_unique, Finset.sum_singleton]
  rw [add_assoc, add_assoc]
  rfl

/-- and that of the gains. -/
theorem reference_gains (d : S8192x4096.Idx → EReal) (w : S4096x1024.Idx → EReal) (x : S8192x1024.Idx → EReal) (i : S1x1024.Idx) :
    val_main_v43 (F := Ideal) d w x i = gains d w x i := by
  obtain ⟨r, j, rfl⟩ : ∃ (r : Fin 1) (j : Fin 1024), i = ix2 r j := ⟨i 0, i 1, eq_ix2 i⟩
  have e : ∀ t j', val_main_v21 (F := Ideal) d w (ix2 t j') = entry (fun k => d (ix2 t k)) w j' := reference_entry d w
  unfold val_main_v43 val_main_v27 val_main_v24 val_main_v23 val_main_v22
  generalize val_main_v21 (F := Ideal) d w = f at e
  pointwise [val_main_v13, val_main_v12, val_main_v8, val_main_v7, val_main_v6, val_main_v5, val_main_v4, val_main_v3, val_main_v2, val_main_v1]
  rw [show val_main_cst (F := Ideal) (Shape.Idx.first Gen.h_S_) = (0 : EReal) from zero_word,
    show val_main_cst_3 (F := Ideal) (Shape.Idx.first Gen.h_S_) = (0 : EReal) from zero_word,
    show val_main_cst_4 (F := Ideal) (Shape.Idx.first Gen.h_S_) = (0 : EReal) from zero_word]
  simp only [zero_add, e, Finset.univ_unique, Finset.sum_singleton]
  exact Finset.sum_congr rfl fun t _ => mul_comm _ _

end

/-- The reference ends with its arguments unchanged and every counter at zero. -/
theorem frame_reference : Cert.quiescent_Reference7Ideal := fun m ρ _ =>
  (θ_run Cert.Reference7Ideal.defs _ _).mono
    (fun r h => ⟨fun c => (h c).2.2, sem_eq_zero_of_no_sems (by decide) r.2⟩)
    (Cert.Reference7Ideal.Value.run (F := Ideal) m ρ)

/-- The kernel's results are the reference's. -/
theorem values : Cert.algebraic_Kernel7Ideal_Reference7Ideal := by
  intro m g m' g' _ hagree
  refine ⟨fun c => inward (inD m c) (inW m c) (inX m c) (inG m c) (inY m c), fun c => gains (inD m c) (inW m c) (inX m c),
    (θ_run Cert.Kernel7Ideal.defs _ _).mono (fun r h c => ⟨(h c).1.trans (result_inward m c), (h c).2.1.trans (result_gains m c), (h c).2.2⟩)
      (Cert.Kernel7Ideal.Value.run_blocks (F := Ideal) m g), ?_⟩
  refine (θ_run Cert.Reference7Ideal.defs _ _).mono (fun r H c => ⟨(H c).1.trans ?_, (H c).2.1.trans ?_, (H c).2.2⟩) (Cert.Reference7Ideal.Value.run (F := Ideal) m' g')
  · obtain ⟨e0, e1, e2, e3, e4⟩ := hagree c
    rw [Cert.Reference7Ideal.Read.val_main_v42_eq, e0, e1, e2, e3, e4]
    exact funext fun i => reference_inward _ _ _ _ _ i
  · obtain ⟨e0, e1, e2, e3, e4⟩ := hagree c
    rw [Cert.Reference7Ideal.Read.val_main_v43_eq, e0, e1, e2]
    exact funext fun i => reference_gains _ _ _ i

end Cert.UpBack
-- ==== Proof.Down.lean ====
/- The second product of the feed-forward part, of squared rectified rows and the weights, then normed and added to what came
   in: what the kernel writes for each of the sixteen blocks of tokens, and that the reference computes the same. -/
module

public import proofs.«01_k».proof.Proof.Gen.Kernel6Ideal.Value
public import proofs.«01_k».proof.Proof.Gen.Reference6Ideal.Read
public import proofs.«01_k».proof.Proof.First
public import Idealize.ShloMosaic.Lib.Pipeline.Value
public import Idealize.ShloMosaic.Lib.Pipeline.ValueKit.Basic

@[expose] public section

set_option maxRecDepth 16384

noncomputable section

namespace Cert.Down

open Idealize.ShloMosaic Idealize.ShloMosaic.TcCoe Idealize.ShloMosaic.Tactic Idealize.SL.Sem
open Cert.First (normed zero_word)

section
open Cert.Kernel6Ideal Cert.Kernel6Ideal.Gen

/-- An entry of the product: the token's row, rectified and squared, times the column of the weights. -/
def entry (a : Fin 4096 → EReal) (w : S4096x1024.Idx → EReal) (j : Fin 1024) : EReal :=
  ∑ k : Fin 4096, max (a k) 0 * max (a k) 0 * w (ix2 k j)

/-- Every entry of the product. -/
def product (a : S8192x4096.Idx → EReal) (w : S4096x1024.Idx → EReal) (i : S8192x1024.Idx) : EReal :=
  entry (fun k => a (ix2 (i 0) k)) w (i 1)

/-- Every entry of what leaves the layer: what came in plus the normed product. -/
def added (a : S8192x4096.Idx → EReal) (w : S4096x1024.Idx → EReal) (x : S8192x1024.Idx → EReal) (g : S1x1024.Idx → EReal) (i : S8192x1024.Idx) : EReal :=
  x i + normed (entry (fun k => a (ix2 (i 0) k)) w) (g (ix2 0 (i 1))) (i 1)

/-- The block of the product the body writes. -/
theorem pay_product (a : Vec Ideal S512x4096 .bf16) (w : Vec Ideal S4096x1024 .bf16) (r : Fin 512) (j : Fin 1024) :
    k0_pay1 (F := Ideal) a w (ix2 r j) = entry (fun k => a (ix2 r k)) w j := by
  pointwise [k0_pay1]
  rfl

/-- The block of what leaves the layer the body writes. -/
theorem pay_added (a : Vec Ideal S512x4096 .bf16) (w : Vec Ideal S4096x1024 .bf16) (x : Vec Ideal S512x1024 .f32) (g : Vec Ideal S1x1024 .f32) (r : Fin 512) (j : Fin 1024) :
    k0_pay2 (F := Ideal) a w x g (ix2 r j) = x (ix2 r j) + normed (entry (fun k => a (ix2 r k)) w) (g (ix2 0 j)) j := by
  have e : ∀ j', k0_pay1 (F := Ideal) a w (ix2 r j') = entry (fun k => a (ix2 r k)) w j' := pay_product a w r
  unfold k0_pay2
  generalize k0_pay1 (F := Ideal) a w = f at e
  dsimp only
  pointwise
  unfold normed
  rw [e]
  simp only [e]

theorem index_a : ∀ t : Fin grid0.N, win0_0.index t 0 = t.val ∧ win0_0.index t 1 = 0 := by decide +kernel
theorem index_w : ∀ t : Fin grid0.N, win0_1.index t 0 = 0 ∧ win0_1.index t 1 = 0 := by decide +kernel
theorem index_x : ∀ t : Fin grid0.N, win0_2.index t 0 = t.val ∧ win0_2.index t 1 = 0 := by decide +kernel
theorem index_g : ∀ t : Fin grid0.N, win0_3.index t 0 = 0 ∧ win0_3.index t 1 = 0 := by decide +kernel
theorem index_added : ∀ t : Fin grid0.N, win0_4.index t 0 = t.val ∧ win0_4.index t 1 = 0 := by decide +kernel
theorem index_product : ∀ t : Fin grid0.N, win0_5.index t 0 = t.val ∧ win0_5.index t 1 = 0 := by decide +kernel
theorem writes_added : ∀ t : Fin grid0.N, (cfg0.win 4).flush t = true := by decide +kernel
theorem writes_product : ∀ t : Fin grid0.N, (cfg0.win 5).flush t = true := by decide +kernel

variable (m : (ℓ : Loc nD τ sig) → Buf (Elt Ideal) ℓ) (c : Dev nD)

/-- The rows before the square, the weights, what came in, and the gains. -/
abbrev inA : S8192x4096.Idx → EReal := m ((c.tc : Thread nD τ).loc main_arg0)
abbrev inW : S4096x1024.Idx → EReal := m ((c.tc : Thread nD τ).loc main_arg1)
abbrev inX : S8192x1024.Idx → EReal := m ((c.tc : Thread nD τ).loc main_arg2)
abbrev inG : S1x1024.Idx → EReal := m ((c.tc : Thread nD τ).loc main_arg3)

/-- Row `r` of a point's block, as a token. -/
def row (t : Fin cfg0.N) (r : Fin 512) : Fin 8192 :=
  ⟨t.val * 512 + r.val, by have := lt_of_lt_of_eq t.isLt N_0; have := r.isLt; omega⟩

/-- A point's block of rows holds the rows of its tokens, -/
theorem block_a (t : Fin cfg0.N) (r : Fin 512) (k : Fin 4096) : iblk m c 0 t (ix2 r k) = inA m c (ix2 (row t r) k) := by
  obtain ⟨e0, e1⟩ := index_a t
  unfold iblk
  rw [View.read_apply]
  refine congrArg (inA m c) (funext fun a => Fin.ext ?_)
  match a with
  | ⟨0, _⟩ => show win0_0.index t 0 * 512 + 1 * r.val = t.val * 512 + r.val; rw [e0]; omega
  | ⟨1, _⟩ => show win0_0.index t 1 * 4096 + 1 * k.val = k.val; rw [e1]; omega

/-- its block of weights holds all of them, -/
theorem block_w (t : Fin cfg0.N) (k : Fin 4096) (j : Fin 1024) : iblk m c 1 t (ix2 k j) = inW m c (ix2 k j) := by
  obtain ⟨e0, e1⟩ := index_w t
  unfold iblk
  rw [View.read_apply]
  refine congrArg (inW m c) (funext fun a => Fin.ext ?_)
  match a with
  | ⟨0, _⟩ => show win0_1.index t 0 * 4096 + 1 * k.val = k.val; rw [e0]; omega
  | ⟨1, _⟩ => show win0_1.index t 1 * 1024 + 1 * j.val = j.val; rw [e1]; omega

/-- its block of what came in holds the tokens' rows, -/
theorem block_x (t : Fin cfg0.N) (r : Fin 512) (j : Fin 1024) : iblk m c 2 t (ix2 r j) = inX m c (ix2 (row t r) j) := by
  obtain ⟨e0, e1⟩ := index_x t
  unfold iblk
  rw [View.read_apply]
  refine congrArg (inX m c) (funext fun a => Fin.ext ?_)
  match a with
  | ⟨0, _⟩ => show win0_2.index t 0 * 512 + 1 * r.val = t.val * 512 + r.val; rw [e0]; omega
  | ⟨1, _⟩ => show win0_2.index t 1 * 1024 + 1 * j.val = j.val; rw [e1]; omega

/-- and its block of gains all of those. -/
theorem block_g (t : Fin cfg0.N) (j : Fin 1024) : iblk m c 3 t (ix2 0 j) = inG m c (ix2 0 j) := by
  obtain ⟨e0, e1⟩ := index_g t
  unfold iblk
  rw [View.read_apply]
  refine congrArg (inG m c) (funext fun a => Fin.ext ?_)
  match a with
  | ⟨0, _⟩ => show win0_3.index t 0 * 1 + 1 * 0 = 0; rw [e0]
  | ⟨1, _⟩ => show win0_3.index t 1 * 1024 + 1 * j.val = j.val; rw [e1]; omega

/-- The point's entries of the product are the tokens'. -/
theorem entry_block (t : Fin cfg0.N) (r : Fin 512) (j : Fin 1024) :
    entry (fun k => iblk m c 0 t (ix2 r k)) (iblk m c 1 t) j = entry (fun k => inA m c (ix2 (row t r) k)) (inW m c) j :=
  Finset.sum_congr rfl fun k _ => congrArg₂ (fun p q : EReal => max p 0 * max p 0 * q) (block_a m c t r k) (block_w m c t k j)

/-- What a point leaves in its block of the product, -/
theorem left_product (t : Fin cfg0.N) (r : Fin 512) (j : Fin 1024) :
    out0_5 (iblk m c 0 t) (iblk m c 1 t) (iblk m c 2 t) (iblk m c 3 t) (ix2 r j) = product (inA m c) (inW m c) (ix2 (row t r) j) := by
  unfold out0_5
  rw [View.canon_cons_unit_lit _ _ _ (by decide), View.ld_unit_lit _ _ (by decide), View.ld_unit_lit _ _ (by decide)]
  exact (pay_product _ _ r j).trans (entry_block m c t r j)

/-- and in its block of what leaves the layer. -/
theorem left_added (t : Fin cfg0.N) (r : Fin 512) (j : Fin 1024) :
    out0_4 (iblk m c 0 t) (iblk m c 1 t) (iblk m c 2 t) (iblk m c 3 t) (ix2 r j) = added (inA m c) (inW m c) (inX m c) (inG m c) (ix2 (row t r) j) := by
  unfold out0_4
  rw [View.canon_cons_unit_lit _ _ _ (by decide), View.ld_unit_lit _ _ (by decide), View.ld_unit_lit _ _ (by decide), View.ld_unit_lit _ _ (by decide), View.ld_unit_lit _ _ (by decide)]
  refine (pay_added _ _ _ _ r j).trans (congrArg₂ (fun p q : EReal => p + q) (block_x m c t r j) ?_)
  exact congrArg₂ (fun p q => normed p q j) (funext fun j' => entry_block m c t r j') (block_g m c t j)

/-- The kernel's product. -/
theorem result_product : (dats m 0 c).arrAt 5 cfg0.N = product (inA m c) (inW m c) := by
  have hN : cfg0.N = 16 := N_0
  refine (dats m 0 c).arrAt_eq_of_cover 5 (product (inA m c) (inW m c)) (fun t _ => ?_) (fun (i : S8192x1024.Idx) => ?_)
  · obtain ⟨e0, e1⟩ := index_product t
    rw [Value.flushed5]
    funext y
    obtain ⟨r, j, rfl⟩ : ∃ (r : Fin 512) (j : Fin 1024), y = ix2 r j := ⟨y 0, y 1, eq_ix2 y⟩
    refine (left_product m c t r j).trans ?_
    rw [View.read_apply]
    refine congrArg (product (inA m c) (inW m c)) (funext fun a => Fin.ext ?_)
    match a with
    | ⟨0, _⟩ => show t.val * 512 + r.val = win0_5.index t 0 * 512 + 1 * r.val; rw [e0]; omega
    | ⟨1, _⟩ => show j.val = win0_5.index t 1 * 1024 + 1 * j.val; rw [e1]; omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, writes_product _, ?_⟩
    obtain ⟨e0, e1⟩ := index_product ⟨(i 0 : Nat) / 512, ht⟩
    dsimp only at e0
    show i ∈ ((View.whole main_v0_1).slice (win0_5.rect ⟨(i 0 : Nat) / 512, ht⟩)).set
    rw [View.set_slice_whole, Rect.mem_set_unit]
    intro a
    match a with
    | ⟨0, _⟩ => show win0_5.index _ 0 * 512 ≤ (i 0 : Nat) ∧ (i 0 : Nat) < win0_5.index _ 0 * 512 + 512; rw [e0]; omega
    | ⟨1, _⟩ => show win0_5.index _ 1 * 1024 ≤ (i 1 : Nat) ∧ (i 1 : Nat) < win0_5.index _ 1 * 1024 + 1024; rw [e1]; omega

/-- What leaves the layer. -/
theorem result_added : (dats m 0 c).arrAt 4 cfg0.N = added (inA m c) (inW m c) (inX m c) (inG m c) := by
  have hN : cfg0.N = 16 := N_0
  refine (dats m 0 c).arrAt_eq_of_cover 4 (added (inA m c) (inW m c) (inX m c) (inG m c)) (fun t _ => ?_) (fun (i : S8192x1024.Idx) => ?_)
  · obtain ⟨e0, e1⟩ := index_added t
    rw [Value.flushed4]
    funext y
    obtain ⟨r, j, rfl⟩ : ∃ (r : Fin 512) (j : Fin 1024), y = ix2 r j := ⟨y 0, y 1, eq_ix2 y⟩
    refine (left_added m c t r j).trans ?_
    rw [View.read_apply]
    refine congrArg (added (inA m c) (inW m c) (inX m c) (inG m c)) (funext fun a => Fin.ext ?_)
    match a with
    | ⟨0, _⟩ => show t.val * 512 + r.val = win0_4.index t 0 * 512 + 1 * r.val; rw [e0]; omega
    | ⟨1, _⟩ => show j.val = win0_4.index t 1 * 1024 + 1 * j.val; rw [e1]; omega
  · have h0 : (i 0 : Nat) < 8192 := (i 0).isLt
    have h1 : (i 1 : Nat) < 1024 := (i 1).isLt
    have ht : (i 0 : Nat) / 512 < cfg0.N := by omega
    refine ⟨⟨(i 0 : Nat) / 512, ht⟩, writes_added _, ?_⟩
    obtain ⟨e0, e1⟩ := index_added ⟨(i 0 : Nat) / 512, ht⟩
    dsimp only at e0
    show i ∈ ((View.whole main_v0_0).slice (win0_4.rect ⟨(i 0 : Nat) / 512, ht⟩)).set
    rw [View.set_slice_whole, Rect.mem_set_unit]
    intro a
    match a with
    | ⟨0, _⟩ => show win0_4.index _ 0 * 512 ≤ (i 0 : Nat) ∧ (i 0 : Nat) < win0_4.index _ 0 * 512 + 512; rw [e0]; omega
    | ⟨1, _⟩ => show win0_4.index _ 1 * 1024 ≤ (i 1 : Nat) ∧ (i 1 : Nat) < win0_4.index _ 1 * 1024 + 1024; rw [e1]; omega

end

section
open Cert.Reference6Ideal Cert.Reference6Ideal.Read

/-- The reference's product is the same, -/
theorem reference_product (a : S8192x4096.Idx → EReal) (w : S4096x1024.Idx → EReal) (t : Fin 8192) (j : Fin 1024) :
    val_main_v4 (F := Ideal) a w (ix2 t j) = entry (fun k => a (ix2 t k)) w j := by
  pointwise [val_main_v4, val_main_v3, val_main_v2, val_main_v1, val_main_v0, val_main_call0_v0]
  rw [show val_main_call0_cst (F := Ideal) ix0 = (0 : EReal) from zero_word]
  rfl

/-- and so is what leaves the layer. -/
theorem reference_added (a : S8192x4096.Idx → EReal) (w : S4096x1024.Idx → EReal) (x : S8192x1024.Idx → EReal) (g : S1x1024.Idx → EReal) (i : S8192x1024.Idx) :
    val_main_v19 (F := Ideal) a w x g i = added a w x g i := by
  obtain ⟨t, j, rfl⟩ : ∃ (t : Fin 8192) (j : Fin 1024), i = ix2 t j := ⟨i 0, i 1, eq_ix2 i⟩
  have e : ∀ j', val_main_v4 (F := Ideal) a w (ix2 t j') = entry (fun k => a (ix2 t k)) w j' := reference_product a w t
  unfold val_main_v19 val_main_v18 val_main_v15 val_main_v14 val_main_v13 val_main_v12 val_main_v10 val_main_v8 val_main_v7 val_main_v6
  generalize val_main_v4 (F := Ideal) a w = f at e
  pointwise [val_main_v17, val_main_v16, val_main_v11, val_main_v9, val_main_v5]
  rw [show val_main_cst (F := Ideal) (Shape.Idx.first Gen.h_S_) = (0 : EReal) from zero_word]
  simp only [zero_add, e]
  rfl

end

/-- The reference ends with its arguments unchanged and every counter at zero. -/
theorem frame_reference : Cert.quiescent_Reference6Ideal := fun m ρ _ =>
  (θ_run Cert.Reference6Ideal.defs _ _).mono
    (fun r h => ⟨fun c => (h c).2.2, sem_eq_zero_of_no_sems (by decide) r.2⟩)
    (Cert.Reference6Ideal.Value.run (F := Ideal) m ρ)

/-- The kernel's results are the reference's. -/
theorem values : Cert.algebraic_Kernel6Ideal_Reference6Ideal := by
  intro m g m' g' _ hagree
  refine ⟨fun c => added (inA m c) (inW m c) (inX m c) (inG m c), fun c => product (inA m c) (inW m c),
    (θ_run Cert.Kernel6Ideal.defs _ _).mono (fun r h c => ⟨(h c).1.trans (result_added m c), (h c).2.1.trans (result_product m c), (h c).2.2⟩)
      (Cert.Kernel6Ideal.Value.run_blocks (F := Ideal) m g), ?_⟩
  refine (θ_run Cert.Reference6Ideal.defs _ _).mono (fun r H c => ⟨(H c).1.trans ?_, (H c).2.1.trans ?_, (H c).2.2⟩) (Cert.Reference6Ideal.Value.run (F := Ideal) m' g')
  · obtain ⟨e0, e1, e2, e3⟩ := hagree c
    rw [e0, e1, e2, e3]
    exact funext fun i => reference_added _ _ _ _ i
  · obtain ⟨e0, e1, e2, e3⟩ := hagree c
    rw [e0, e1]
    refine funext fun (i : Shape.Idx _) => ?_
    obtain ⟨t, j, rfl⟩ : ∃ (t : Fin 8192) (j : Fin 1024), i = ix2 t j := ⟨i 0, i 1, eq_ix2 i⟩
    exact reference_product _ _ t j

end Cert.Down
-- ==== Proof.Up.lean ====
/- The first product of the feed-forward part, of normed rows and the weights: what the kernel writes for each of the eight
   blocks of tokens, and that the reference computes the same. -/
module

public import proofs.«01_k».proof.Proof.Gen.Kernel5Ideal.Value
public import proofs.«01_k».proof.Proof.Gen.Reference5Ideal.Read
public import proofs.«01_k».proof.Proof.First
public import Idealize.ShloMosaic.Lib.Pipeline.Value
public import Idealize.ShloMosaic.Lib.Pipeline.ValueKit.Basic

@[expose] public section

set_option maxRecDepth 16384

noncomputable section

namespace Cert.Up

open Idealize.ShloMosaic Idealize.ShloMosaic.TcCoe Idealize.ShloMosaic.Tactic Idealize.SL.Sem
open Cert.First (normed zero_word)

section
open Cert.Kernel5Ideal Cert.Kernel5Ideal.Gen

/-- Every entry of the product: the token's normed row times the column of the weights. -/
def product (x : S8192x1024.Idx → EReal) (g : S1x1024.Idx → EReal) (w : S1024x4096.Idx → EReal) (i : S8192x4096.Idx) : EReal :=
  ∑ k : Fin 1024, normed (fun l => x (ix2 (i 0) l)) (g (ix2 0 k)) k * w (ix2 k (i 1))

/-- What the body writes: the product of its block of rows and the weights. -/
theorem pay_apply (x : Vec Ideal S1024x1024 .f32) (g : Vec Ideal S1x1024 .f32) (w : Vec Ideal S1024x4096 .bf16) (r : Fin 1024) (j : Fin 4096) :
    k0_pay1 (F := Ideal) x g w (ix2 r j) = ∑ k : Fin 1024, normed (fun l => x (ix2 r l)) (g (ix2 0 k)) k * w (ix2 k j) := by
  pointwise [k0_pay1]
  rfl

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_w : ∀ t : Fin grid0.N, win0_2.index t 0 = 0 ∧ win0_2.index t 1 = 0 := by decide +kernel
theorem index_out : ∀ t : Fin grid0.N, win0_3.index t 0 = t.val ∧ win0_3.index t 1 = 0 := by decide +kernel
theorem writes : ∀ t : Fin grid0.N, (cfg0.win 3).flush t = true := by decide +kernel

variable (m : (ℓ : Loc nD τ sig) → Buf (Elt Ideal) ℓ) (c : Dev nD)

/-- The rows before the norm, the gains, and the weights. -/
abbrev inX : S8192x1024.Idx → EReal := m ((c.tc : Thread nD τ).loc main_arg0)
abbrev inG : S1x1024.Idx → EReal := m ((c.tc : Thread nD τ).loc main_arg1)
abbrev inW : S1024x4096.Idx → EReal := m ((c.tc : Thread nD τ).loc main_arg2)

/-- Row `r` of a point's block, as a token. -/
def row (t : Fin cfg0.N) (r : Fin 1024) : Fin 8192 :=
  ⟨t.val * 1024 + r.val, by have := lt_of_lt_of_eq t.isLt N_0; have := r.isLt; omega⟩

/-- A point's block of rows holds the rows of its tokens, -/
theorem block_x (t : Fin cfg0.N) (r : Fin 1024) (k : Fin 1024) : iblk m c 0 t (ix2 r k) = inX m c (ix2 (row t r) k) := by
  obtain ⟨e0, e1⟩ := index_x t
  unfold iblk
  rw [View.read_apply]
  refine congrArg (inX m c) (funext fun a => Fin.ext ?_)
  match a with
  | ⟨0, _⟩ => show win0_0.index t 0 * 1024 + 1 * r.val = t.val * 1024 + r.val; rw [e0]; omega
  | ⟨1, _⟩ => show win0_0.index t 1 * 1024 + 1 * k.val = k.val; rw [e1]; omega

/-- its block of gains holds all of them, -/
theorem block_g (t : Fin cfg0.N) (k : Fin 1024) : iblk m c 1 t (ix2 0 k) = inG m c (ix2 0 k) := by
  obtain ⟨e0, e1⟩ := index_g t
  unfold iblk
  rw [View.read_apply]
  refine congrArg (inG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- and its block of weights all of those. -/
theorem block_w (t : Fin cfg0.N) (k : Fin 1024) (j : Fin 4096) : iblk m c 2 t (ix2 k j) = inW m c (ix2 k j) := by
  obtain ⟨e0, e1⟩ := index_w t
  unfold iblk
  rw [View.read_apply]
  refine congrArg (inW m c) (funext fun a => Fin.ext ?_)
  match a with
  | ⟨0, _⟩ => show win0_2.index t 0 * 1024 + 1 * k.val = k.val; rw [e0]; omega
  | ⟨1, _⟩ => show win0_2.index t 1 * 4096 + 1 * j.val = j.val; rw [e1]; omega

/-- What a point leaves in its block of the result. -/
theorem left_apply (t : Fin cfg0.N) (r : Fin 1024) (j : Fin 4096) :
    out0_3 (iblk m c 0 t) (iblk m c 1 t) (iblk m c 2 t) (ix2 r j) = product (inX m c) (inG m c) (inW m c) (ix2 (row t r) j) := by
  unfold out0_3
  rw [View.canon_cons_unit_lit _ _ _ (by decide), View.ld_unit_lit _ _ (by decide), View.ld_unit_lit _ _ (by decide), View.ld_unit_lit _ _ (by decide)]
  refine (pay_apply _ _ _ r j).trans (Finset.sum_congr rfl fun k _ => ?_)
  have ex : (fun l => iblk m c 0 t (ix2 r l)) = fun l => inX m c (ix2 (row t r) l) := funext fun l => block_x m c t r l
  exact congrArg₂ (fun p q : EReal => p * q) (congrArg₂ (fun p q => normed p q k) ex (block_g m c t k)) (block_w m c t k j)

/-- The kernel's result is the product. -/
theorem result : (dats m 0 c).arrAt 3 cfg0.N = product (inX m c) (inG m c) (inW m c) := by
  have hN : cfg0.N = 8 := N_0
  refine (dats m 0 c).arrAt_eq_of_cover 3 (product (inX m c) (inG m c) (inW m c)) (fun t _ => ?_) (fun (i : S8192x4096.Idx) => ?_)
  · obtain ⟨e0, e1⟩ := index_out t
    rw [Value.flushed3]
    funext y
    obtain ⟨r, j, rfl⟩ : ∃ (r : Fin 1024) (j : Fin 4096), y = ix2 r j := ⟨y 0, y 1, eq_ix2 y⟩
    refine (left_apply m c t r j).trans ?_
    rw [View.read_apply]
    refine congrArg (product (inX m c) (inG m c) (inW m c)) (funext fun a => Fin.ext ?_)
    match a with
    | ⟨0, _⟩ => show t.val * 1024 + r.val = win0_3.index t 0 * 1024 + 1 * r.val; rw [e0]; omega
    | ⟨1, _⟩ => show j.val = win0_3.index t 1 * 4096 + 1 * j.val; rw [e1]; omega
  · have h0 : (i 0 : Nat) < 8192 := (i 0).isLt
    have h1 : (i 1 : Nat) < 4096 := (i 1).isLt
    have ht : (i 0 : Nat) / 1024 < cfg0.N := by omega
    refine ⟨⟨(i 0 : Nat) / 1024, ht⟩, writes _, ?_⟩
    obtain ⟨e0, e1⟩ := index_out ⟨(i 0 : Nat) / 1024, ht⟩
    dsimp only at e0
    show i ∈ ((View.whole main_v0).slice (win0_3.rect ⟨(i 0 : Nat) / 1024, ht⟩)).set
    rw [View.set_slice_whole, Rect.mem_set_unit]
    intro a
    match a with
    | ⟨0, _⟩ => show win0_3.index _ 0 * 1024 ≤ (i 0 : Nat) ∧ (i 0 : Nat) < win0_3.index _ 0 * 1024 + 1024; rw [e0]; omega
    | ⟨1, _⟩ => show win0_3.index _ 1 * 4096 ≤ (i 1 : Nat) ∧ (i 1 : Nat) < win0_3.index _ 1 * 4096 + 4096; rw [e1]; omega

end

section
open Cert.Reference5Ideal Cert.Reference5Ideal.Read

/-- The reference's result is the same product. -/
theorem reference (x : S8192x1024.Idx → EReal) (g : S1x1024.Idx → EReal) (w : S1024x4096.Idx → EReal) (i : S8192x4096.Idx) :
    val_main_v16 (F := Ideal) x g w i = product x g w i := by
  obtain ⟨t, j, rfl⟩ : ∃ (t : Fin 8192) (j : Fin 4096), i = ix2 t j := ⟨i 0, i 1, eq_ix2 i⟩
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0]
  rw [show val_main_cst (F := Ideal) (Shape.Idx.first Gen.h_S_) = (0 : EReal) from zero_word]
  simp only [zero_add]
  rfl

end

/-- The reference ends with its arguments unchanged and every counter at zero. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The kernel's result is the reference's. -/
theorem values : Cert.algebraic_Kernel5Ideal_Reference5Ideal := by
  intro m g m' g' _ hagree
  refine ⟨fun c => product (inX m c) (inG m c) (inW m c), (θ_run Cert.Kernel5Ideal.defs _ _).mono (fun r h c => ⟨(h c).1.trans (result m c), (h c).2⟩)
    (Cert.Kernel5Ideal.Value.run_blocks (F := Ideal) m g), ?_⟩
  refine (θ_run Cert.Reference5Ideal.defs _ _).mono (fun r H c => ⟨(H c).1.trans ?_, (H c).2⟩) (Cert.Reference5Ideal.Value.run (F := Ideal) m' g')
  obtain ⟨e0, e1, e2⟩ := hagree c
  rw [e0, e1, e2]
  exact funext fun i => reference _ _ _ i

end Cert.Up
-- ==== Proof.In.lean ====
/- The projections before the branches, one product of normed rows and the weights: what the kernel writes for each of the eight
   blocks of tokens, and that the reference computes the same. -/
module

public import proofs.«01_k».proof.Proof.Gen.Kernel4Ideal.Value
public import proofs.«01_k».proof.Proof.Gen.Reference4Ideal.Read
public import proofs.«01_k».proof.Proof.First
public import Idealize.ShloMosaic.Lib.Pipeline.Value
public import Idealize.ShloMosaic.Lib.Pipeline.ValueKit.Basic

@[expose] public section

set_option maxRecDepth 16384

noncomputable section

namespace Cert.In

open Idealize.ShloMosaic Idealize.ShloMosaic.TcCoe Idealize.ShloMosaic.Tactic Idealize.SL.Sem
open Cert.First (normed zero_word)

section
open Cert.Kernel4Ideal Cert.Kernel4Ideal.Gen

/-- Every entry of the product: the token's normed row times the column of the weights. -/
def product (x : S8192x1024.Idx → EReal) (g : S1x1024.Idx → EReal) (w : S1024x6272.Idx → EReal) (i : S8192x6272.Idx) : EReal :=
  ∑ k : Fin 1024, normed (fun l => x (ix2 (i 0) l)) (g (ix2 0 k)) k * w (ix2 k (i 1))

/-- What the body writes: the product of its block of rows and the weights. -/
theorem pay_apply (x : Vec Ideal S1024x1024 .f32) (g : Vec Ideal S1x1024 .f32) (w : Vec Ideal S1024x6272 .bf16) (r : Fin 1024) (j : Fin 6272) :
    k0_pay1 (F := Ideal) x g w (ix2 r j) = ∑ k : Fin 1024, normed (fun l => x (ix2 r l)) (g (ix2 0 k)) k * w (ix2 k j) := by
  pointwise [k0_pay1]
  rfl

theorem index_x : ∀ t : Fin grid0.N, win0_0.index t 0 = t.val ∧ win0_0.index t 1 = 0 := by decide +kernel
theorem index_g : ∀ t : Fin grid0.N, win0_1.index t 0 = 0 ∧ win0_1.index t 1 = 0 := by decide +kernel
theorem index_w : ∀ t : Fin grid0.N, win0_2.index t 0 = 0 ∧ win0_2.index t 1 = 0 := by decide +kernel
theorem index_out : ∀ t : Fin grid0.N, win0_3.index t 0 = t.val ∧ win0_3.index t 1 = 0 := by decide +kernel
theorem writes : ∀ t : Fin grid0.N, (cfg0.win 3).flush t = true := by decide +kernel

variable (m : (ℓ : Loc nD τ sig) → Buf (Elt Ideal) ℓ) (c : Dev nD)

/-- The rows before the norm, the gains, and the weights. -/
abbrev inX : S8192x1024.Idx → EReal := m ((c.tc : Thread nD τ).loc main_arg0)
abbrev inG : S1x1024.Idx → EReal := m ((c.tc : Thread nD τ).loc main_arg1)
abbrev inW : S1024x6272.Idx → EReal := m ((c.tc : Thread nD τ).loc main_arg2)

/-- Row `r` of a point's block, as a token. -/
def row (t : Fin cfg0.N) (r : Fin 1024) : Fin 8192 :=
  ⟨t.val * 1024 + r.val, by have := lt_of_lt_of_eq t.isLt N_0; have := r.isLt; omega⟩

/-- A point's block of rows holds the rows of its tokens, -/
theorem block_x (t : Fin cfg0.N) (r : Fin 1024) (k : Fin 1024) : iblk m c 0 t (ix2 r k) = inX m c (ix2 (row t r) k) := by
  obtain ⟨e0, e1⟩ := index_x t
  unfold iblk
  rw [View.read_apply]
  refine congrArg (inX m c) (funext fun a => Fin.ext ?_)
  match a with
  | ⟨0, _⟩ => show win0_0.index t 0 * 1024 + 1 * r.val = t.val * 1024 + r.val; rw [e0]; omega
  | ⟨1, _⟩ => show win0_0.index t 1 * 1024 + 1 * k.val = k.val; rw [e1]; omega

/-- its block of gains holds all of them, -/
theorem block_g (t : Fin cfg0.N) (k : Fin 1024) : iblk m c 1 t (ix2 0 k) = inG m c (ix2 0 k) := by
  obtain ⟨e0, e1⟩ := index_g t
  unfold iblk
  rw [View.read_apply]
  refine congrArg (inG m c) (funext fun a => Fin.ext ?_)
  match a with
  | ⟨0, _⟩ => show win0_1.index t 0 * 1 + 1 * 0 = 0; rw [e0]
  | ⟨1, _⟩ => show win0_1.index t 1 * 1024 + 1 * k.val = k.val; rw [e1]; omega

/-- and its block of weights all of those. -/
theorem block_w (t : Fin cfg0.N) (k : Fin 1024) (j : Fin 6272) : iblk m c 2 t (ix2 k j) = inW m c (ix2 k j) := by
  obtain ⟨e0, e1⟩ := index_w t
  unfold iblk
  rw [View.read_apply]
  refine congrArg (inW m c) (funext fun a => Fin.ext ?_)
  match a with
  | ⟨0, _⟩ => show win0_2.index t 0 * 1024 + 1 * k.val = k.val; rw [e0]; omega
  | ⟨1, _⟩ => show win0_2.index t 1 * 6272 + 1 * j.val = j.val; rw [e1]; omega

/-- What a point leaves in its block of the result. -/
theorem left_apply (t : Fin cfg0.N) (r : Fin 1024) (j : Fin 6272) :
    out0_3 (iblk m c 0 t) (iblk m c 1 t) (iblk m c 2 t) (ix2 r j) = product (inX m c) (inG m c) (inW m c) (ix2 (row t r) j) := by
  unfold out0_3
  rw [View.canon_cons_unit_lit _ _ _ (by decide), View.ld_unit_lit _ _ (by decide), View.ld_unit_lit _ _ (by decide), View.ld_unit_lit _ _ (by decide)]
  refine (pay_apply _ _ _ r j).trans (Finset.sum_congr rfl fun k _ => ?_)
  have ex : (fun l => iblk m c 0 t (ix2 r l)) = fun l => inX m c (ix2 (row t r) l) := funext fun l => block_x m c t r l
  exact congrArg₂ (fun p q : EReal => p * q) (congrArg₂ (fun p q => normed p q k) ex (block_g m c t k)) (block_w m c t k j)

/-- The kernel's result is the product. -/
theorem result : (dats m 0 c).arrAt 3 cfg0.N = product (inX m c) (inG m c) (inW m c) := by
  have hN : cfg0.N = 8 := N_0
  refine (dats m 0 c).arrAt_eq_of_cover 3 (product (inX m c) (inG m c) (inW m c)) (fun t _ => ?_) (fun (i : S8192x6272.Idx) => ?_)
  · obtain ⟨e0, e1⟩ := index_out t
    rw [Value.flushed3]
    funext y
    obtain ⟨r, j, rfl⟩ : ∃ (r : Fin 1024) (j : Fin 6272), y = ix2 r j := ⟨y 0, y 1, eq_ix2 y⟩
    refine (left_apply m c t r j).trans ?_
    rw [View.read_apply]
    refine congrArg (product (inX m c) (inG m c) (inW m c)) (funext fun a => Fin.ext ?_)
    match a with
    | ⟨0, _⟩ => show t.val * 1024 + r.val = win0_3.index t 0 * 1024 + 1 * r.val; rw [e0]; omega
    | ⟨1, _⟩ => show j.val = win0_3.index t 1 * 6272 + 1 * j.val; rw [e1]; omega
  · have h0 : (i 0 : Nat) < 8192 := (i 0).isLt
    have h1 : (i 1 : Nat) < 6272 := (i 1).isLt
    have ht : (i 0 : Nat) / 1024 < cfg0.N := by omega
    refine ⟨⟨(i 0 : Nat) / 1024, ht⟩, writes _, ?_⟩
    obtain ⟨e0, e1⟩ := index_out ⟨(i 0 : Nat) / 1024, ht⟩
    dsimp only at e0
    show i ∈ ((View.whole main_v0).slice (win0_3.rect ⟨(i 0 : Nat) / 1024, ht⟩)).set
    rw [View.set_slice_whole, Rect.mem_set_unit]
    intro a
    match a with
    | ⟨0, _⟩ => show win0_3.index _ 0 * 1024 ≤ (i 0 : Nat) ∧ (i 0 : Nat) < win0_3.index _ 0 * 1024 + 1024; rw [e0]; omega
    | ⟨1, _⟩ => show win0_3.index _ 1 * 6272 ≤ (i 1 : Nat) ∧ (i 1 : Nat) < win0_3.index _ 1 * 6272 + 6272; rw [e1]; omega

end

section
open Cert.Reference4Ideal Cert.Reference4Ideal.Read

/-- The reference's result is the same product. -/
theorem reference (x : S8192x1024.Idx → EReal) (g : S1x1024.Idx → EReal) (w : S1024x6272.Idx → EReal) (i : S8192x6272.Idx) :
    val_main_v16 (F := Ideal) x g w i = product x g w i := by
  obtain ⟨t, j, rfl⟩ : ∃ (t : Fin 8192) (j : Fin 6272), i = ix2 t j := ⟨i 0, i 1, eq_ix2 i⟩
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0]
  rw [show val_main_cst (F := Ideal) (Shape.Idx.first Gen.h_S_) = (0 : EReal) from zero_word]
  simp only [zero_add]
  rfl

end

/-- The reference ends with its arguments unchanged and every counter at zero. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The kernel's result is the reference's. -/
theorem values : Cert.algebraic_Kernel4Ideal_Reference4Ideal := by
  intro m g m' g' _ hagree
  refine ⟨fun c => product (inX m c) (inG m c) (inW m c), (θ_run Cert.Kernel4Ideal.defs _ _).mono (fun r h c => ⟨(h c).1.trans (result m c), (h c).2⟩)
    (Cert.Kernel4Ideal.Value.run_blocks (F := Ideal) m g), ?_⟩
  refine (θ_run Cert.Reference4Ideal.defs _ _).mono (fun r H c => ⟨(H c).1.trans ?_, (H c).2⟩) (Cert.Reference4Ideal.Value.run (F := Ideal) m' g')
  obtain ⟨e0, e1, e2⟩ := hagree c
  rw [e0, e1, e2]
  exact funext fun i => reference _ _ _ i

end Cert.In
-- ==== Proof.Second.lean ====
/- The gradient of the feed-forward's second weights: what the kernel accumulates over the sixteen blocks of tokens, and
   that the reference computes the same sums. -/
module

public import proofs.«01_k».proof.Proof.Gen.Kernel2Ideal.Value
public import proofs.«01_k».proof.Proof.Gen.Reference2Ideal.Read
public import proofs.«01_k».proof.Defs
public import proofs.«01_k».proof.Proof.Tiles
public import Idealize.ShloMosaic.Lib.Pointwise
public import Idealize.ShloMosaic.Lib.IdealHost
public import Idealize.ShloMosaic.Lib.Quiescent

@[expose] public section

set_option maxRecDepth 16384

noncomputable section

namespace Cert.Second

open Idealize.ShloMosaic Idealize.ShloMosaic.TcCoe Idealize.ShloMosaic.Tactic Idealize.SL.Sem
open Cert.Tiles

section
open Cert.Kernel2Ideal Cert.Kernel2Ideal.Gen

/-- The squared positive part. -/
def act (x : EReal) : EReal := max x 0 * max x 0

/-- One block's part of an entry of the gradient. -/
def part (a : S8192x4096.Idx → EReal) (df : S8192x1024.Idx → EReal) (b : ℕ) (i : S4096x1024.Idx) : EReal :=
  ∑ r : Fin 512, act (a (ix2 (token b r) (i 0))) * df (ix2 (token b r) (i 1))

/-- What the body adds to the block of the gradient it holds. -/
theorem pay_apply (x : Vec Ideal S512x4096 .bf16) (acc : Vec Ideal S4096x1024 .f32) (d : Vec Ideal S512x1024 .bf16) (k : Fin 4096) (j : Fin 1024) :
    k0_pay2 (F := Ideal) x acc d (ix2 k j) = acc (ix2 k j) + ∑ r : Fin 512, act (x (ix2 r k)) * d (ix2 r j) := by
  pointwise [k0_pay2]
  rfl

/-- The block of zeros the first block of tokens begins with. -/
theorem start_apply (k : Fin 4096) (j : Fin 1024) : k0_pay1 (F := Ideal) (ix2 k j) = 0 := by
  pointwise [k0_pay1]

theorem index_a : ∀ t : Fin grid0.N, win0_0.index t 0 = t.val ∧ win0_0.index t 1 = 0 := by decide +kernel
theorem index_d : ∀ t : Fin grid0.N, win0_1.index t 0 = t.val ∧ win0_1.index t 1 = 0 := by decide +kernel

variable (m : (ℓ : Loc nD τ sig) → Buf (Elt Ideal) ℓ) (c : Dev nD)

/-- The first product, and the gradient of the second. -/
abbrev inA : S8192x4096.Idx → EReal := m ((c.tc : Thread nD τ).loc main_arg0)
abbrev inD : S8192x1024.Idx → EReal := m ((c.tc : Thread nD τ).loc main_arg1)

/-- A point's block of the first product holds the rows of the point's tokens, -/
theorem block_a (t : Fin cfg0.N) (r : Fin 512) (k : Fin 4096) : iblk m c 0 t (ix2 r k) = inA m c (ix2 (token t.val r) k) := by
  obtain ⟨e0, e1⟩ := index_a t
  have ht : t.val < 16 := lt_of_lt_of_eq t.isLt N_0
  unfold iblk
  rw [View.read_apply]
  refine congrArg (inA m c) (funext fun a => Fin.ext ?_)
  match a with
  | ⟨0, _⟩ => show win0_0.index t 0 * 512 + 1 * r.val = (token t.val r).val; rw [token_val ht, e0]; omega
  | ⟨1, _⟩ => show win0_0.index t 1 * 4096 + 1 * k.val = k.val; rw [e1]; omega

/-- and so does its block of the gradient. -/
theorem block_d (t : Fin cfg0.N) (r : Fin 512) (j : Fin 1024) : iblk m c 1 t (ix2 r j) = inD m c (ix2 (token t.val r) j) := by
  obtain ⟨e0, e1⟩ := index_d t
  have ht : t.val < 16 := lt_of_lt_of_eq t.isLt N_0
  unfold iblk
  rw [View.read_apply]
  refine congrArg (inD m c) (funext fun a => Fin.ext ?_)
  match a with
  | ⟨0, _⟩ => show win0_1.index t 0 * 512 + 1 * r.val = (token t.val r).val; rw [token_val ht, e0]; omega
  | ⟨1, _⟩ => show win0_1.index t 1 * 1024 + 1 * j.val = j.val; rw [e1]; omega

/-- What a point adds is its block of tokens' part of the gradient. -/
theorem step_apply (n : ℕ) (h : n < cfg0.N) (acc : Vec Ideal S4096x1024 .f32) (i : S4096x1024.Idx) :
    Value.step2 m c n h acc i = acc i + part (inA m c) (inD m c) n i := by
  obtain ⟨k, j, rfl⟩ : ∃ (k : Fin 4096) (j : Fin 1024), i = ix2 k j := ⟨i 0, i 1, eq_ix2 i⟩
  exact (pay_apply _ _ _ k j).trans (congrArg (acc _ + ·) (Finset.sum_congr rfl fun r _ =>
    congrArg₂ (fun p q => act p * q) (block_a m c ⟨n, h⟩ r k) (block_d m c ⟨n, h⟩ r j)))

/-- The first point leaves its own part. -/
theorem reset_apply (n : ℕ) (h : n < cfg0.N) (i : S4096x1024.Idx) :
    Value.reset2 m c n h i = 0 + part (inA m c) (inD m c) n i := by
  refine (step_apply m c n h (k0_pay1 (F := Ideal)) i).trans (congrArg (· + _) ?_)
  obtain ⟨k, j, rfl⟩ : ∃ (k : Fin 4096) (j : Fin 1024), i = ix2 k j := ⟨i 0, i 1, eq_ix2 i⟩
  exact start_apply k j

/-- The kernel's result: an entry is the sum over all tokens. -/
theorem result (i : S4096x1024.Idx) :
    Value.G2 m c i = ∑ t : Fin 8192, act (inA m c (ix2 t (i 0))) * inD m c (ix2 t (i 1)) := by
  have h0 : (i 0).val < 4096 := (i 0).isLt
  have h1 : (i 1).val < 1024 := (i 1).isLt
  have hr : Value.run2Of i = 0 := by show 1 * ((i 0).val / 4096 - 0) + 1 * ((i 1).val / 1024 - 0) = 0; omega
  have hl : Value.loc2Of i = i := funext fun a => Fin.ext (by
    match a with
    | ⟨0, _⟩ => exact Nat.mod_eq_of_lt h0
    | ⟨1, _⟩ => exact Nat.mod_eq_of_lt h1)
  have hN : cfg0.N = 16 := N_0
  unfold Value.G2
  rw [dif_pos (by rw [hr]; omega), hl]
  refine (Pipeline.accAt_add_apply (Value.reset2 m c) (Value.step2 m c) (fun _ => (0 : EReal)) (part (inA m c) (inD m c)) _ 15
    (fun h i => reset_apply m c _ h i) (fun n h acc i _ _ => step_apply m c n h acc i) 15 le_rfl _ i).trans ?_
  rw [zero_add, hr]
  simp only [Nat.mul_zero, Nat.zero_add]
  exact sum_tokens fun t => act (inA m c (ix2 t (i 0))) * inD m c (ix2 t (i 1))

end

section
open Cert.Reference2Ideal Cert.Reference2Ideal.Read

/-- The reference's result is the same sum. -/
theorem reference (a : S8192x4096.Idx → EReal) (df : S8192x1024.Idx → EReal) (i : S4096x1024.Idx) :
    val_main_v7 (F := Ideal) a df i = ∑ t : Fin 8192, act (a (ix2 t (i 0))) * df (ix2 t (i 1)) := by
  rw [eq_ix2 i]
  pointwise [val_main_v7, val_main_v6, val_main_v4, val_main_v3, val_main_v1, val_main_v0, val_main_call0_v0, val_main_call0_cst]
  exact Finset.sum_congr rfl fun t _ => mul_comm _ _

end

/-- The reference ends with its arguments unchanged and every counter at zero. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The kernel's result is the reference's. -/
theorem values : Cert.algebraic_Kernel2Ideal_Reference2Ideal := by
  intro m g m' g' _ hagree
  refine ⟨fun c => Cert.Kernel2Ideal.Value.G2 m c, Cert.Kernel2Ideal.Value.run (F := Ideal) m g, ?_⟩
  refine (θ_run Cert.Reference2Ideal.defs _ _).mono (fun r H c => ⟨(H c).1.trans ?_, (H c).2⟩) (Cert.Reference2Ideal.Value.run (F := Ideal) m' g')
  obtain ⟨e0, e1⟩ := hagree c
  rw [e0, e1]
  exact funext fun i => (reference _ _ i).trans (result m c i).symm

end Cert.Second
-- ==== Proof.lean ====
/- The claims of this certificate (proofs.«01_k».proof.Defs). Of the attention's backward kernel and of its reference: every
   run ends, with the arguments unchanged and every semaphore counter at zero, the kernel's named constant is the one the
   ledger says, and for finite arguments the two programs' results are equal over the extended reals. Of the further calls
   the same, for all arguments and without a named constant. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Finite
public import proofs.«01_k».proof.Proof.WordRun
public import proofs.«01_k».proof.Proof.Fourth
public import proofs.«01_k».proof.Proof.Third
public import proofs.«01_k».proof.Proof.DownBack
public import proofs.«01_k».proof.Proof.InBack
public import proofs.«01_k».proof.Proof.UpBack
public import proofs.«01_k».proof.Proof.Down
public import proofs.«01_k».proof.Proof.Up
public import proofs.«01_k».proof.Proof.In
public import proofs.«01_k».proof.Proof.First
public import proofs.«01_k».proof.Proof.Second
public import Idealize.ShloMosaic.Lib.Quiescent

@[expose] public section

noncomputable section

namespace Cert.Proof

open Idealize.ShloMosaic Idealize.SL.Sem

/-- The reference ends with its arguments unchanged and every counter at zero. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The one named constant of the kernel denotes the score scale over the logarithm of two. -/
theorem preserves : Cert.preserves_Kernel_KernelIdeal :=
  IdealRules.named_const.statement _ _ _ _ _ rfl

section
open Cert.KernelIdeal Cert.KernelIdeal.Gen Cert.KernelIdeal.Body Cert.Finite
variable [Cert.Pre_finite.Facts]

/-- The kernel's run, its three results read: the gradients of the queries, the keys and the values. -/
theorem kernel_run (m : (ℓ : Loc nD τ sig) → Buf (Elt Ideal) ℓ) (g : Dev nD → PrngReg) (h : Cert.Pre_KernelIdeal_finite m) :
    θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v36_0) = dqArr (entry (inQ m c)) (entry (inK m c)) (entry (inV m c)) (entryO (inO m c))
      ∧ r.2.mem ((c.tc : Thread nD τ).loc main_v36_1) = dkArr (entry (inQ m c)) (entry (inK m c)) (entry (inV m c)) (entryO (inO m c))
      ∧ r.2.mem ((c.tc : Thread nD τ).loc main_v36_2) = dvArr (entry (inQ m c)) (entry (inK m c)) (entryO (inO m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun r H c =>
    ⟨((H.1 c).1 6).trans (final_dq (args m c h)), ((H.1 c).1 7).trans (final_dk (args m c h)),
      ((H.1 c).1 8).trans (final_dv (args m c h)),
      ((H.1 c).1 1).trans (((dats m 0 c).arrAt_in 1 rfl _).trans ((A_eq m c 1).trans (V_main_arg0 m c))),
      ((H.1 c).1 4).trans (((dats m 0 c).arrAt_in 4 rfl _).trans ((A_eq m c 4).trans (V_main_arg1 m c))),
      ((H.1 c).1 5).trans (((dats m 0 c).arrAt_in 5 rfl _).trans ((A_eq m c 5).trans (V_main_arg2 m c))),
      ((H.1 c).1 2).trans (((dats m 0 c).arrAt_in 2 rfl _).trans ((A_eq m c 2).trans (V_main_arg3 m c)))⟩)
    (run_main m g)

end

/-- The kernel ends with its arguments unchanged and every counter at zero. -/
theorem frame_ki : Cert.quiescent_KernelIdeal := fun m ρ _ =>
  (θ_run Cert.KernelIdeal.defs _ _).mono (fun r H =>
    ⟨fun c => ⟨((H.1 c).1 1).trans (((Cert.KernelIdeal.Body.dats m 0 c).arrAt_in 1 rfl _).trans ((Cert.KernelIdeal.Body.A_eq m c 1).trans (Cert.KernelIdeal.Gen.V_main_arg0 m c))),
      ((H.1 c).1 4).trans (((Cert.KernelIdeal.Body.dats m 0 c).arrAt_in 4 rfl _).trans ((Cert.KernelIdeal.Body.A_eq m c 4).trans (Cert.KernelIdeal.Gen.V_main_arg1 m c))),
      ((H.1 c).1 5).trans (((Cert.KernelIdeal.Body.dats m 0 c).arrAt_in 5 rfl _).trans ((Cert.KernelIdeal.Body.A_eq m c 5).trans (Cert.KernelIdeal.Gen.V_main_arg2 m c))),
      ((H.1 c).1 2).trans (((Cert.KernelIdeal.Body.dats m 0 c).arrAt_in 2 rfl _).trans ((Cert.KernelIdeal.Body.A_eq m c 2).trans (Cert.KernelIdeal.Gen.V_main_arg3 m c)))⟩, H.2⟩)
    (Cert.KernelIdeal.Body.run_main m ρ)

/-- The printed kernel ends with its arguments unchanged and every counter at zero. -/
theorem frame_k : Cert.quiescent_Kernel := fun m ρ _ =>
  (θ_run Cert.Kernel.defs _ _).mono (fun r H =>
    ⟨fun c => ⟨((H.1 c).1 1).trans (((Cert.Kernel.Body.dats m 0 c).arrAt_in 1 rfl _).trans ((Cert.Kernel.Body.A_eq m c 1).trans (Cert.Kernel.Gen.V_main_arg0 m c))),
      ((H.1 c).1 4).trans (((Cert.Kernel.Body.dats m 0 c).arrAt_in 4 rfl _).trans ((Cert.Kernel.Body.A_eq m c 4).trans (Cert.Kernel.Gen.V_main_arg1 m c))),
      ((H.1 c).1 5).trans (((Cert.Kernel.Body.dats m 0 c).arrAt_in 5 rfl _).trans ((Cert.Kernel.Body.A_eq m c 5).trans (Cert.Kernel.Gen.V_main_arg2 m c))),
      ((H.1 c).1 2).trans (((Cert.Kernel.Body.dats m 0 c).arrAt_in 2 rfl _).trans ((Cert.Kernel.Body.A_eq m c 2).trans (Cert.Kernel.Gen.V_main_arg3 m c)))⟩, H.2⟩)
    (Cert.Kernel.Body.run_main m ρ)

/-- The kernel's results are the reference's, for finite arguments. -/
theorem values [Cert.Pre_finite.Facts] : Cert.algebraic_KernelIdeal_ReferenceIdeal_pre_finite := by
  intro m g m' g' h hagree
  refine ⟨fun c => Cert.KernelIdeal.Body.dqArr (Finite.entry (Finite.inQ m c)) (Finite.entry (Finite.inK m c)) (Finite.entry (Finite.inV m c)) (Finite.entryO (Finite.inO m c)),
    fun c => Cert.KernelIdeal.Body.dkArr (Finite.entry (Finite.inQ m c)) (Finite.entry (Finite.inK m c)) (Finite.entry (Finite.inV m c)) (Finite.entryO (Finite.inO m c)),
    fun c => Cert.KernelIdeal.Body.dvArr (Finite.entry (Finite.inQ m c)) (Finite.entry (Finite.inK m c)) (Finite.entryO (Finite.inO m c)),
    kernel_run m g h, ?_⟩
  refine (θ_run Cert.ReferenceIdeal.defs _ _).mono (fun r H c => ?_) (Cert.ReferenceIdeal.Value.run (F := Ideal) m' g')
  obtain ⟨e0, e1, e2, e3⟩ := hagree c
  have A := Finite.ops (x0 := Finite.inQ m c) (x1 := Finite.inK m c) (x2 := Finite.inV m c) (x3 := Finite.inO m c) (h c)
  refine ⟨(H c).1.trans ?_, (H c).2.1.trans ?_, (H c).2.2.1.trans ?_, (H c).2.2.2⟩
  · rw [Cert.ReferenceIdeal.Read.val_main_v66_eq m' c, e0, e1, e2, e3]
    exact Finite.results_q A
  · rw [Cert.ReferenceIdeal.Read.val_main_v65_eq m' c, e0, e1, e2, e3]
    exact Finite.results_k A
  · rw [Cert.ReferenceIdeal.Read.val_main_v49_eq m' c, e0, e1, e3]
    exact Finite.results_v A

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Finite.pre_facts,
  frame_k, frame_ki, fun m ρ _ => frame_ki m ρ trivial, frame_ri, fun m ρ _ => frame_ri m ρ trivial,
  fun m ρ _ => Cert.Kernel2.Gen.frame m ρ, fun m ρ _ => Cert.Kernel2Ideal.Gen.frame m ρ, Second.frame_reference,
  fun m ρ _ => Cert.Kernel3.Gen.frame m ρ, fun m ρ _ => Cert.Kernel3Ideal.Gen.frame m ρ, First.frame_reference,
  fun m ρ _ => Cert.Kernel4.Gen.frame m ρ, fun m ρ _ => Cert.Kernel4Ideal.Gen.frame m ρ, In.frame_reference,
  fun m ρ _ => Cert.Kernel5.Gen.frame m ρ, fun m ρ _ => Cert.Kernel5Ideal.Gen.frame m ρ, Up.frame_reference,
  fun m ρ _ => Cert.Kernel6.Gen.frame m ρ, fun m ρ _ => Cert.Kernel6Ideal.Gen.frame m ρ, Down.frame_reference,
  fun m ρ _ => Cert.Kernel7.Gen.frame m ρ, fun m ρ _ => Cert.Kernel7Ideal.Gen.frame m ρ, UpBack.frame_reference,
  fun m ρ _ => Cert.Kernel8.Gen.frame m ρ, fun m ρ _ => Cert.Kernel8Ideal.Gen.frame m ρ, InBack.frame_reference,
  fun m ρ _ => Cert.Kernel9.Gen.frame m ρ, fun m ρ _ => Cert.Kernel9Ideal.Gen.frame m ρ, DownBack.frame_reference,
  fun m ρ _ => Cert.Kernel10.Gen.frame m ρ, fun m ρ _ => Cert.Kernel10Ideal.Gen.frame m ρ, Third.frame_reference,
  fun m ρ _ => Cert.Kernel11.Gen.frame m ρ, fun m ρ _ => Cert.Kernel11Ideal.Gen.frame m ρ, Fourth.frame_reference,
  preserves, @values Finite.pre_facts,
  trivial, Second.values,
  trivial, First.values,
  trivial, In.values,
  trivial, Up.values,
  trivial, Down.values,
  trivial, UpBack.values,
  trivial, InBack.values,
  trivial, DownBack.values,
  trivial, Third.values,
  trivial, Fourth.values⟩

end Cert.Proof

end
